-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x2048 : Shape := ⟨2, ![8192, 2048]⟩
abbrev S8192x16 : Shape := ⟨2, ![8192, 16]⟩
abbrev S_ : Shape := ⟨0, ![]⟩
abbrev S8192x2048x16 : Shape := ⟨3, ![8192, 2048, 16]⟩

class Facts : Prop where
  bcast_S_S8192x2048 : S_.BroadcastsInDim S8192x2048 (![] : Fin 0 → Fin S8192x2048.rank)
  bcast_S8192x2048_S8192x2048x16_0_1 : S8192x2048.BroadcastsInDim S8192x2048x16 (![0, 1] : Fin 2 → Fin S8192x2048x16.rank)
  bcast_S_S8192x16 : S_.BroadcastsInDim S8192x16 (![] : Fin 0 → Fin S8192x16.rank)
  bcast_S8192x16_S8192x2048x16_0_2 : S8192x16.BroadcastsInDim S8192x2048x16 (![0, 2] : Fin 2 → Fin S8192x2048x16.rank)

variable [Facts]

def fn_part1 {F : FTy → Type} [FloatOps F] (main_v15 : IVec S8192x2048x16 1) (main_v18 : IVec S8192x16 1) : IVec S8192x2048x16 1 :=
  let main_v19 : IVec S8192x2048x16 1 := broadcastInDim S8192x2048x16 ![0, 2] bcast_S8192x16_S8192x2048x16_0_2 main_v18
  let main_v20 : IVec S8192x2048x16 1 := andi main_v15 main_v19
  main_v20

def fn {F : FTy → Type} [FloatOps F] (main_arg0 : FVec F S8192x2048 .f32) (main_arg1 : FVec F S8192x2048 .f32) (main_arg2 : FVec F S8192x2048 .f32) (main_arg3 : FVec F S8192x16 .f32) (main_arg4 : FVec F S8192x2048 .f32) : IVec S8192x2048x16 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : IVec S8192x2048 1 := andi main_v2 main_v5
  let main_v7 : FVec F S8192x2048 .f32 := Host.absf main_arg2
  let main_cst_1 : FVec F S_ .f32 := constant S_ .f32 0x7F800000#32
  let main_v8 : FVec F S8192x2048 .f32 := broadcastInDim S8192x2048 ![] bcast_S_S8192x2048 main_cst_1
  let main_v9 : IVec S8192x2048 1 := cmpf .olt main_v7 main_v8
  let main_v10 : IVec S8192x2048 1 := andi main_v6 main_v9
  let main_v11 : FVec F S8192x2048 .f32 := Host.absf main_arg4
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  let main_v14 : IVec S8192x2048 1 := andi main_v10 main_v13
  let main_v15 : IVec S8192x2048x16 1 := broadcastInDim S8192x2048x16 ![0, 1] bcast_S8192x2048_S8192x2048x16_0_1 main_v14
  let main_v16 : FVec F S8192x16 .f32 := Host.absf main_arg3
  let main_cst_3 : FVec F S_ .f32 := constant S_ .f32 0x7F800000#32
  let main_v17 : FVec F S8192x16 .f32 := broadcastInDim S8192x16 ![] bcast_S_S8192x16 main_cst_3
  let main_v18 : IVec S8192x16 1 := cmpf .olt main_v16 main_v17
  fn_part1 (F := F) main_v15 main_v18
-- ==== Kernel.lean ====
abbrev S8192x2048 : Shape := ⟨2, ![8192, 2048]⟩
abbrev S8192x16 : Shape := ⟨2, ![8192, 16]⟩
abbrev S36 : Shape := ⟨1, ![36]⟩
abbrev S_ : Shape := ⟨0, ![]⟩
abbrev S8x16 : Shape := ⟨2, ![8, 16]⟩
abbrev S16x8 : Shape := ⟨2, ![16, 8]⟩
abbrev S16x8x1x1 : Shape := ⟨4, ![16, 8, 1, 1]⟩
abbrev S16x8192 : Shape := ⟨2, ![16, 8192]⟩
abbrev S16x1x8192 : Shape := ⟨3, ![16, 1, 8192]⟩
abbrev S16x8x1 : Shape := ⟨3, ![16, 8, 1]⟩
abbrev S16x8x1024 : Shape := ⟨3, ![16, 8, 1024]⟩
abbrev S16x8192x1 : Shape := ⟨3, ![16, 8192, 1]⟩
abbrev S8192x16x128 : Shape := ⟨3, ![8192, 16, 128]⟩
abbrev S16x8192x128 : Shape := ⟨3, ![16, 8192, 128]⟩
abbrev S16x8192x8192 : Shape := ⟨3, ![16, 8192, 8192]⟩
abbrev S8192x16x1 : Shape := ⟨3, ![8192, 16, 1]⟩
abbrev S1024x128 : Shape := ⟨2, ![1024, 128]⟩
abbrev S1 : Shape := ⟨1, ![1]⟩
abbrev S1x1x1x1 : Shape := ⟨4, ![1, 1, 1, 1]⟩
abbrev S1x1x1024 : Shape := ⟨3, ![1, 1, 1024]⟩
abbrev S8192x128 : Shape := ⟨2, ![8192, 128]⟩
abbrev S1x1024 : Shape := ⟨2, ![1, 1024]⟩
abbrev S1x1 : Shape := ⟨2, ![1, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 68
  | .vmem => 29
  | .smem => 2
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8x16, .f32⟩
  | .hbm, ⟨9, _⟩ => ⟨S16x8, .f32⟩
  | .hbm, ⟨10, _⟩ => ⟨S16x8x1x1, .f32⟩
  | .hbm, ⟨11, _⟩ => ⟨S16x8192, .f32⟩
  | .hbm, ⟨12, _⟩ => ⟨S16x1x8192, .f32⟩
  | .hbm, ⟨13, _⟩ => ⟨S16x8x1, .f32⟩
  | .hbm, ⟨14, _⟩ => ⟨S16x8x1024, .f32⟩
  | .hbm, ⟨15, _⟩ => ⟨S16x8192x1, .f32⟩
  | .hbm, ⟨16, _⟩ => ⟨S8192x16x128, .f32⟩
  | .hbm, ⟨17, _⟩ => ⟨S16x8192x128, .f32⟩
  | .hbm, ⟨18, _⟩ => ⟨S8192x16x128, .f32⟩
  | .hbm, ⟨19, _⟩ => ⟨S16x8192x128, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .i32⟩
  | .hbm, ⟨26, _⟩ => ⟨S16x8192x8192, .i32⟩
  | .hbm, ⟨27, _⟩ => ⟨S16x8192x8192, .i1⟩
  | .hbm, ⟨28, _⟩ => ⟨S_, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S16x8192x1, .f32⟩
  | .hbm, ⟨40, _⟩ => ⟨S16x8192x1, .f32⟩
  | .hbm, ⟨41, _⟩ => ⟨S16x8192x1, .f32⟩
  | .hbm, ⟨42, _⟩ => ⟨S8192x16x1, .f32⟩
  | .hbm, ⟨43, _⟩ => ⟨S8192x16x128, .f32⟩
  | .hbm, ⟨44, _⟩ => ⟨S8192x2048, .f32⟩
  | .hbm, ⟨45, _⟩ => ⟨S16x8192x8192, .f32⟩
  | .hbm, ⟨46, _⟩ => ⟨S16x8192x8192, .f32⟩
  | .hbm, ⟨47, _⟩ => ⟨S8192x16x128, .f32⟩
  | .hbm, ⟨48, _⟩ => ⟨S16x8192x128, .f32⟩
  | .hbm, ⟨49, _⟩ => ⟨S16x8192x128, .f32⟩
  | .hbm, ⟨50, _⟩ => ⟨S8192x16x128, .f32⟩
  | .hbm, ⟨51, _⟩ => ⟨S16x8192x128, .f32⟩
  | .hbm, ⟨52, _⟩ => ⟨S16x8192x128, .f32⟩
  | .hbm, ⟨53, _⟩ => ⟨S_, .f32⟩
  | .hbm, ⟨54, _⟩ => ⟨S16x8192, .f32⟩
  | .hbm, ⟨55, _⟩ => ⟨S16x8192x1, .f32⟩
  | .hbm, ⟨56, _⟩ => ⟨S8192x16x1, .f32⟩
  | .hbm, ⟨57, _⟩ => ⟨S8192x16x128, .f32⟩
  | .hbm, ⟨58, _⟩ => ⟨S8192x2048, .f32⟩
  | .hbm, ⟨59, _⟩ => ⟨S8192x2048, .bf16⟩
  | .hbm, ⟨60, _⟩ => ⟨S8192x2048, .bf16⟩
  | .hbm, ⟨61, _⟩ => ⟨S8192x2048, .bf16⟩
  | .hbm, ⟨62, _⟩ => ⟨S8192x2048, .bf16⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .bf16⟩
  | .hbm, ⟨67, _⟩ => ⟨S16x1x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1x1, .f32⟩
  | .local _ .vmem, ⟨7, _⟩ => ⟨S1x1x1x1, .f32⟩
  | .local _ .vmem, ⟨8, _⟩ => ⟨S1x1x1024, .f32⟩
  | .local _ .vmem, ⟨9, _⟩ => ⟨S1x1x1024, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S1024x128, .f32⟩
  | .local _ .vmem, ⟨21, _⟩ => ⟨S1024x128, .f32⟩
  | .local _ .vmem, ⟨22, _⟩ => ⟨S1024x128, .bf16⟩
  | .local _ .vmem, ⟨23, _⟩ => ⟨S1024x128, .bf16⟩
  | .local _ .vmem, ⟨24, _⟩ => ⟨S1x1x1024, .f32⟩
  | .local _ .vmem, ⟨25, _⟩ => ⟨S1x1x1024, .f32⟩
  | .local _ .vmem, ⟨26, _⟩ => ⟨S1024x128, .f32⟩
  | .local _ .vmem, ⟨27, _⟩ => ⟨S1024x128, .f32⟩
  | .local _ .vmem, ⟨28, _⟩ => ⟨S1x1024, .f32⟩
  | .local _ .smem, ⟨0, _⟩ => ⟨S36, .i32⟩
  | .local _ .smem, ⟨1, _⟩ => ⟨S36, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53_0 : Ref sig .tc := ⟨.hbm, 63, rfl⟩
abbrev main_v53_1 : Ref sig .tc := ⟨.hbm, 64, rfl⟩
abbrev main_v53_2 : Ref sig .tc := ⟨.hbm, 65, rfl⟩
abbrev main_v53_3 : Ref sig .tc := ⟨.hbm, 66, rfl⟩
abbrev main_v53_4 : Ref sig .tc := ⟨.hbm, 67, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v74 : BitVec 32 := Scalar.muli v1 c1024_i32
  v74
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c1024_i32 : BitVec 32 := 1024#32
  let v74 : BitVec 32 := Scalar.muli v1 c1024_i32
  let v75 : BitVec 32 := v74
  let v76 : Index := Scalar.indexCast v75
  let c0_43 : Index := 0#32
  ![v76.toNat, 0]
def k0_mult2 (v1 : BitVec 32) : BitVec 32 :=
  let c1024_i32 : BitVec 32 := 1024#32
  let v79 : BitVec 32 := Scalar.muli v1 c1024_i32
  v79
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off3 (v1 : BitVec 32) : Fin 2 → Nat :=
  let c1024_i32 : BitVec 32 := 1024#32
  let v79 : BitVec 32 := Scalar.muli v1 c1024_i32
  let v80 : BitVec 32 := v79
  let v81 : Index := Scalar.indexCast v80
  let c0_44 : Index := 0#32
  ![v81.toNat, 0]

def k0_chk1 (v1 : BitVec 32) (v3 : BitVec 32) : Prop :=
  (∀ (k0_h3 : k0_cond3 v1 v3 = 1#1), 1024 ∣ (k0_mult1 v1).toNat) ∧
  (∀ (k0_h3 : k0_cond3 v1 v3 = 1#1), ∀ a, (k0_off2 v1) a + S1024x128.size a ≤ S8192x128.size a) ∧
  (∀ (k0_h4 : k0_cond4 v1 v3 = 1#1), 1024 ∣ (k0_mult2 v1).toNat) ∧
  (∀ (k0_h4 : k0_cond4 v1 v3 = 1#1), ∀ a, (k0_off3 v1) a + S1024x128.size a ≤ S8192x128.size a)
theorem k0_mult1_dvd : ∀ (v1 : BitVec 32) (v3 : BitVec 32) (k0_hw1 : k0_chk1 v1 v3), ∀ (k0_h3 : k0_cond3 v1 v3 = 1#1), 1024 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1024x128.size a ≤ S8192x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 1024 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1024x128.size a ≤ S8192x128.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_12 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8192x2048 : Shape := ⟨2, ![8192, 2048]⟩
abbrev S8192x16 : Shape := ⟨2, ![8192, 16]⟩
abbrev S16x8192 : Shape := ⟨2, ![16, 8192]⟩
abbrev S1x16x8192 : Shape := ⟨3, ![1, 16, 8192]⟩
abbrev S_ : Shape := ⟨0, ![]⟩
abbrev S1x8192x16x128 : Shape := ⟨4, ![1, 8192, 16, 128]⟩
abbrev S1x16x8192x128 : Shape := ⟨4, ![1, 16, 8192, 128]⟩
abbrev S1x16x8192x8192 : Shape := ⟨4, ![1, 16, 8192, 8192]⟩
abbrev S1x16x8192x1 : Shape := ⟨4, ![1, 16, 8192, 1]⟩
abbrev S1x16x1x8192 : Shape := ⟨4, ![1, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x16x128x8192 : Shape := ⟨4, ![1, 16, 128, 8192]⟩
abbrev S8192x16x1 : Shape := ⟨3, ![8192, 16, 1]⟩
abbrev S8192x16x128 : Shape := ⟨3, ![8192, 16, 128]⟩
abbrev S16x1x8192 : Shape := ⟨3, ![16, 1, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x2048, .f32⟩
  | .hbm, ⟨5, _⟩ => ⟨S16x8192, .f32⟩
  | .hbm, ⟨6, _⟩ => ⟨S1x16x8192, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S1x8192x16x128, .f32⟩
  | .hbm, ⟨11, _⟩ => ⟨S1x16x8192x128, .f32⟩
  | .hbm, ⟨12, _⟩ => ⟨S1x8192x16x128, .f32⟩
  | .hbm, ⟨13, _⟩ => ⟨S1x16x8192x128, .f32⟩
  | .hbm, ⟨14, _⟩ => ⟨S1x8192x16x128, .f32⟩
  | .hbm, ⟨15, _⟩ => ⟨S1x16x8192x128, .f32⟩
  | .hbm, ⟨16, _⟩ => ⟨S1x16x8192x8192, .f32⟩
  | .hbm, ⟨17, _⟩ => ⟨S1x16x8192x1, .f32⟩
  | .hbm, ⟨18, _⟩ => ⟨S1x16x8192x8192, .f32⟩
  | .hbm, ⟨19, _⟩ => ⟨S1x16x8192x8192, .f32⟩
  | .hbm, ⟨20, _⟩ => ⟨S1x16x1x8192, .f32⟩
  | .hbm, ⟨21, _⟩ => ⟨S1x16x8192x8192, .f32⟩
  | .hbm, ⟨22, _⟩ => ⟨S1x16x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S1x16x8192x8192, .i1⟩
  | .hbm, ⟨32, _⟩ => ⟨S1x16x8192x8192, .f32⟩
  | .hbm, ⟨33, _⟩ => ⟨S1x16x8192x8192, .f32⟩
  | .hbm, ⟨34, _⟩ => ⟨S_, .f32⟩
  | .hbm, ⟨35, _⟩ => ⟨S1x16x8192x8192, .f32⟩
  | .hbm, ⟨36, _⟩ => ⟨S_, .f32⟩
  | .hbm, ⟨37, _⟩ => ⟨S1x16x8192, .f32⟩
  | .hbm, ⟨38, _⟩ => ⟨S1x16x8192x1, .f32⟩
  | .hbm, ⟨39, _⟩ => ⟨S1x16x8192x8192, .f32⟩
  | .hbm, ⟨40, _⟩ => ⟨S1x16x8192x8192, .i1⟩
  | .hbm, ⟨41, _⟩ => ⟨S1x16x8192x8192, .f32⟩
  | .hbm, ⟨42, _⟩ => ⟨S_, .f32⟩
  | .hbm, ⟨43, _⟩ => ⟨S1x16x8192, .f32⟩
  | .hbm, ⟨44, _⟩ => ⟨S_, .f32⟩
  | .hbm, ⟨45, _⟩ => ⟨S1x16x8192, .f32⟩
  | .hbm, ⟨46, _⟩ => ⟨S1x16x8192, .f32⟩
  | .hbm, ⟨47, _⟩ => ⟨S_, .f32⟩
  | .hbm, ⟨48, _⟩ => ⟨S1x16x8192, .f32⟩
  | .hbm, ⟨49, _⟩ => ⟨S1x16x8192, .i1⟩
  | .hbm, ⟨50, _⟩ => ⟨S_, .f32⟩
  | .hbm, ⟨51, _⟩ => ⟨S1x16x8192, .f32⟩
  | .hbm, ⟨52, _⟩ => ⟨S1x16x8192, .i1⟩
  | .hbm, ⟨53, _⟩ => ⟨S_, .f32⟩
  | .hbm, ⟨54, _⟩ => ⟨S1x16x8192, .f32⟩
  | .hbm, ⟨55, _⟩ => ⟨S_, .f32⟩
  | .hbm, ⟨56, _⟩ => ⟨S1x16x8192, .f32⟩
  | .hbm, ⟨57, _⟩ => ⟨S_, .f32⟩
  | .hbm, ⟨58, _⟩ => ⟨S1x16x8192, .f32⟩
  | .hbm, ⟨59, _⟩ => ⟨S1x16x8192, .f32⟩
  | .hbm, ⟨60, _⟩ => ⟨S1x16x8192, .f32⟩
  | .hbm, ⟨61, _⟩ => ⟨S1x16x8192x1, .f32⟩
  | .hbm, ⟨62, _⟩ => ⟨S1x16x8192x8192, .f32⟩
  | .hbm, ⟨63, _⟩ => ⟨S1x16x8192x8192, .f32⟩
  | .hbm, ⟨64, _⟩ => ⟨S1x16x8192x8192, .f32⟩
  | .hbm, ⟨65, _⟩ => ⟨S_, .f32⟩
  | .hbm, ⟨66, _⟩ => ⟨S1x16x8192, .f32⟩
  | .hbm, ⟨67, _⟩ => ⟨S1x16x8192x1, .f32⟩
  | .hbm, ⟨68, _⟩ => ⟨S1x16x8192x8192, .f32⟩
  | .hbm, ⟨69, _⟩ => ⟨S1x16x8192x8192, .f32⟩
  | .hbm, ⟨70, _⟩ => ⟨S1x16x8192x1, .f32⟩
  | .hbm, ⟨71, _⟩ => ⟨S_, .f32⟩
  | .hbm, ⟨72, _⟩ => ⟨S1x16x8192x1, .f32⟩
  | .hbm, ⟨73, _⟩ => ⟨S1x16x8192x1, .f32⟩
  | .hbm, ⟨74, _⟩ => ⟨S1x16x8192x128, .f32⟩
  | .hbm, ⟨75, _⟩ => ⟨S1x8192x16x128, .f32⟩
  | .hbm, ⟨76, _⟩ => ⟨S8192x2048, .f32⟩
  | .hbm, ⟨77, _⟩ => ⟨S1x8192x16x128, .f32⟩
  | .hbm, ⟨78, _⟩ => ⟨S1x16x8192x128, .f32⟩
  | .hbm, ⟨79, _⟩ => ⟨S1x16x128x8192, .f32⟩
  | .hbm, ⟨80, _⟩ => ⟨S1x16x8192x128, .f32⟩
  | .hbm, ⟨81, _⟩ => ⟨S1x16x8192x8192, .f32⟩
  | .hbm, ⟨82, _⟩ => ⟨S1x16x8192x8192, .f32⟩
  | .hbm, ⟨83, _⟩ => ⟨S1x16x8192x8192, .f32⟩
  | .hbm, ⟨84, _⟩ => ⟨S1x16x8192x8192, .f32⟩
  | .hbm, ⟨85, _⟩ => ⟨S_, .f32⟩
  | .hbm, ⟨86, _⟩ => ⟨S1x16x8192, .f32⟩
  | .hbm, ⟨87, _⟩ => ⟨S1x16x8192x1, .f32⟩
  | .hbm, ⟨88, _⟩ => ⟨S1x16x8192x1, .f32⟩
  | .hbm, ⟨89, _⟩ => ⟨S1x16x8192x8192, .f32⟩
  | .hbm, ⟨90, _⟩ => ⟨S1x16x8192x8192, .f32⟩
  | .hbm, ⟨91, _⟩ => ⟨S_, .f32⟩
  | .hbm, ⟨92, _⟩ => ⟨S16x8192, .f32⟩
  | .hbm, ⟨93, _⟩ => ⟨S1x16x8192, .f32⟩
  | .hbm, ⟨94, _⟩ => ⟨S1x16x8192x8192, .f32⟩
  | .hbm, ⟨95, _⟩ => ⟨S1x16x8192x8192, .f32⟩
  | .hbm, ⟨96, _⟩ => ⟨S1x16x8192x8192, .f32⟩
  | .hbm, ⟨97, _⟩ => ⟨S_, .f32⟩
  | .hbm, ⟨98, _⟩ => ⟨S1x16x8192x8192, .f32⟩
  | .hbm, ⟨99, _⟩ => ⟨S1x16x8192x8192, .f32⟩
  | .hbm, ⟨100, _⟩ => ⟨S1x16x8192x8192, .f32⟩
  | .hbm, ⟨101, _⟩ => ⟨S_, .f32⟩
  | .hbm, ⟨102, _⟩ => ⟨S1x16x8192, .f32⟩
  | .hbm, ⟨103, _⟩ => ⟨S1x16x1x8192, .f32⟩
  | .hbm, ⟨104, _⟩ => ⟨S_, .f32⟩
  | .hbm, ⟨105, _⟩ => ⟨S16x8192, .f32⟩
  | .hbm, ⟨106, _⟩ => ⟨S1x16x8192, .f32⟩
  | .hbm, ⟨107, _⟩ => ⟨S_, .f32⟩
  | .hbm, ⟨108, _⟩ => ⟨S1x16x8192, .f32⟩
  | .hbm, ⟨109, _⟩ => ⟨S1x16x8192x1, .f32⟩
  | .hbm, ⟨110, _⟩ => ⟨S_, .f32⟩
  | .hbm, ⟨111, _⟩ => ⟨S16x8192, .f32⟩
  | .hbm, ⟨112, _⟩ => ⟨S1x16x8192, .f32⟩
  | .hbm, ⟨113, _⟩ => ⟨S1x16x8192x128, .f32⟩
  | .hbm, ⟨114, _⟩ => ⟨S1x16x8192x128, .f32⟩
  | .hbm, ⟨115, _⟩ => ⟨S1x8192x16x128, .f32⟩
  | .hbm, ⟨116, _⟩ => ⟨S8192x2048, .f32⟩
  | .hbm, ⟨117, _⟩ => ⟨S1x8192x16x128, .f32⟩
  | .hbm, ⟨118, _⟩ => ⟨S8192x2048, .f32⟩
  | .hbm, ⟨119, _⟩ => ⟨S1x8192x16x128, .f32⟩
  | .hbm, ⟨120, _⟩ => ⟨S8192x2048, .f32⟩
  | .hbm, ⟨121, _⟩ => ⟨S16x8192, .f32⟩
  | .hbm, ⟨122, _⟩ => ⟨S8192x16, .f32⟩
  | .hbm, ⟨123, _⟩ => ⟨S8192x16x1, .f32⟩
  | .hbm, ⟨124, _⟩ => ⟨S8192x16x128, .f32⟩
  | .hbm, ⟨125, _⟩ => ⟨S8192x2048, .f32⟩
  | .hbm, ⟨126, _⟩ => ⟨S8192x2048, .bf16⟩
  | .hbm, ⟨127, _⟩ => ⟨S16x1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== Kernel2.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2048 : Shape := ⟨2, ![8192, 2048]⟩
abbrev S8192x12288 : Shape := ⟨2, ![8192, 12288]⟩
abbrev S2048x12288 : Shape := ⟨2, ![2048, 12288]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x12288, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8192x2048 : Shape := ⟨2, ![8192, 2048]⟩
abbrev S8192x12288 : Shape := ⟨2, ![8192, 12288]⟩
abbrev S2048x12288 : Shape := ⟨2, ![2048, 12288]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x12288, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S_, .f32⟩
  | .hbm, ⟨3, _⟩ => ⟨S2048x12288, .f32⟩
  | .hbm, ⟨4, _⟩ => ⟨S8192x2048, .f32⟩
  | .hbm, ⟨5, _⟩ => ⟨S8192x12288, .f32⟩
  | .hbm, ⟨6, _⟩ => ⟨S8192x12288, .f32⟩
  | .hbm, ⟨7, _⟩ => ⟨S12288x2048, .f32⟩
  | .hbm, ⟨8, _⟩ => ⟨S2048x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S8192x8192 : Shape := ⟨2, ![8192, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8192x2048 : Shape := ⟨2, ![8192, 2048]⟩
abbrev S8192x8192 : Shape := ⟨2, ![8192, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x2048, .f32⟩
  | .hbm, ⟨3, _⟩ => ⟨S2048x12288, .f32⟩
  | .hbm, ⟨4, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S8192x8192 : Shape := ⟨2, ![8192, 8192]⟩
abbrev S2048x128 : Shape := ⟨2, ![2048, 128]⟩
abbrev S2048 : Shape := ⟨1, ![2048]⟩
abbrev S2048x1 : Shape := ⟨2, ![2048, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S8192x2048, .bf16⟩
  | .hbm, ⟨4, _⟩ => ⟨S8192x2048, .bf16⟩
  | .hbm, ⟨5, _⟩ => ⟨S8192x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x2048 : Shape := ⟨2, ![8192, 2048]⟩
abbrev S8192x8192 : Shape := ⟨2, ![8192, 8192]⟩
abbrev S_ : Shape := ⟨0, ![]⟩
abbrev S8192x16x128 : Shape := ⟨3, ![8192, 16, 128]⟩
abbrev S8192x16 : Shape := ⟨2, ![8192, 16]⟩
abbrev S8192x16x1 : Shape := ⟨3, ![8192, 16, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x16x128, .f32⟩
  | .hbm, ⟨22, _⟩ => ⟨S_, .f32⟩
  | .hbm, ⟨23, _⟩ => ⟨S8192x16, .f32⟩
  | .hbm, ⟨24, _⟩ => ⟨S8192x16x1, .f32⟩
  | .hbm, ⟨25, _⟩ => ⟨S8192x2048, .bf16⟩
  | .hbm, ⟨26, _⟩ => ⟨S8192x2048, .bf16⟩
  | .hbm, ⟨27, _⟩ => ⟨S8192x16x128, .f32⟩
  | .hbm, ⟨28, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel11.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Writes
public import Idealize.ShloMosaic.Lib.Ring
public import Idealize.ShloMosaic.Lib.VecWindow
public import Idealize.ShloMosaic.Lib.Tactic

/-!
# One grid point

A grid point loads a block of queries and a block of keys, and adds the pair's share to the five gradients. This module
states what a point does to the buffers it touches and proves it of the program: `past` is a pair of different blocks,
`diag` a pair on the diagonal, where the later keys of the block are hidden.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1x1x1 .f32) (harg7 : arg7.IsWhole) (arg8 : Memref sig .tc .vmem S1x1x1024 .f32) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S8192x128 .f32) (harg12 : arg12.IsWhole) (arg13 : Memref sig .tc .vmem S8192x128 .f32) (harg13 : arg13.IsWhole) (arg14 : Memref sig .tc .vmem S1024x128 .f32) (harg14 : arg14.IsWhole) (arg15 : Memref sig .tc .vmem S1024x128 .bf16) (harg15 : arg15.IsWhole) (arg16 : Memref sig .tc .vmem S1x1x1024 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1x1024 .f32) (harg19 : arg19.IsWhole)

/-- The blocks a point reads: queries, keys, values, the first gate of the query block, the key gates, the incoming
gradient, the log-sums and the row corrections. -/
structure Ins (F : FTy → Type) [FloatOps F] where
  q : Vec F S1024x128 .bf16
  k : Vec F S1024x128 .bf16
  v : Vec F S1024x128 .bf16
  f0 : Vec F S1x1x1x1 .f32
  fk : Vec F S1x1x1024 .f32
  dO : Vec F S1024x128 .bf16
  lse : Vec F S1024x128 .f32
  dl : Vec F S1024x128 .f32

/-- What a point updates: the two row gradients, the three results written at the end of a key block, and the three
running sums of the key block. -/
structure St (F : FTy → Type) [FloatOps F] where
  dq : Vec F S8192x128 .f32
  dfq : Vec F S8192x128 .f32
  odk : Vec F S1024x128 .f32
  odv : Vec F S1024x128 .bf16
  odf : Vec F S1x1x1024 .f32
  dk : Vec F S1024x128 .f32
  dv : Vec F S1024x128 .f32
  df : Vec F S1x1024 .f32

/-- A point owns its tables, its inputs and its state. -/
abbrev Held (X : Ins F) (T0 T1 : Vec F S36 .i32) (s : St F) : sProp 𝕄 :=
  iprop(owns c arg2 fullShare.right T0 ∗ owns c arg3 fullShare.right T1 ∗ owns c arg4 fullShare X.q ∗ owns c arg5 fullShare X.k
    ∗ owns c arg6 fullShare X.v ∗ owns c arg7 fullShare X.f0 ∗ owns c arg8 fullShare X.fk ∗ owns c arg9 fullShare X.dO
    ∗ owns c arg10 fullShare X.lse ∗ owns c arg11 fullShare X.dl ∗ owns c arg12 fullShare s.dq ∗ owns c arg13 fullShare s.dfq
    ∗ owns c arg14 fullShare s.odk ∗ owns c arg15 fullShare s.odv ∗ owns c arg16 fullShare s.odf
    ∗ owns c arg17 fullShare s.dk ∗ owns c arg18 fullShare s.dv ∗ owns c arg19 fullShare s.df)

/-- Two pieces of a program, one after the other. -/
theorem seq {α β : Type} (p : Prog (TpuEff nD τ sig (Elt F) Λ₀ .tc) α) (k : α → Prog (TpuEff nD τ sig (Elt F) Λ₀ .tc) β) (P Q : sProp 𝕄) (x : α) (K : β → sProp 𝕄)
    (h : P ⊢ wp frame (wpE (defs₀ (F := F)) Variants.none (c : Thread nD τ) none) Set.univ p (fun y => iprop(⌜y = x⌝ ∗ Q)))
    (h' : Q ⊢ wp frame (wpE (defs₀ (F := F)) Variants.none (c : Thread nD τ) none) Set.univ (k x) K) :
    P ⊢ wp frame (wpE (defs₀ (F := F)) Variants.none (c : Thread nD τ) none) Set.univ (p >>= k) K := by
  rw [wp_bind]
  refine h.trans (wp_mono _ _ _ fun y => ?_)
  iintro ⟨%hy, H⟩
  subst hy
  iapply h' $$ H

/-- The entry of a table that a point reads. -/
def wordAt (T : Vec F S36 .i32) : BitVec 32 :=
  T ((Rect.unit (s := S36) (k0_off1 i) S1.size (k0_off1_inb i)).toLoadRect.idx (Shape.Idx.first (s := S1) (by decide)))

theorem stored_S1024x128 {sp : Space} {e : EltTy} (m : Memref sig .tc sp S1024x128 e) (f : m.view.ty.Contents (Elt F))
    (inb : ∀ a, (![0, 0] : Fin S1024x128.rank → ℕ) a + (![1024, 128] : Fin S1024x128.rank → ℕ) a ≤ S1024x128.size a)
    (w : (Rect.unit (s := S1024x128) ![0, 0] ![1024, 128] inb).shape.Idx → Elt F e) (L : List (View.Piece (Elt F) S1024x128 e)) :
    m.view.read (Elt F) (m.view.writes (Elt F) f (⟨Rect.unit (s := S1024x128) ![0, 0] ![1024, 128] inb, w⟩ :: L)) = w :=
  View.read_writes_full m.view f inb w L

theorem loaded_S1024x128 {sp : Space} {e : EltTy} (m : Memref sig .tc sp S1024x128 e) (f : m.view.ty.Contents (Elt F))
    (inb : ∀ a, (![0, 0] : Fin S1024x128.rank → ℕ) a + (![1024, 128] : Fin S1024x128.rank → ℕ) a ≤ S1024x128.size a) :
    m.view.readAt (Elt F) (Rect.unit (s := S1024x128) ![0, 0] ![1024, 128] inb).toLoadRect f = m.view.read (Elt F) f :=
  View.readAt_full m.view f inb

theorem stored_S8192x128 {sp : Space} {e : EltTy} (m : Memref sig .tc sp S8192x128 e) (f : m.view.ty.Contents (Elt F))
    (inb : ∀ a, (![0, 0] : Fin S8192x128.rank → ℕ) a + (![8192, 128] : Fin S8192x128.rank → ℕ) a ≤ S8192x128.size a)
    (w : (Rect.unit (s := S8192x128) ![0, 0] ![8192, 128] inb).shape.Idx → Elt F e) (L : List (View.Piece (Elt F) S8192x128 e)) :
    m.view.read (Elt F) (m.view.writes (Elt F) f (⟨Rect.unit (s := S8192x128) ![0, 0] ![8192, 128] inb, w⟩ :: L)) = w :=
  View.read_writes_full m.view f inb w L

theorem loaded_S8192x128 {sp : Space} {e : EltTy} (m : Memref sig .tc sp S8192x128 e) (f : m.view.ty.Contents (Elt F))
    (inb : ∀ a, (![0, 0] : Fin S8192x128.rank → ℕ) a + (![8192, 128] : Fin S8192x128.rank → ℕ) a ≤ S8192x128.size a) :
    m.view.readAt (Elt F) (Rect.unit (s := S8192x128) ![0, 0] ![8192, 128] inb).toLoadRect f = m.view.read (Elt F) f :=
  View.readAt_full m.view f inb

theorem stored_S1x1024 {sp : Space} {e : EltTy} (m : Memref sig .tc sp S1x1024 e) (f : m.view.ty.Contents (Elt F))
    (inb : ∀ a, (![0, 0] : Fin S1x1024.rank → ℕ) a + (![1, 1024] : Fin S1x1024.rank → ℕ) a ≤ S1x1024.size a)
    (w : (Rect.unit (s := S1x1024) ![0, 0] ![1, 1024] inb).shape.Idx → Elt F e) (L : List (View.Piece (Elt F) S1x1024 e)) :
    m.view.read (Elt F) (m.view.writes (Elt F) f (⟨Rect.unit (s := S1x1024) ![0, 0] ![1, 1024] inb, w⟩ :: L)) = w :=
  View.read_writes_full m.view f inb w L

theorem loaded_S1x1024 {sp : Space} {e : EltTy} (m : Memref sig .tc sp S1x1024 e) (f : m.view.ty.Contents (Elt F))
    (inb : ∀ a, (![0, 0] : Fin S1x1024.rank → ℕ) a + (![1, 1024] : Fin S1x1024.rank → ℕ) a ≤ S1x1024.size a) :
    m.view.readAt (Elt F) (Rect.unit (s := S1x1024) ![0, 0] ![1, 1024] inb).toLoadRect f = m.view.read (Elt F) f :=
  View.readAt_full m.view f inb

theorem stored_S1x1x1024 {sp : Space} {e : EltTy} (m : Memref sig .tc sp S1x1x1024 e) (f : m.view.ty.Contents (Elt F))
    (inb : ∀ a, (![0, 0, 0] : Fin S1x1x1024.rank → ℕ) a + (![1, 1, 1024] : Fin S1x1x1024.rank → ℕ) a ≤ S1x1x1024.size a)
    (w : (Rect.unit (s := S1x1x1024) ![0, 0, 0] ![1, 1, 1024] inb).shape.Idx → Elt F e) (L : List (View.Piece (Elt F) S1x1x1024 e)) :
    m.view.read (Elt F) (m.view.writes (Elt F) f (⟨Rect.unit (s := S1x1x1024) ![0, 0, 0] ![1, 1, 1024] inb, w⟩ :: L)) = w :=
  View.read_writes_full m.view f inb w L

theorem loaded_S1x1x1024 {sp : Space} {e : EltTy} (m : Memref sig .tc sp S1x1x1024 e) (f : m.view.ty.Contents (Elt F))
    (inb : ∀ a, (![0, 0, 0] : Fin S1x1x1024.rank → ℕ) a + (![1, 1, 1024] : Fin S1x1x1024.rank → ℕ) a ≤ S1x1x1024.size a) :
    m.view.readAt (Elt F) (Rect.unit (s := S1x1x1024) ![0, 0, 0] ![1, 1, 1024] inb).toLoadRect f = m.view.read (Elt F) f :=
  View.readAt_full m.view f inb

theorem loaded_S1x1x1x1 {sp : Space} {e : EltTy} (m : Memref sig .tc sp S1x1x1x1 e) (f : m.view.ty.Contents (Elt F))
    (inb : ∀ a, (![0, 0, 0, 0] : Fin S1x1x1x1.rank → ℕ) a + (![1, 1, 1, 1] : Fin S1x1x1x1.rank → ℕ) a ≤ S1x1x1x1.size a) :
    m.view.readAt (Elt F) (Rect.unit (s := S1x1x1x1) ![0, 0, 0, 0] ![1, 1, 1, 1] inb).toLoadRect f = m.view.read (Elt F) f :=
  View.readAt_full m.view f inb

theorem rows_inb (n : Fin 8) : ∀ a, (![1024 * n.val, 0] : Fin 2 → ℕ) a + S1024x128.size a ≤ S8192x128.size a := by
  intro a; have := n.isLt; match a with
  | ⟨0, _⟩ => show 1024 * n.val + 1024 ≤ 8192; omega
  | ⟨1, _⟩ => show 0 + 128 ≤ 128; omega

/-- A block of rows. -/
def getRows (n : Fin 8) (x : Vec F S8192x128 .f32) : Vec F S1024x128 .f32 :=
  VecWindow.window (s := S8192x128) x ![1024 * n.val, 0] S1024x128.size (rows_inb n)

/-- The array with a block of rows replaced. -/
def putRows (n : Fin 8) (x : Vec F S8192x128 .f32) (w : Vec F S1024x128 .f32) : Vec F S8192x128 .f32 :=
  VecWindow.put (s := S8192x128) x ![1024 * n.val, 0] S1024x128.size w

theorem stored_rows {sp : Space} (m : Memref sig .tc sp S8192x128 .f32) (f : m.view.ty.Contents (Elt F)) {off : Fin S8192x128.rank → ℕ} (n : Fin 8)
    (h : off = ![1024 * n.val, 0]) (inb : ∀ a, off a + (![1024, 128] : Fin S8192x128.rank → ℕ) a ≤ S8192x128.size a)
    (w : (Rect.unit (s := S8192x128) off ![1024, 128] inb).shape.Idx → Elt F .f32) (L : List (View.Piece (Elt F) S8192x128 .f32)) :
    m.view.read (Elt F) (m.view.writes (Elt F) f (⟨Rect.unit (s := S8192x128) off ![1024, 128] inb, w⟩ :: L))
      = putRows n (m.view.read (Elt F) (m.view.writes (Elt F) f L)) w :=
  View.read_writes_cons_put m.view f inb w L h

theorem loaded_rows {sp : Space} (m : Memref sig .tc sp S8192x128 .f32) (f : m.view.ty.Contents (Elt F)) {off : Fin S8192x128.rank → ℕ} (n : Fin 8)
    (h : off = ![1024 * n.val, 0]) (inb : ∀ a, off a + (![1024, 128] : Fin S8192x128.rank → ℕ) a ≤ S8192x128.size a) :
    m.view.readAt (Elt F) (Rect.unit (s := S8192x128) off ![1024, 128] inb).toLoadRect f = getRows n (m.view.read (Elt F) f) :=
  View.readAt_unit m.view f inb h (rows_inb n)

/-- The first point of a head clears the row gradients. -/
def zeroHead (s : St F) : St F := if k0_cond1 i = 1#1 then { s with dq := k0_pay1, dfq := k0_pay2 } else s

/-- The first point of a key block clears its running sums. -/
def zeroKeys (v1 v3 : BitVec 32) (s : St F) : St F :=
  if Scalar.cmpi .ne (Scalar.extui (Scalar.cmpi .eq v1 v3) : BitVec 32) 0#32 = 1#1 then { s with dk := k0_pay3, dv := k0_pay4, df := k0_pay5 } else s

/-- A pair of different blocks. -/
def past (X : Ins F) (n : Fin 8) (s : St F) : St F :=
  let ds := k0_pay11 X.q X.k X.f0 X.fk X.lse X.dO X.v X.dl
  { s with
    dv := k0_pay14 s.dv (k0_pay12 X.dO) (k0_pay13 X.q X.k X.f0 X.fk X.lse) (constant S1024x128 .f32 0x00000000#32)
    dk := k0_pay15 ds s.dk X.q
    df := k0_pay16 ds s.df
    dq := putRows n s.dq (k0_pay17 ds (getRows n s.dq) X.k)
    dfq := putRows n s.dfq (k0_pay6 ds (getRows n s.dfq)) }

/-- A pair on the diagonal. -/
def diag (X : Ins F) (n : Fin 8) (s : St F) : St F :=
  let ds := k0_pay19 X.q X.k X.f0 X.fk X.lse X.dO X.v X.dl
  { s with
    dv := k0_pay20 (k0_pay18 X.q X.k X.f0 X.fk X.lse) s.dv X.dO
    dk := k0_pay21 ds s.dk X.q
    df := k0_pay22 ds s.df
    dq := putRows n s.dq (k0_pay23 ds (getRows n s.dq) X.k)
    dfq := putRows n s.dfq (k0_pay7 ds (getRows n s.dfq)) }

def pastIf (X : Ins F) (n : Fin 8) (v1 v3 : BitVec 32) (s : St F) : St F := if k0_cond3 v1 v3 = 1#1 then past X n s else s

def diagIf (X : Ins F) (n : Fin 8) (v1 v3 : BitVec 32) (s : St F) : St F := if k0_cond4 v1 v3 = 1#1 then diag X n s else s

/-- The last point of a key block writes its results. -/
def flush (v1 : BitVec 32) (s : St F) : St F :=
  if k0_cond5 v1 = 1#1 then { s with odk := s.dk, odv := k0_pay8 s.dv, odf := k0_pay9 s.df } else s

/-- A whole point. -/
def step (X : Ins F) (n : Fin 8) (i : grid0.Coords) (v1 v3 : BitVec 32) (s : St F) : St F :=
  flush v1 (diagIf X n v1 v3 (pastIf X n v1 v3 (zeroKeys v1 v3 (zeroHead i s))))

set_option maxHeartbeats 4000000 in
theorem run (X : Ins F) (T0 T1 : Vec F S36 .i32) (s : St F) (n : Fin 8) (hchk : k0_chk1 (wordAt i T0) (wordAt i T1))
    (ho2 : k0_off2 (wordAt i T0) = ![1024 * n.val, 0]) (ho3 : k0_off3 (wordAt i T0) = ![1024 * n.val, 0]) :
    Held c arg2 arg3 arg4 arg5 arg6 arg7 arg8 arg9 arg10 arg11 arg12 arg13 arg14 arg15 arg16 arg17 arg18 arg19 X T0 T1 s
      ⊢ wp frame (wpE (defs₀ (F := F)) Variants.none (c : Thread nD τ) none) Set.univ
        (cc0_fox_att_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Held c arg2 arg3 arg4 arg5 arg6 arg7 arg8 arg9 arg10 arg11 arg12 arg13 arg14 arg15 arg16 arg17 arg18 arg19 X T0 T1
          (step X n i (wordAt i T0) (wordAt i T1) s)) := by
  unfold step
  rw [cc0_fox_att_bwd_eq_skeleton]; unfold cc0_fox_att_bwd_skel
  refine seq c _ _ _ (Held c arg2 arg3 arg4 arg5 arg6 arg7 arg8 arg9 arg10 arg11 arg12 arg13 arg14 arg15 arg16 arg17 arg18 arg19 X T0 T1 s) (wordAt i T0) _ ?_ ?_
  · unfold Held owns
    iintro ⟨⟨%g2, %h2, H2⟩, H⟩
    sl_exec!
    sl_step
    isplitr
    · ipureintro; rw [View.readAt_apply, h2]; rfl
    · isplitl [H2]
      · iexists g2; isplitr
        · ipureintro; exact h2
        · iexact H2
      · iexact H
  refine seq c _ _ _ (Held c arg2 arg3 arg4 arg5 arg6 arg7 arg8 arg9 arg10 arg11 arg12 arg13 arg14 arg15 arg16 arg17 arg18 arg19 X T0 T1 s) (wordAt i T1) _ ?_ ?_
  · unfold Held owns
    iintro ⟨H0, ⟨%g2, %h2, H2⟩, H⟩
    sl_exec!
    sl_step
    isplitr
    · ipureintro; rw [View.readAt_apply, h2]; rfl
    · isplitl [H0]
      · iexact H0
      · isplitl [H2]
        · iexists g2; isplitr
          · ipureintro; exact h2
          · iexact H2
        · iexact H
  refine seq c _ _ _ (Held c arg2 arg3 arg4 arg5 arg6 arg7 arg8 arg9 arg10 arg11 arg12 arg13 arg14 arg15 arg16 arg17 arg18 arg19 X T0 T1 s) ⟨hchk⟩ _ ?_ ?_
  · iintro H
    sl_exec (disch := exact hchk)
    sl_step
    isplitr
    · ipureintro; rfl
    · iexact H
  generalize wordAt i T0 = v1 at *
  generalize wordAt i T1 = v3 at *
  extract_lets hw v7 v8 v9 jp4 jp3 jp2 jp1 jp0
  have h4 : ∀ s, Held c arg2 arg3 arg4 arg5 arg6 arg7 arg8 arg9 arg10 arg11 arg12 arg13 arg14 arg15 arg16 arg17 arg18 arg19 X T0 T1 s
      ⊢ wp frame (wpE (defs₀ (F := F)) Variants.none (c : Thread nD τ) none) Set.univ (jp4 ⟨⟩) (fun _ => Held c arg2 arg3 arg4 arg5 arg6 arg7 arg8 arg9 arg10 arg11 arg12 arg13 arg14 arg15 arg16 arg17 arg18 arg19 X T0 T1 s) := by
    intro s
    rw [show jp4 ⟨⟩ = pure ⟨⟩ from rfl]
    iintro H
    sl_step
    iexact H
  clear_value jp4
  have h3 : ∀ s, Held c arg2 arg3 arg4 arg5 arg6 arg7 arg8 arg9 arg10 arg11 arg12 arg13 arg14 arg15 arg16 arg17 arg18 arg19 X T0 T1 s
      ⊢ wp frame (wpE (defs₀ (F := F)) Variants.none (c : Thread nD τ) none) Set.univ (jp3 ⟨⟩) (fun _ => Held c arg2 arg3 arg4 arg5 arg6 arg7 arg8 arg9 arg10 arg11 arg12 arg13 arg14 arg15 arg16 arg17 arg18 arg19 X T0 T1 (flush v1 s)) := by
    intro s
    change (_ : sProp 𝕄) ⊢ wp frame (wpE (defs₀ (F := F)) Variants.none (c : Thread nD τ) none) Set.univ (if k0_h5 : k0_cond5 v1 = 1#1 then _ else _) _
    by_cases h : k0_cond5 v1 = 1#1
    · refine BIBase.Entails.trans ?_ (wp_mono _ _ _ fun _ => (by rw [flush, if_pos h] : Held c arg2 arg3 arg4 arg5 arg6 arg7 arg8 arg9 arg10 arg11 arg12 arg13 arg14 arg15 arg16 arg17 arg18 arg19 X T0 T1 _ ⊢ _))
      rw [dif_pos h]
      iintro ⟨H2, H3, H4, H5, H6, H7, H8, H9, H10, H11, H12, H13, H14, H15, H16, H17, H18, H19⟩
      unfold owns
      icases H14 with ⟨%g14, %h14, H14⟩
      icases H15 with ⟨%g15, %h15, H15⟩
      icases H16 with ⟨%g16, %h16, H16⟩
      icases H17 with ⟨%g17, %h17, H17⟩
      icases H18 with ⟨%g18, %h18, H18⟩
      icases H19 with ⟨%g19, %h19, H19⟩
      sl_exec
      iapply h4
      ihave H14 := owns_intro (c : Thread nD τ) arg14 fullShare _ $$ H14
      ihave H15 := owns_intro (c : Thread nD τ) arg15 fullShare _ $$ H15
      ihave H16 := owns_intro (c : Thread nD τ) arg16 fullShare _ $$ H16
      ihave H17 := owns_intro (c : Thread nD τ) arg17 fullShare _ $$ H17
      ihave H18 := owns_intro (c : Thread nD τ) arg18 fullShare _ $$ H18
      ihave H19 := owns_intro (c : Thread nD τ) arg19 fullShare _ $$ H19
      simp only [stored_S1024x128, stored_S8192x128, stored_S1x1024, stored_S1x1x1024, loaded_S1024x128, loaded_S8192x128, loaded_S1x1024, loaded_S1x1x1024, loaded_S1x1x1x1, h14, h15, h16, h17, h18, h19]
      unfold Held owns
      iframe
    · rw [dif_neg h, flush, if_neg h]
      exact h4 s
  clear_value jp3
  have h2 : ∀ s, Held c arg2 arg3 arg4 arg5 arg6 arg7 arg8 arg9 arg10 arg11 arg12 arg13 arg14 arg15 arg16 arg17 arg18 arg19 X T0 T1 s
      ⊢ wp frame (wpE (defs₀ (F := F)) Variants.none (c : Thread nD τ) none) Set.univ (jp2 ⟨⟩) (fun _ => Held c arg2 arg3 arg4 arg5 arg6 arg7 arg8 arg9 arg10 arg11 arg12 arg13 arg14 arg15 arg16 arg17 arg18 arg19 X T0 T1 (flush v1 (diagIf X n v1 v3 s))) := by
    intro s
    change (_ : sProp 𝕄) ⊢ wp frame (wpE (defs₀ (F := F)) Variants.none (c : Thread nD τ) none) Set.univ (if k0_h4 : k0_cond4 v1 v3 = 1#1 then _ else _) _
    by_cases h : k0_cond4 v1 v3 = 1#1
    · rw [dif_pos h]
      refine BIBase.Entails.trans ?_ (wp_mono _ _ _ fun _ => (by rw [diagIf, if_pos h] : Held c arg2 arg3 arg4 arg5 arg6 arg7 arg8 arg9 arg10 arg11 arg12 arg13 arg14 arg15 arg16 arg17 arg18 arg19 X T0 T1 _ ⊢ _))
      iintro ⟨H2, H3, H4, H5, H6, H7, H8, H9, H10, H11, H12, H13, H14, H15, H16, H17, H18, H19⟩
      unfold owns
      icases H4 with ⟨%g4, %h4, H4⟩
      icases H5 with ⟨%g5, %h5, H5⟩
      icases H6 with ⟨%g6, %h6, H6⟩
      icases H7 with ⟨%g7, %h7, H7⟩
      icases H8 with ⟨%g8, %h8, H8⟩
      icases H9 with ⟨%g9, %h9, H9⟩
      icases H10 with ⟨%g10, %h10, H10⟩
      icases H11 with ⟨%g11, %h11, H11⟩
      icases H12 with ⟨%g12, %h12, H12⟩
      icases H13 with ⟨%g13, %h13, H13⟩
      icases H17 with ⟨%g17, %h17, H17⟩
      icases H18 with ⟨%g18, %h18, H18⟩
      icases H19 with ⟨%g19, %h19, H19⟩
      simp only [k0_part3_eq_skeleton, k0_part4_eq_skeleton, k0_part3_skel, k0_part4_skel]
      sl_exec
      iapply h3
      ihave H4 := owns_intro (c : Thread nD τ) arg4 fullShare _ $$ H4
      ihave H5 := owns_intro (c : Thread nD τ) arg5 fullShare _ $$ H5
      ihave H6 := owns_intro (c : Thread nD τ) arg6 fullShare _ $$ H6
      ihave H7 := owns_intro (c : Thread nD τ) arg7 fullShare _ $$ H7
      ihave H8 := owns_intro (c : Thread nD τ) arg8 fullShare _ $$ H8
      ihave H9 := owns_intro (c : Thread nD τ) arg9 fullShare _ $$ H9
      ihave H10 := owns_intro (c : Thread nD τ) arg10 fullShare _ $$ H10
      ihave H11 := owns_intro (c : Thread nD τ) arg11 fullShare _ $$ H11
      ihave H12 := owns_intro (c : Thread nD τ) arg12 fullShare _ $$ H12
      ihave H13 := owns_intro (c : Thread nD τ) arg13 fullShare _ $$ H13
      ihave H17 := owns_intro (c : Thread nD τ) arg17 fullShare _ $$ H17
      ihave H18 := owns_intro (c : Thread nD τ) arg18 fullShare _ $$ H18
      ihave H19 := owns_intro (c : Thread nD τ) arg19 fullShare _ $$ H19

      simp only [stored_rows _ _ n ho3, loaded_rows _ _ n ho3, View.writes_nil, stored_S1024x128, stored_S8192x128, stored_S1x1024, stored_S1x1x1024, loaded_S1024x128, loaded_S8192x128, loaded_S1x1024, loaded_S1x1x1024, loaded_S1x1x1x1,
        h4, h5, h6, h7, h8, h9, h10, h11, h12, h13, h17, h18, h19]
      unfold Held diag owns
      iframe
    · rw [dif_neg h, diagIf, if_neg h]
      exact h3 s
  clear_value jp2
  have h1 : ∀ s, Held c arg2 arg3 arg4 arg5 arg6 arg7 arg8 arg9 arg10 arg11 arg12 arg13 arg14 arg15 arg16 arg17 arg18 arg19 X T0 T1 s
      ⊢ wp frame (wpE (defs₀ (F := F)) Variants.none (c : Thread nD τ) none) Set.univ (jp1 ⟨⟩) (fun _ => Held c arg2 arg3 arg4 arg5 arg6 arg7 arg8 arg9 arg10 arg11 arg12 arg13 arg14 arg15 arg16 arg17 arg18 arg19 X T0 T1 (flush v1 (diagIf X n v1 v3 (pastIf X n v1 v3 s)))) := by
    intro s
    change (_ : sProp 𝕄) ⊢ wp frame (wpE (defs₀ (F := F)) Variants.none (c : Thread nD τ) none) Set.univ (if k0_h3 : k0_cond3 v1 v3 = 1#1 then _ else _) _
    by_cases h : k0_cond3 v1 v3 = 1#1
    · rw [dif_pos h]
      refine BIBase.Entails.trans ?_ (wp_mono _ _ _ fun _ => (by rw [pastIf, if_pos h] : Held c arg2 arg3 arg4 arg5 arg6 arg7 arg8 arg9 arg10 arg11 arg12 arg13 arg14 arg15 arg16 arg17 arg18 arg19 X T0 T1 _ ⊢ _))
      iintro ⟨H2, H3, H4, H5, H6, H7, H8, H9, H10, H11, H12, H13, H14, H15, H16, H17, H18, H19⟩
      unfold owns
      icases H4 with ⟨%g4, %h4, H4⟩
      icases H5 with ⟨%g5, %h5, H5⟩
      icases H6 with ⟨%g6, %h6, H6⟩
      icases H7 with ⟨%g7, %h7, H7⟩
      icases H8 with ⟨%g8, %h8, H8⟩
      icases H9 with ⟨%g9, %h9, H9⟩
      icases H10 with ⟨%g10, %h10, H10⟩
      icases H11 with ⟨%g11, %h11, H11⟩
      icases H12 with ⟨%g12, %h12, H12⟩
      icases H13 with ⟨%g13, %h13, H13⟩
      icases H17 with ⟨%g17, %h17, H17⟩
      icases H18 with ⟨%g18, %h18, H18⟩
      icases H19 with ⟨%g19, %h19, H19⟩
      simp only [k0_part1_eq_skeleton, k0_part2_eq_skeleton, k0_part1_skel, k0_part2_skel]
      sl_exec
      iapply h2
      ihave H4 := owns_intro (c : Thread nD τ) arg4 fullShare _ $$ H4
      ihave H5 := owns_intro (c : Thread nD τ) arg5 fullShare _ $$ H5
      ihave H6 := owns_intro (c : Thread nD τ) arg6 fullShare _ $$ H6
      ihave H7 := owns_intro (c : Thread nD τ) arg7 fullShare _ $$ H7
      ihave H8 := owns_intro (c : Thread nD τ) arg8 fullShare _ $$ H8
      ihave H9 := owns_intro (c : Thread nD τ) arg9 fullShare _ $$ H9
      ihave H10 := owns_intro (c : Thread nD τ) arg10 fullShare _ $$ H10
      ihave H11 := owns_intro (c : Thread nD τ) arg11 fullShare _ $$ H11
      ihave H12 := owns_intro (c : Thread nD τ) arg12 fullShare _ $$ H12
      ihave H13 := owns_intro (c : Thread nD τ) arg13 fullShare _ $$ H13
      ihave H17 := owns_intro (c : Thread nD τ) arg17 fullShare _ $$ H17
      ihave H18 := owns_intro (c : Thread nD τ) arg18 fullShare _ $$ H18
      ihave H19 := owns_intro (c : Thread nD τ) arg19 fullShare _ $$ H19

      simp only [stored_rows _ _ n ho2, loaded_rows _ _ n ho2, View.writes_nil, stored_S1024x128, stored_S8192x128, stored_S1x1024, stored_S1x1x1024, loaded_S1024x128, loaded_S8192x128, loaded_S1x1024, loaded_S1x1x1024, loaded_S1x1x1x1,
        h4, h5, h6, h7, h8, h9, h10, h11, h12, h13, h17, h18, h19]
      unfold Held past owns
      iframe
    · rw [dif_neg h, pastIf, if_neg h]
      exact h2 s
  clear_value jp1
  have h0 : ∀ s, Held c arg2 arg3 arg4 arg5 arg6 arg7 arg8 arg9 arg10 arg11 arg12 arg13 arg14 arg15 arg16 arg17 arg18 arg19 X T0 T1 s
      ⊢ wp frame (wpE (defs₀ (F := F)) Variants.none (c : Thread nD τ) none) Set.univ (jp0 ⟨⟩) (fun _ => Held c arg2 arg3 arg4 arg5 arg6 arg7 arg8 arg9 arg10 arg11 arg12 arg13 arg14 arg15 arg16 arg17 arg18 arg19 X T0 T1 (flush v1 (diagIf X n v1 v3 (pastIf X n v1 v3 (zeroKeys v1 v3 s))))) := by
    intro s
    change (_ : sProp 𝕄) ⊢ wp frame (wpE (defs₀ (F := F)) Variants.none (c : Thread nD τ) none) Set.univ (if v9 = 1#1 then _ else _) _
    by_cases h : v9 = 1#1
    · rw [if_pos h]
      refine BIBase.Entails.trans ?_ (wp_mono _ _ _ fun _ => (by rw [zeroKeys, if_pos h] : Held c arg2 arg3 arg4 arg5 arg6 arg7 arg8 arg9 arg10 arg11 arg12 arg13 arg14 arg15 arg16 arg17 arg18 arg19 X T0 T1 _ ⊢ _))
      iintro ⟨H2, H3, H4, H5, H6, H7, H8, H9, H10, H11, H12, H13, H14, H15, H16, H17, H18, H19⟩
      unfold owns
      icases H17 with ⟨%g17, %h17, H17⟩
      icases H18 with ⟨%g18, %h18, H18⟩
      icases H19 with ⟨%g19, %h19, H19⟩
      sl_exec
      iapply h1
      ihave H17 := owns_intro (c : Thread nD τ) arg17 fullShare _ $$ H17
      ihave H18 := owns_intro (c : Thread nD τ) arg18 fullShare _ $$ H18
      ihave H19 := owns_intro (c : Thread nD τ) arg19 fullShare _ $$ H19
      simp only [stored_S1024x128, stored_S8192x128, stored_S1x1024, stored_S1x1x1024, loaded_S1024x128, loaded_S8192x128, loaded_S1x1024, loaded_S1x1x1024, loaded_S1x1x1x1]
      unfold Held owns
      iframe
    · rw [if_neg h, zeroKeys, if_neg h]
      exact h1 s
  clear_value jp0
  by_cases h : k0_cond1 i = 1#1
  · rw [dif_pos h]
    refine BIBase.Entails.trans ?_ (wp_mono _ _ _ fun _ => (by rw [zeroHead, if_pos h] : Held c arg2 arg3 arg4 arg5 arg6 arg7 arg8 arg9 arg10 arg11 arg12 arg13 arg14 arg15 arg16 arg17 arg18 arg19 X T0 T1 _ ⊢ _))
    iintro ⟨H2, H3, H4, H5, H6, H7, H8, H9, H10, H11, H12, H13, H14, H15, H16, H17, H18, H19⟩
    unfold owns
    icases H12 with ⟨%g12, %h12, H12⟩
    icases H13 with ⟨%g13, %h13, H13⟩
    sl_exec
    iapply h0
    ihave H12 := owns_intro (c : Thread nD τ) arg12 fullShare _ $$ H12
    ihave H13 := owns_intro (c : Thread nD τ) arg13 fullShare _ $$ H13
    simp only [stored_S1024x128, stored_S8192x128, stored_S1x1024, stored_S1x1x1024, loaded_S1024x128, loaded_S8192x128, loaded_S1x1024, loaded_S1x1x1024, loaded_S1x1x1x1]
    unfold Held owns
    iframe
  · rw [dif_neg h, zeroHead, if_neg h]
    exact h0 s

end Cert.KernelIdeal.Hand
-- ==== Proof.Tables.lean ====
module

public import proofs.«01_k».proof.Proof.Body
public import Idealize.ShloMosaic.Lib.StableHlo.RunRead

/-!
# The two prefetched tables and the schedule they spell

The backward kernel walks, for each of the sixteen heads, the 36 pairs (query block, key block) with the query block at
or after the key block. The pairs are listed in two constant tables. This module reads the tables off the program, names
the pair of a grid point, and states what the kernel's conditions and offsets are there.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region. -/
abbrev V (c : Dev nD) (b : Ref sig .tc) : Buf (Elt F) ((c : Thread nD τ).loc b) :=
  StableHlo.after hostOps0 (fun b => m (c, b)) b

/-- The host operations touch no scoped buffer they would have to create. -/
theorem host_fresh : (hostOps0 : List (HloOp τ sig (Elt F))).Forall fun op => op.fresh = ∅ := by
  simp only [List.Forall]; repeat' constructor

set_option maxHeartbeats 800000 in
/-- The program is its host operations, then the region. -/
theorem main_shape : Pipeline.HMainP (Ix := Unit) (Name := ℕ) (U := UR sig nD τ) (Lvl := ℕ) pcfgs 0 defs₀ Variants.none m
    (main (F := F)) (V m) :=
  Pipeline.hmainP_prefix pcfgs 0 defs₀ Variants.none m main hostOps0 hostOps0_sub host_fresh main_chain

/-- The argument arrays of the program. -/
def IsArg (b : Ref sig .tc) : Prop := b = main_arg0 ∨ b = main_arg1 ∨ b = main_arg2 ∨ b = main_arg3 ∨ b = main_arg4

/-- No host operation writes an argument: the region finds each as launched. -/
theorem V_arg (c : Dev nD) {b : Ref sig .tc} (hb : IsArg b) : V m c b = m ((c : Thread nD τ).loc b) := by
  rcases hb with rfl | rfl | rfl | rfl | rfl <;>
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The tables -/

/-- The table of query blocks. -/
def qtab : Vec F S36 .i32 := fun i => lit0 (S36.rowMajor i)
/-- The table of key blocks. -/
def ktab : Vec F S36 .i32 := fun i => lit1 (S36.rowMajor i)

theorem V_qtab (c : Dev nD) : V m c main_c = (qtab (F := F)) := by
  unfold V; after_reads_simp; rfl
theorem V_ktab (c : Dev nD) : V m c main_c_0 = (ktab (F := F)) := by
  unfold V; after_reads_simp; rfl

/-- The tables' contents. -/
def tabs : pre0.Contents (Elt F)
  | 0 => qtab | 1 => ktab | ⟨_ + 2, h⟩ => absurd h (Nat.not_lt.2 (Nat.le_add_left _ _))

theorem V_tabs (c : Dev nD) (j : Fin 2) : V m c (pre0.ref j) = (tabs (F := F)) j := by
  match j with
  | 0 => exact V_qtab m c
  | 1 => exact V_ktab m c

/-- The query block of pair `n`. -/
def qi (n : ℕ) : ℕ := [0, 1, 2, 3, 4, 5, 6, 7, 1, 2, 3, 4, 5, 6, 7, 2, 3, 4, 5, 6, 7, 3, 4, 5, 6, 7, 4, 5, 6, 7, 5, 6, 7, 6, 7, 7].getD n 0
/-- The key block of pair `n`. -/
def ki (n : ℕ) : ℕ := [0, 0, 0, 0, 0, 0, 0, 0, 1, 1, 1, 1, 1, 1, 1, 2, 2, 2, 2, 2, 2, 3, 3, 3, 3, 3, 4, 4, 4, 4, 5, 5, 5, 6, 6, 7].getD n 0

theorem load_index_val : ∀ i : grid0.Coords,
    (S36.rowMajor ((Rect.unit (s := S36) (k0_off1 i) S1.size (k0_off1_inb i)).toLoadRect.idx (Shape.Idx.first (s := S1) (by decide)))).val
      = (i 1).val := by decide +kernel
/-- The load at a grid point reads the word of the point's pair. -/
theorem load_index (i : grid0.Coords) :
    S36.rowMajor ((Rect.unit (s := S36) (k0_off1 i) S1.size (k0_off1_inb i)).toLoadRect.idx (Shape.Idx.first (s := S1) (by decide)))
      = i 1 := Fin.ext (load_index_val i)

theorem lit0_eq : ∀ j : Fin 36, lit0 j = BitVec.ofNat 32 (qi j.val) := by decide +kernel
theorem lit1_eq : ∀ j : Fin 36, lit1 j = BitVec.ofNat 32 (ki j.val) := by decide +kernel

theorem word_q (i : grid0.Coords) : wordAt i (qtab (F := F)) = BitVec.ofNat 32 (qi (i 1).val) := by
  unfold wordAt qtab; rw [load_index]; exact lit0_eq _
theorem word_k (i : grid0.Coords) : wordAt i (ktab (F := F)) = BitVec.ofNat 32 (ki (i 1).val) := by
  unfold wordAt ktab; rw [load_index]; exact lit1_eq _

theorem at_q (i : grid0.Coords) (h) (h1) :
    (tabs (F := F)).at 0 (Rect.unit (s := S36) (k0_off1 i) S1.size h) h1 = BitVec.ofNat 32 (qi (i 1).val) := word_q i
theorem at_k (i : grid0.Coords) (h) (h1) :
    (tabs (F := F)).at 1 (Rect.unit (s := S36) (k0_off1 i) S1.size h) h1 = BitVec.ofNat 32 (ki (i 1).val) := word_k i
theorem off_le : ∀ i : grid0.Coords, ∀ a, k0_off1 i a + 1 ≤ S36.size a := by decide +kernel
theorem atD_q (i : grid0.Coords) : (tabs (F := F)).atD 0 (k0_off1 i) = BitVec.ofNat 32 (qi (i 1).val) :=
  (dif_pos (off_le i)).trans (word_q i)
theorem atD_k (i : grid0.Coords) : (tabs (F := F)).atD 1 (k0_off1 i) = BitVec.ofNat 32 (ki (i 1).val) :=
  (dif_pos (off_le i)).trans (word_k i)

/-! ## What the kernel's conditions say -/

theorem qi_lt_fin : ∀ j : Fin 36, qi j.val < 8 := by decide +kernel
theorem qi_lt (n : ℕ) : qi n < 8 := by
  by_cases h : n < 36
  · exact qi_lt_fin ⟨n, h⟩
  · have : qi n = 0 := by unfold qi; rw [List.getD_eq_getElem?_getD, List.getElem?_eq_none (not_lt.mp h)]; rfl
    omega
theorem ki_le : ∀ j : Fin 36, ki j.val ≤ qi j.val := by decide +kernel
theorem chk_ok : ∀ j : Fin 36, k0_chk1 (BitVec.ofNat 32 (qi j.val)) (BitVec.ofNat 32 (ki j.val)) := by decide +kernel
theorem off2_eq : ∀ j : Fin 36, k0_off2 (BitVec.ofNat 32 (qi j.val)) = ![1024 * qi j.val, 0] := by decide +kernel
theorem off3_eq : ∀ j : Fin 36, k0_off3 (BitVec.ofNat 32 (qi j.val)) = ![1024 * qi j.val, 0] := by decide +kernel
/-- A head's first pair. -/
theorem cond1_iff : ∀ i : grid0.Coords, k0_cond1 i = 1#1 ↔ (i 1).val = 0 := by decide +kernel
/-- The query block lies after the key block. -/
theorem cond3_iff : ∀ j : Fin 36, k0_cond3 (BitVec.ofNat 32 (qi j.val)) (BitVec.ofNat 32 (ki j.val)) = 1#1 ↔ qi j.val ≠ ki j.val := by
  decide +kernel
/-- The query block is the key block. -/
theorem cond4_iff : ∀ j : Fin 36, k0_cond4 (BitVec.ofNat 32 (qi j.val)) (BitVec.ofNat 32 (ki j.val)) = 1#1 ↔ qi j.val = ki j.val := by
  decide +kernel
theorem cond2_iff : ∀ j : Fin 36, Scalar.cmpi .ne (Scalar.extui (Scalar.cmpi .eq (BitVec.ofNat 32 (qi j.val)) (BitVec.ofNat 32 (ki j.val)))) 0#32 = 1#1
    ↔ qi j.val = ki j.val := by decide +kernel
/-- The last query block: the key block's gradients are complete. -/
theorem cond5_iff : ∀ j : Fin 36, k0_cond5 (BitVec.ofNat 32 (qi j.val)) = 1#1 ↔ qi j.val = 7 := by decide +kernel

/-! ## The windows' blocks -/

theorem ofNat_toNat {n : ℕ} (h : n < 2 ^ 32) : (BitVec.ofNat 32 n).toNat = n := by
  rw [BitVec.toNat_ofNat, Nat.mod_eq_of_lt h]

theorem head_lt (i : grid0.Coords) : (i 0).val < 16 := (i 0).isLt
theorem head_toNat (i : grid0.Coords) : (BitVec.ofNat 32 (i 0).val).toNat = (i 0).val :=
  ofNat_toNat (by have := head_lt i; omega)
theorem q_toNat (i : grid0.Coords) : (wordAt i (qtab (F := F))).toNat = qi (i 1).val := by
  rw [word_q]; exact ofNat_toNat (by have := qi_lt (i 1).val; omega)
theorem k_toNat (i : grid0.Coords) : (wordAt i (ktab (F := F))).toNat = ki (i 1).val := by
  have h := ki_le (i 1); have := qi_lt (i 1).val
  rw [word_k]; exact ofNat_toNat (by omega)

/-- The rows of the query block, the columns of the head. -/
theorem map_q (h) (h1) (i : grid0.Coords) : cc0_transform_0 h h1 (tabs (F := F)) i = ![qi (i 1).val, (i 0).val] := by
  rw [← q_toNat (F := F) i, ← head_toNat i]; rfl
/-- The rows of the key block, the columns of the head. -/
theorem map_k (h) (h1) (i : grid0.Coords) : cc0_transform_1 h h1 (tabs (F := F)) i = ![ki (i 1).val, (i 0).val] := by
  rw [← k_toNat (F := F) i, ← head_toNat i]; rfl
/-- The head's number for the query block. -/
theorem map_f0 (h) (h1) (i : grid0.Coords) : cc0_transform_3 h h1 (tabs (F := F)) i = ![(i 0).val, qi (i 1).val, 0, 0] := by
  rw [← q_toNat (F := F) i, ← head_toNat i]; rfl
/-- The head's row over the key block. -/
theorem map_fk (h) (h1) (i : grid0.Coords) : cc0_transform_4 h h1 (tabs (F := F)) i = ![(i 0).val, 0, ki (i 1).val] := by
  rw [← k_toNat (F := F) i, ← head_toNat i]; rfl

theorem inb_q (i : grid0.Coords) (a : Fin 2) : ((![qi (i 1).val, (i 0).val] : Fin 2 → ℕ) a + 1) * S1024x128.size a ≤ S8192x2048.size a := by
  have := qi_lt (i 1).val; have := head_lt i
  match a with
  | 0 => show (qi (i 1).val + 1) * 1024 ≤ 8192; omega
  | 1 => show ((i 0).val + 1) * 128 ≤ 2048; omega
theorem inb_k (i : grid0.Coords) (a : Fin 2) : ((![ki (i 1).val, (i 0).val] : Fin 2 → ℕ) a + 1) * S1024x128.size a ≤ S8192x2048.size a := by
  have := qi_lt (i 1).val; have := head_lt i; have := ki_le (i 1)
  match a with
  | 0 => show (ki (i 1).val + 1) * 1024 ≤ 8192; omega
  | 1 => show ((i 0).val + 1) * 128 ≤ 2048; omega
theorem inb_f0 (i : grid0.Coords) (a : Fin 4) : ((![(i 0).val, qi (i 1).val, 0, 0] : Fin 4 → ℕ) a + 1) * S1x1x1x1.size a ≤ S16x8x1x1.size a := by
  have := qi_lt (i 1).val; have := head_lt i
  match a with
  | 0 => show ((i 0).val + 1) * 1 ≤ 16; omega
  | 1 => show (qi (i 1).val + 1) * 1 ≤ 8; omega
  | 2 => show (0 + 1) * 1 ≤ 1; omega
  | 3 => show (0 + 1) * 1 ≤ 1; omega
theorem inb_fk (i : grid0.Coords) (a : Fin 3) : ((![(i 0).val, 0, ki (i 1).val] : Fin 3 → ℕ) a + 1) * S1x1x1024.size a ≤ S16x1x8192.size a := by
  have := qi_lt (i 1).val; have := head_lt i; have := ki_le (i 1)
  match a with
  | 0 => show ((i 0).val + 1) * 1 ≤ 16; omega
  | 1 => show (0 + 1) * 1 ≤ 1; omega
  | 2 => show (ki (i 1).val + 1) * 1024 ≤ 8192; omega

theorem words_bf16 (n h) : (Rect.block (s := S8192x2048) S1024x128.size n h).WholeWords (EltTy.packing .bf16) :=
  Affine.block_words_dvd (s := S8192x2048) (p := EltTy.packing .bf16) (by decide) (by decide)

/-- Every block the tables name lies inside its array. -/
theorem tabs_ok : ok0 (tabs (F := F)) :=
  ⟨fun i => ⟨fun a => by rw [map_q]; exact inb_q i a, .inr (words_bf16 _ _)⟩,
   fun i => ⟨fun a => by rw [map_k]; exact inb_k i a, .inr (words_bf16 _ _)⟩,
   fun i => ⟨inb_k' i, .inr (words_bf16 _ _)⟩,
   fun i => ⟨fun a => by rw [map_f0]; exact inb_f0 i a, .inl rfl⟩,
   fun i => ⟨fun a => by rw [map_fk]; exact inb_fk i a, .inl rfl⟩,
   fun i => ⟨inb_q' i, .inr (words_bf16 _ _)⟩,
   fun i => ⟨inb_q' i, .inl rfl⟩,
   fun i => ⟨inb_q' i, .inl rfl⟩,
   fun i => ⟨inb_k' i, .inl rfl⟩,
   fun i => ⟨inb_k' i, .inr (words_bf16 _ _)⟩,
   fun i => ⟨inb_fk' i, .inl rfl⟩⟩
where
  inb_q' (i : grid0.Coords) : ∀ a, (cc0_transform_0 k0_off1_inb numel1_S1 (tabs (F := F)) i a + 1) * S1024x128.size a ≤ S8192x2048.size a :=
    fun a => by rw [map_q]; exact inb_q i a
  inb_k' (i : grid0.Coords) : ∀ a, (cc0_transform_1 k0_off1_inb numel1_S1 (tabs (F := F)) i a + 1) * S1024x128.size a ≤ S8192x2048.size a :=
    fun a => by rw [map_k]; exact inb_k i a
  inb_fk' (i : grid0.Coords) : ∀ a, (cc0_transform_4 k0_off1_inb numel1_S1 (tabs (F := F)) i a + 1) * S1x1x1024.size a ≤ S16x1x8192.size a :=
    fun a => by rw [map_fk]; exact inb_fk i a

/-- The tables as admissible contents, and the pipeline at them. -/
def adm : (pcfg0 (F := F)).Adm := ⟨tabs, tabs_ok⟩
abbrev cfgM : Pipeline.Cfg sig Λ₀ := cfg0 (adm (F := F))

end Cert.KernelIdeal.Hand

end
-- ==== Proof.Data.lean ====
module

public import proofs.«01_k».proof.Proof.Tables

/-!
# What every buffer holds at every grid point

`traj n` is what the accumulators hold after the first `n` grid points: the kernel's step run over the points' input
blocks. From it come the pipeline's proof data: the contents of every staging buffer after every point, and the
invariant that holds the three scratch accumulators at `traj`.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step, its conditions read off the tables -/

/-- The query block of a grid point. -/
def qblk (i : grid0.Coords) : Fin 8 := ⟨qi (i 1).val, qi_lt _⟩

/-- The kernel's step at a grid point, at the program's tables. -/
def stepAt (X : Ins F) (i : grid0.Coords) (s : St F) : St F := step X (qblk i) i (wordAt i (qtab (F := F))) (wordAt i (ktab (F := F))) s

/-- The accumulators agree (the three output blocks aside). -/
def Same (s s' : St F) : Prop := s.dq = s'.dq ∧ s.dfq = s'.dfq ∧ s.dk = s'.dk ∧ s.dv = s'.dv ∧ s.df = s'.df

/-- The step at a point before the diagonal. -/
theorem stepAt_past (X : Ins F) (i : grid0.Coords) (s : St F) (h : qi (i 1).val ≠ ki (i 1).val) :
    Same (stepAt X i s) (past X (qblk i) s) := by
  have h1 : ¬ k0_cond1 i = 1#1 := fun hc => by rw [(cond1_iff i).mp hc] at h; exact h rfl
  have h2 := (cond2_iff (i 1)).not.mpr h
  have h3 := (cond3_iff (i 1)).mpr h
  have h4 := (cond4_iff (i 1)).not.mpr h
  unfold stepAt step flush diagIf pastIf zeroKeys zeroHead
  rw [word_q, word_k, if_neg h1, if_neg h2, if_pos h3, if_neg h4]
  split <;> exact ⟨rfl, rfl, rfl, rfl, rfl⟩

/-- The key block's accumulators cleared. -/
def clearKeys (s : St F) : St F := { s with dk := k0_pay3, dv := k0_pay4, df := k0_pay5 }
/-- The head's accumulators cleared. -/
def clearHead (s : St F) : St F := { s with dq := k0_pay1, dfq := k0_pay2 }

/-- The step at a head's first point. -/
theorem stepAt_first (X : Ins F) (i : grid0.Coords) (s : St F) (h : (i 1).val = 0) :
    Same (stepAt X i s) (diag X (qblk i) (clearKeys (clearHead s))) := by
  have hq : qi (i 1).val = ki (i 1).val := by rw [h]; rfl
  have h1 := (cond1_iff i).mpr h
  have h2 := (cond2_iff (i 1)).mpr hq
  have h3 := (cond3_iff (i 1)).not.mpr (not_not.mpr hq)
  have h4 := (cond4_iff (i 1)).mpr hq
  unfold stepAt step flush diagIf pastIf zeroKeys zeroHead
  rw [word_q, word_k, if_pos h1, if_pos h2, if_neg h3, if_pos h4]
  split <;> exact ⟨rfl, rfl, rfl, rfl, rfl⟩

/-- The step at a later point of the diagonal. -/
theorem stepAt_diag (X : Ins F) (i : grid0.Coords) (s : St F) (h0 : (i 1).val ≠ 0) (h : qi (i 1).val = ki (i 1).val) :
    Same (stepAt X i s) (diag X (qblk i) (clearKeys s)) := by
  have h1 := (cond1_iff i).not.mpr h0
  have h2 := (cond2_iff (i 1)).mpr h
  have h3 := (cond3_iff (i 1)).not.mpr (not_not.mpr h)
  have h4 := (cond4_iff (i 1)).mpr h
  unfold stepAt step flush diagIf pastIf zeroKeys zeroHead
  rw [word_q, word_k, if_neg h1, if_pos h2, if_neg h3, if_pos h4]
  split <;> exact ⟨rfl, rfl, rfl, rfl, rfl⟩

theorem Same.symm {s s' : St F} (h : Same s s') : Same s' s :=
  ⟨h.1.symm, h.2.1.symm, h.2.2.1.symm, h.2.2.2.1.symm, h.2.2.2.2.symm⟩
theorem Same.trans {s s' s'' : St F} (h : Same s s') (h' : Same s' s'') : Same s s'' :=
  ⟨h.1.trans h'.1, h.2.1.trans h'.2.1, h.2.2.1.trans h'.2.2.1, h.2.2.2.1.trans h'.2.2.2.1, h.2.2.2.2.trans h'.2.2.2.2⟩
theorem Same.past {s s' : St F} (h : Same s s') (X : Ins F) (n : Fin 8) : Same (past X n s) (past X n s') := by
  obtain ⟨h1, h2, h3, h4, h5⟩ := h
  unfold Same Hand.past; dsimp only; rw [h1, h2, h3, h4, h5]; exact ⟨rfl, rfl, rfl, rfl, rfl⟩
theorem Same.diag {s s' : St F} (h : Same s s') (X : Ins F) (n : Fin 8) : Same (diag X n s) (diag X n s') := by
  obtain ⟨h1, h2, h3, h4, h5⟩ := h
  unfold Same Hand.diag; dsimp only; rw [h1, h2, h3, h4, h5]; exact ⟨rfl, rfl, rfl, rfl, rfl⟩

/-- The step depends on the accumulators alone, and at a head's first point on nothing it finds. -/
theorem stepAt_same (X : Ins F) (i : grid0.Coords) {s s' : St F} (h : (i 1).val ≠ 0 → Same s s') : Same (stepAt X i s) (stepAt X i s') := by
  by_cases h0 : (i 1).val = 0
  · refine (stepAt_first X i s h0).trans (Same.trans (Same.diag ?_ _ _) (stepAt_first X i s' h0).symm)
    exact ⟨rfl, rfl, rfl, rfl, rfl⟩
  · have h := h h0
    by_cases hd : qi (i 1).val = ki (i 1).val
    · refine (stepAt_diag X i s h0 hd).trans (Same.trans (Same.diag ?_ _ _) (stepAt_diag X i s' h0 hd).symm)
      exact ⟨h.1, h.2.1, rfl, rfl, rfl⟩
    · exact (stepAt_past X i s hd).trans ((h.past _ _).trans (stepAt_past X i s' hd).symm)

/-- At a key block's last point the output blocks receive its accumulators. -/
theorem stepAt_flush (X : Ins F) (i : grid0.Coords) (s : St F) (h : qi (i 1).val = 7) :
    (stepAt X i s).odk = (stepAt X i s).dk ∧ (stepAt X i s).odv = k0_pay8 (stepAt X i s).dv ∧ (stepAt X i s).odf = k0_pay9 (stepAt X i s).df := by
  have h5 := (cond5_iff (i 1)).mpr h
  unfold stepAt step flush
  rw [word_q, if_pos h5]; exact ⟨rfl, rfl, rfl⟩

/-- At every other point the output blocks stay. -/
theorem stepAt_keep (X : Ins F) (i : grid0.Coords) (s : St F) (h : qi (i 1).val ≠ 7) :
    (stepAt X i s).odk = s.odk ∧ (stepAt X i s).odv = s.odv ∧ (stepAt X i s).odf = s.odf := by
  have h5 := (cond5_iff (i 1)).not.mpr h
  unfold stepAt step flush
  rw [word_q, word_k, if_neg h5]; unfold diagIf pastIf zeroKeys zeroHead Hand.diag Hand.past
  split <;> split <;> split <;> split <;> exact ⟨rfl, rfl, rfl⟩

/-! ## The points of the grid -/

theorem coords_val : ∀ t : Fin grid0.N, (grid0.coords t 0).val = t.val / 36 ∧ (grid0.coords t 1).val = t.val % 36 := by decide +kernel

/-! ## The windows' blocks and the accumulators' trajectory -/

/-- Window `w`'s block at point `t`, read off its array as the region finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

/-- The eight input blocks of a point. -/
def ins (c : Dev nD) (t : Fin (cfgM (F := F)).N) : Ins F :=
  ⟨iblk m c 0 t, iblk m c 1 t, iblk m c 2 t, iblk m c 3 t, iblk m c 4 t, iblk m c 5 t, iblk m c 6 t, iblk m c 7 t⟩

/-- What the buffers hold after the first `n` points. -/
def traj (c : Dev nD) : ℕ → St F
  | 0 => ⟨k0_pay1, k0_pay2, k0_pay3, k0_pay8 k0_pay4, k0_pay9 k0_pay5, k0_pay3, k0_pay4, k0_pay5⟩
  | n + 1 => if h : n < grid0.N then stepAt (ins m c ⟨n, h⟩) (grid0.coords ⟨n, h⟩) (traj c n) else traj c n

theorem traj_succ (c : Dev nD) (t : Fin grid0.N) : traj m c (t.val + 1) = stepAt (ins m c t) (grid0.coords t) (traj m c t.val) := by
  rw [traj, dif_pos t.isLt]

/-- The scratch accumulators as the body is handed them. -/
abbrev scr0 : Memref sig .tc .vmem S1024x128 .f32 := Memref.whole cc0_scratch0
abbrev scr1 : Memref sig .tc .vmem S1024x128 .f32 := Memref.whole cc0_scratch1
abbrev scr2 : Memref sig .tc .vmem S1x1024 .f32 := Memref.whole cc0_scratch2
abbrev tbl0 : Memref sig .tc .smem S36 .i32 := Memref.whole main_c
abbrev tbl1 : Memref sig .tc .smem S36 .i32 := Memref.whole main_c_0

/-- Before point `n`: the scratch accumulators at the trajectory (at a head's first point, at anything), the generator
    register at some state, and the body's halves of the tables. -/
def Phi (c : Dev nD) (n : ℕ) : sProp 𝕄 :=
  iprop((∃ (dk : Vec F S1024x128 .f32) (dv : Vec F S1024x128 .f32) (df : Vec F S1x1024 .f32),
      ⌜n % 36 ≠ 0 → dk = (traj m c n).dk ∧ dv = (traj m c n).dv ∧ df = (traj m c n).df⌝
      ∗ owns (c : Thread nD τ) scr0 fullShare dk ∗ owns (c : Thread nD τ) scr1 fullShare dv ∗ owns (c : Thread nD τ) scr2 fullShare df)
    ∗ (∃ r, prngReg c r) ∗ owns (c : Thread nD τ) tbl0 fullShare.right (qtab (F := F)) ∗ owns (c : Thread nD τ) tbl1 fullShare.right (ktab (F := F)))

/-- The proof data of the pipeline on core `c`. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c (0 : Fin 13) t
    | ⟨1, _⟩ => iblk m c (1 : Fin 13) t
    | ⟨2, _⟩ => iblk m c (2 : Fin 13) t
    | ⟨3, _⟩ => iblk m c (3 : Fin 13) t
    | ⟨4, _⟩ => iblk m c (4 : Fin 13) t
    | ⟨5, _⟩ => iblk m c (5 : Fin 13) t
    | ⟨6, _⟩ => iblk m c (6 : Fin 13) t
    | ⟨7, _⟩ => iblk m c (7 : Fin 13) t
    | ⟨8, _⟩ => (traj m c (t.val + 1)).dq
    | ⟨9, _⟩ => (traj m c (t.val + 1)).dfq
    | ⟨10, _⟩ => (traj m c (t.val + 1)).dk
    | ⟨11, _⟩ => k0_pay8 (traj m c (t.val + 1)).dv
    | ⟨12, _⟩ => k0_pay9 (traj m c (t.val + 1)).df
  Φ t := Phi m c t.val
  q _ := fullShare
  owed _ := 0

theorem after_8 (c : Dev nD) (t : Fin (cfgM (F := F)).N) : (dats m 0 c).after (8 : Fin 13) t = (traj m c (t.val + 1)).dq := rfl
theorem after_9 (c : Dev nD) (t : Fin (cfgM (F := F)).N) : (dats m 0 c).after (9 : Fin 13) t = (traj m c (t.val + 1)).dfq := rfl
theorem after_10 (c : Dev nD) (t : Fin (cfgM (F := F)).N) : (dats m 0 c).after (10 : Fin 13) t = (traj m c (t.val + 1)).dk := rfl
theorem after_11 (c : Dev nD) (t : Fin (cfgM (F := F)).N) : (dats m 0 c).after (11 : Fin 13) t = k0_pay8 (traj m c (t.val + 1)).dv := rfl
theorem after_12 (c : Dev nD) (t : Fin (cfgM (F := F)).N) : (dats m 0 c).after (12 : Fin 13) t = k0_pay9 (traj m c (t.val + 1)).df := rfl

/-! ## What the body finds in the buffers -/

/-- An input's buffer holds its block at every point. -/
theorem before_in (c : Dev nD) (w : Fin (cfgM (F := F)).W) (hw : ((cfgM (F := F)).win w).isOut = false)
    (hlive : ∀ i, (cfgM (F := F)).idle w i = false) (hclip : ∀ i a, ((cfgM (F := F)).win w).clip i a = none)
    (hafter : ∀ t, (dats m 0 c).after w t = (dats m 0 c).fetched w t ((dats m 0 c).after w t))
    (t : Fin (cfgM (F := F)).N) (d) : (dats m 0 c).before w t d = (dats m 0 c).fetched w t d :=
  (dats m 0 c).before_in_eq_fetched w hw hlive (fun t t' _ => funext fun a => (hclip _ a).trans (hclip _ a).symm)
    (fun t => by rw [hafter]; exact Pipeline.Window.cut_fill _ _ _ _) t d

theorem before_0 (c : Dev nD) (t : Fin (cfgM (F := F)).N) (d) : (dats m 0 c).before (0 : Fin 13) t d = iblk m c 0 t :=
  before_in m c 0 rfl (fun _ => rfl) (fun _ _ => rfl) (fun _ => rfl) t d
theorem before_1 (c : Dev nD) (t : Fin (cfgM (F := F)).N) (d) : (dats m 0 c).before (1 : Fin 13) t d = iblk m c 1 t :=
  before_in m c 1 rfl (fun _ => rfl) (fun _ _ => rfl) (fun _ => rfl) t d
theorem before_2 (c : Dev nD) (t : Fin (cfgM (F := F)).N) (d) : (dats m 0 c).before (2 : Fin 13) t d = iblk m c 2 t :=
  before_in m c 2 rfl (fun _ => rfl) (fun _ _ => rfl) (fun _ => rfl) t d
theorem before_3 (c : Dev nD) (t : Fin (cfgM (F := F)).N) (d) : (dats m 0 c).before (3 : Fin 13) t d = iblk m c 3 t :=
  before_in m c 3 rfl (fun _ => rfl) (fun _ _ => rfl) (fun _ => rfl) t d
theorem before_4 (c : Dev nD) (t : Fin (cfgM (F := F)).N) (d) : (dats m 0 c).before (4 : Fin 13) t d = iblk m c 4 t :=
  before_in m c 4 rfl (fun _ => rfl) (fun _ _ => rfl) (fun _ => rfl) t d
theorem before_5 (c : Dev nD) (t : Fin (cfgM (F := F)).N) (d) : (dats m 0 c).before (5 : Fin 13) t d = iblk m c 5 t :=
  before_in m c 5 rfl (fun _ => rfl) (fun _ _ => rfl) (fun _ => rfl) t d
theorem before_6 (c : Dev nD) (t : Fin (cfgM (F := F)).N) (d) : (dats m 0 c).before (6 : Fin 13) t d = iblk m c 6 t :=
  before_in m c 6 rfl (fun _ => rfl) (fun _ _ => rfl) (fun _ => rfl) t d
theorem before_7 (c : Dev nD) (t : Fin (cfgM (F := F)).N) (d) : (dats m 0 c).before (7 : Fin 13) t d = iblk m c 7 t :=
  before_in m c 7 rfl (fun _ => rfl) (fun _ _ => rfl) (fun _ => rfl) t d

/-- A head's query gradients are written back at its last point. -/
theorem flush_8 (t : Fin (cfgM (F := F)).N) : ((cfgM (F := F)).win 8).flush t = true ↔ t.val % 36 = 35 :=
  (fun t => Pipeline.Window.flushOf_reads cc0_transform_8 reads0_8 hreads0_8 0 (by decide) (by decide) (Pipeline.Window.sep_of_coord cc0_transform_8 0 1 (fun _ => rfl) (by decide)) (P := 36) (m := 35) (by decide) rfl t : ∀ t : Fin grid0.N, Pipeline.Window.flushOf grid0 true cc0_transform_8 t = true ↔ t.val % 36 = 35) t
theorem flush_9 (t : Fin (cfgM (F := F)).N) : ((cfgM (F := F)).win 9).flush t = true ↔ t.val % 36 = 35 :=
  (fun t => Pipeline.Window.flushOf_reads cc0_transform_9 reads0_9 hreads0_9 0 (by decide) (by decide) (Pipeline.Window.sep_of_coord cc0_transform_9 0 1 (fun _ => rfl) (by decide)) (P := 36) (m := 35) (by decide) rfl t : ∀ t : Fin grid0.N, Pipeline.Window.flushOf grid0 true cc0_transform_9 t = true ↔ t.val % 36 = 35) t

/-- Every point stores into the head's query gradients. -/
theorem live_q (i : grid0.Coords) : (!(k0_cond1 i == 1#1) && !(k0_cond3 ((tabs (F := F)).atD 0 (k0_off1 i)) ((tabs (F := F)).atD 1 (k0_off1 i)) == 1#1)
    && !(k0_cond4 ((tabs (F := F)).atD 0 (k0_off1 i)) ((tabs (F := F)).atD 1 (k0_off1 i)) == 1#1)) = false := by
  rw [atD_q, atD_k]
  by_cases h : qi (i 1).val = ki (i 1).val
  · rw [(cond4_iff (i 1)).mpr h]; simp
  · rw [(cond3_iff (i 1)).mpr h]; simp
theorem live_8 (i : grid0.Coords) : (cfgM (F := F)).idle (8 : Fin 13) i = false := live_q i
theorem live_9 (i : grid0.Coords) : (cfgM (F := F)).idle (9 : Fin 13) i = false := live_q i

theorem pred_flush (t : Fin (cfgM (F := F)).N) (h : t.val % 36 ≠ 0) : t.val ≠ 0 ∧ ¬ (t.val - 1) % 36 = 35 := by
  omega

/-- Away from a head's first point the body finds the query gradients as the point before left them. -/
theorem before_8 (c : Dev nD) (t : Fin (cfgM (F := F)).N) (h : t.val % 36 ≠ 0) (d) : (dats m 0 c).before (8 : Fin 13) t d = (traj m c t.val).dq := by
  obtain ⟨h0, hf⟩ := pred_flush t h
  refine ((dats m 0 c).before_out_kept 8 rfl t h0 (Bool.eq_false_iff.mpr fun hc => hf ((flush_8 _).mp hc)) live_8 (fun _ _ => rfl) d).trans ?_
  rw [after_8]; dsimp only; rw [Nat.sub_add_cancel (by omega)]
theorem before_9 (c : Dev nD) (t : Fin (cfgM (F := F)).N) (h : t.val % 36 ≠ 0) (d) : (dats m 0 c).before (9 : Fin 13) t d = (traj m c t.val).dfq := by
  obtain ⟨h0, hf⟩ := pred_flush t h
  refine ((dats m 0 c).before_out_kept 9 rfl t h0 (Bool.eq_false_iff.mpr fun hc => hf ((flush_9 _).mp hc)) live_9 (fun _ _ => rfl) d).trans ?_
  rw [after_9]; dsimp only; rw [Nat.sub_add_cancel (by omega)]

/-- Whether a key block's output buffers are stored at a point: at the last query block. -/
theorem idle_k (i : grid0.Coords) : (!(k0_cond5 ((tabs (F := F)).atD 0 (k0_off1 i)) == 1#1)) = !decide (qi (i 1).val = 7) := by
  rw [atD_q]
  by_cases h : qi (i 1).val = 7
  · rw [(cond5_iff (i 1)).mpr h]; simp [h]
  · have := (cond5_iff (i 1)).not.mpr h; simp [h, this]

/-- Before a key block's last point, the next point has the same key block. -/
theorem next_same : ∀ t : Fin grid0.N, qi (t.val % 36) ≠ 7 → t.val + 1 < grid0.N ∧ ki ((t.val + 1) % 36) = ki (t.val % 36) ∧ (t.val + 1) / 36 = t.val / 36 := by
  decide +kernel

/-- Before a key block's last point nothing of it is written back. -/
theorem no_flush (w : Fin (cfgM (F := F)).W) (t : Fin (cfgM (F := F)).N) (h : qi (t.val % 36) ≠ 7)
    (hix : ∀ t t' : Fin (cfgM (F := F)).N, t.val / 36 = t'.val / 36 → ki (t.val % 36) = ki (t'.val % 36) → ((cfgM (F := F)).win w).index t = ((cfgM (F := F)).win w).index t') :
    ((cfgM (F := F)).win w).flush t = false := by
  obtain ⟨h1, h2, h3⟩ := next_same t h
  unfold Pipeline.Window.flush
  rw [Bool.and_eq_false_iff]; right
  rw [Bool.or_eq_false_iff]
  refine ⟨decide_eq_false (by have : t.val + 1 < (cfgM (F := F)).grid.N := h1; omega), decide_eq_false ?_⟩
  rintro ⟨hlt, hne⟩
  exact hne (hix _ _ h3 h2)

end Cert.KernelIdeal.Hand

end
-- ==== Proof.Launch.lean ====
module

public import proofs.«01_k».proof.Proof.Data

/-!
# The run of the backward kernel

The body obligation (one grid point takes the proof data from one point to the next) and the launch: every run of the
program ends with each output array at what the proof data compute and every argument unchanged.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of window `w` at point `t`. -/
abbrev stg (w : Fin 13) (t : Fin (cfgM (F := F)).N) := ((cfgM (F := F)).win w).stage ((cfgM (F := F)).slots t w)

/-- The kernel's body at point `t`, on what the pipeline calls it with. -/
abbrev bodyAt (t : Fin (cfgM (F := F)).N) : Prog (TpuEff nD τ sig (Elt F) Λ₀ .tc) PUnit :=
  cc0_fox_att_bwd (grid0.coords t) (Memref.whole main_c) (Memref.isWhole_whole _) (Memref.whole main_c_0) (Memref.isWhole_whole _)
    (spec0_0.stage ((cfgM (F := F)).slots t 0)) (hstage0_0 (((cfgM (F := F)).slots t 0).cast nbuf0_0))
    (spec0_1.stage ((cfgM (F := F)).slots t 1)) (hstage0_1 (((cfgM (F := F)).slots t 1).cast nbuf0_1))
    (spec0_2.stage ((cfgM (F := F)).slots t 2)) (hstage0_2 (((cfgM (F := F)).slots t 2).cast nbuf0_2))
    (spec0_3.stage ((cfgM (F := F)).slots t 3)) (hstage0_3 (((cfgM (F := F)).slots t 3).cast nbuf0_3))
    (spec0_4.stage ((cfgM (F := F)).slots t 4)) (hstage0_4 (((cfgM (F := F)).slots t 4).cast nbuf0_4))
    (spec0_5.stage ((cfgM (F := F)).slots t 5)) (hstage0_5 (((cfgM (F := F)).slots t 5).cast nbuf0_5))
    (spec0_6.stage ((cfgM (F := F)).slots t 6)) (hstage0_6 (((cfgM (F := F)).slots t 6).cast nbuf0_6))
    (spec0_7.stage ((cfgM (F := F)).slots t 7)) (hstage0_7 (((cfgM (F := F)).slots t 7).cast nbuf0_7))
    (spec0_8.stage ((cfgM (F := F)).slots t 8)) (hstage0_8 (((cfgM (F := F)).slots t 8).cast nbuf0_8))
    (spec0_9.stage ((cfgM (F := F)).slots t 9)) (hstage0_9 (((cfgM (F := F)).slots t 9).cast nbuf0_9))
    (spec0_10.stage ((cfgM (F := F)).slots t 10)) (hstage0_10 (((cfgM (F := F)).slots t 10).cast nbuf0_10))
    (spec0_11.stage ((cfgM (F := F)).slots t 11)) (hstage0_11 (((cfgM (F := F)).slots t 11).cast nbuf0_11))
    (spec0_12.stage ((cfgM (F := F)).slots t 12)) (hstage0_12 (((cfgM (F := F)).slots t 12).cast nbuf0_12))
    scr0 (Memref.isWhole_whole _) scr1 (Memref.isWhole_whole _) scr2 (Memref.isWhole_whole _)

theorem row (t : Fin (cfgM (F := F)).N) :
    defs₀ (F := F) .tc (cfgM (F := F)).body ((cfgM (F := F)).bodyArgs t ((cfgM (F := F)).slots t)) = bodyAt t := by
  unfold defs₀; rw [Defs.onTc_tc]

/-- What the thirteen windows' buffers and the scratch hold, with the tables, as the run takes them. -/
abbrev HeldAt (c : Dev nD) (t : Fin (cfgM (F := F)).N) (X : Ins F) (s : St F) : sProp 𝕄 :=
  Held c tbl0 tbl1 (stg 0 t) (stg 1 t) (stg 2 t) (stg 3 t) (stg 4 t) (stg 5 t) (stg 6 t) (stg 7 t) (stg 8 t) (stg 9 t)
    (stg 10 t) (stg 11 t) (stg 12 t) scr0 scr1 scr2 X qtab ktab s

/-- The run of one grid point. -/
theorem run_at (c : Dev nD) (t : Fin (cfgM (F := F)).N) (X : Ins F) (s : St F) :
    HeldAt c t X s ⊢ wp frame (wpE (defs₀ (F := F)) Variants.none (c : Thread nD τ) none) Set.univ (bodyAt t)
      (fun _ => HeldAt c t X (stepAt X (grid0.coords t) s)) := by
  refine run c (grid0.coords t) _ _ _ _ _ _ _ _ _ _ _ _ _ _ _ _ _ _ _ _ _ _ _ _ _ _ _ _ _ _ _ _ _ _ _ _ X qtab ktab s (qblk (grid0.coords t)) ?_ ?_ ?_
  · rw [word_q, word_k]; exact chk_ok (grid0.coords t 1)
  · rw [word_q]; exact off2_eq (grid0.coords t 1)
  · rw [word_q]; exact off3_eq (grid0.coords t 1)

/-! ## What the point leaves in the windows -/

theorem leaves_live (c : Dev nD) (w : Fin 13) (t : Fin (cfgM (F := F)).N) (hl : (cfgM (F := F)).idle w ((cfgM (F := F)).grid.coords t) = false) :
    owns (c : Thread nD τ) (stg w t) fullShare ((dats m 0 c).after w t) ⊢ ((dats m 0 c).leavesExact w t : sProp 𝕄) := by
  unfold Dat.leavesExact; rw [hl]

theorem leaves_idle (c : Dev nD) (w : Fin 13) (t : Fin (cfgM (F := F)).N) (hl : (cfgM (F := F)).idle w ((cfgM (F := F)).grid.coords t) = true)
    (hf : ((cfgM (F := F)).win w).flush t = false) (d) :
    owns (c : Thread nD τ) (stg w t) fullShare ((dats m 0 c).before w t d) ⊢ ((dats m 0 c).leavesExact w t : sProp 𝕄) := by
  rw [Dat.leavesExact_idle _ _ _ hl hf]; iintro H; iexists d; iexact H

theorem qi_point (t : Fin (cfgM (F := F)).N) : qi (grid0.coords t 1).val = qi (t.val % 36) := by rw [(coords_val t).2]

/-- The index of a key block's windows depends on the head and the key block alone. -/
theorem index_10 (t : Fin (cfgM (F := F)).N) : ((cfgM (F := F)).win 10).index t = ![ki (t.val % 36), t.val / 36] := by
  rw [← (coords_val t).1, ← (coords_val t).2]; exact map_k k0_off1_inb numel1_S1 (grid0.coords t)
theorem index_11 (t : Fin (cfgM (F := F)).N) : ((cfgM (F := F)).win 11).index t = ![ki (t.val % 36), t.val / 36] := by
  rw [← (coords_val t).1, ← (coords_val t).2]; exact map_k k0_off1_inb numel1_S1 (grid0.coords t)
theorem index_12 (t : Fin (cfgM (F := F)).N) : ((cfgM (F := F)).win 12).index t = ![t.val / 36, 0, ki (t.val % 36)] := by
  rw [← (coords_val t).1, ← (coords_val t).2]; exact map_fk k0_off1_inb numel1_S1 (grid0.coords t)

theorem no_flush_10 (t : Fin (cfgM (F := F)).N) (h : qi (t.val % 36) ≠ 7) : ((cfgM (F := F)).win 10).flush t = false :=
  no_flush 10 t h fun t t' h1 h2 => by rw [index_10, index_10, h1, h2]
theorem no_flush_11 (t : Fin (cfgM (F := F)).N) (h : qi (t.val % 36) ≠ 7) : ((cfgM (F := F)).win 11).flush t = false :=
  no_flush 11 t h fun t t' h1 h2 => by rw [index_11, index_11, h1, h2]
theorem no_flush_12 (t : Fin (cfgM (F := F)).N) (h : qi (t.val % 36) ≠ 7) : ((cfgM (F := F)).win 12).flush t = false :=
  no_flush 12 t h fun t t' h1 h2 => by rw [index_12, index_12, h1, h2]

/-- A key block's window after the step: stored at the key block's last point, untouched before. -/
theorem leaves_key (c : Dev nD) (w : Fin 13) (t : Fin (cfgM (F := F)).N)
    (hidle : (cfgM (F := F)).idle w ((cfgM (F := F)).grid.coords t) = !decide (qi (grid0.coords t 1).val = 7))
    (hf : qi (t.val % 36) ≠ 7 → ((cfgM (F := F)).win w).flush t = false) (d) (Y)
    (h7 : qi (t.val % 36) = 7 → Y = (dats m 0 c).after w t) (hn : qi (t.val % 36) ≠ 7 → Y = (dats m 0 c).before w t d) :
    owns (c : Thread nD τ) (stg w t) fullShare Y ⊢ ((dats m 0 c).leavesExact w t : sProp 𝕄) := by
  by_cases h : qi (t.val % 36) = 7
  · rw [h7 h]; exact leaves_live m c w t (by rw [hidle, qi_point, h]; rfl)
  · rw [hn h]; exact leaves_idle m c w t (by rw [hidle, qi_point, decide_eq_false h]; rfl) (hf h) d

/-! ## The body obligation -/

theorem Phi_eq (c : Dev nD) (u : Fin ((cfgM (F := F)).N + 1)) : (dats m 0 c).Φ u = Phi m c u.val := rfl
theorem owes_eq (c : Dev nD) (u : Fin ((cfgM (F := F)).N + 1)) : (dats m 0 c).owesAt () u = (dats m 0 c).owesAt () 0 := rfl

set_option maxHeartbeats 4000000 in
/-- One grid point. -/
theorem sound (c : Dev nD) (t : Fin (cfgM (F := F)).N) :
    iprop((dats m 0 c).Φ t.castSucc ∗ (dats m 0 c).owesAt () t.castSucc
        ∗ (∃ d, owns (c : Thread nD τ) (stg 0 t) fullShare ((dats m 0 c).before (0 : Fin 13) t d))
        ∗ (∃ d, owns (c : Thread nD τ) (stg 1 t) fullShare ((dats m 0 c).before (1 : Fin 13) t d))
        ∗ (∃ d, owns (c : Thread nD τ) (stg 2 t) fullShare ((dats m 0 c).before (2 : Fin 13) t d))
        ∗ (∃ d, owns (c : Thread nD τ) (stg 3 t) fullShare ((dats m 0 c).before (3 : Fin 13) t d))
        ∗ (∃ d, owns (c : Thread nD τ) (stg 4 t) fullShare ((dats m 0 c).before (4 : Fin 13) t d))
        ∗ (∃ d, owns (c : Thread nD τ) (stg 5 t) fullShare ((dats m 0 c).before (5 : Fin 13) t d))
        ∗ (∃ d, owns (c : Thread nD τ) (stg 6 t) fullShare ((dats m 0 c).before (6 : Fin 13) t d))
        ∗ (∃ d, owns (c : Thread nD τ) (stg 7 t) fullShare ((dats m 0 c).before (7 : Fin 13) t d))
        ∗ (∃ d, owns (c : Thread nD τ) (stg 8 t) fullShare ((dats m 0 c).before (8 : Fin 13) t d))
        ∗ (∃ d, owns (c : Thread nD τ) (stg 9 t) fullShare ((dats m 0 c).before (9 : Fin 13) t d))
        ∗ (∃ d, owns (c : Thread nD τ) (stg 10 t) fullShare ((dats m 0 c).before (10 : Fin 13) t d))
        ∗ (∃ d, owns (c : Thread nD τ) (stg 11 t) fullShare ((dats m 0 c).before (11 : Fin 13) t d))
        ∗ (∃ d, owns (c : Thread nD τ) (stg 12 t) fullShare ((dats m 0 c).before (12 : Fin 13) t d)))
      ⊢ wp frame (wpE (defs₀ (F := F)) Variants.none (c : Thread nD τ) none) Set.univ (bodyAt t) fun _ =>
          iprop((dats m 0 c).Φ t.succ ∗ (dats m 0 c).owesAt () t.succ
            ∗ bigSep Finset.univ fun w : Fin 13 => (dats m 0 c).leavesExact w t) := by
  rw [bigSep_W0]
  rw [Phi_eq, Phi_eq, Fin.val_succ, Fin.val_castSucc, owes_eq m c t.succ, owes_eq m c t.castSucc]
  unfold Phi
  iintro ⟨⟨⟨%dk, %dv, %df, %hs, HS0, HS1, HS2⟩, HR, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have e0 := before_0 m c t d0; have e1 := before_1 m c t d1; have e2 := before_2 m c t d2; have e3 := before_3 m c t d3
  have e4 := before_4 m c t d4; have e5 := before_5 m c t d5; have e6 := before_6 m c t d6; have e7 := before_7 m c t d7
  rw [e0, e1, e2, e3, e4, e5, e6, e7]
  have hsame : Same (stepAt (ins m c t) (grid0.coords t)
      ⟨(dats m 0 c).before (8 : Fin 13) t d8, (dats m 0 c).before (9 : Fin 13) t d9, (dats m 0 c).before (10 : Fin 13) t d10,
        (dats m 0 c).before (11 : Fin 13) t d11, (dats m 0 c).before (12 : Fin 13) t d12, dk, dv, df⟩) (traj m c (t.val + 1)) := by
    rw [traj_succ m c t]
    refine stepAt_same _ _ fun h => ?_
    rw [(coords_val t).2] at h
    exact ⟨before_8 m c t h d8, before_9 m c t h d9, (hs h).1, (hs h).2.1, (hs h).2.2⟩
  have hrun := run_at c t (ins m c t) ⟨(dats m 0 c).before (8 : Fin 13) t d8, (dats m 0 c).before (9 : Fin 13) t d9,
    (dats m 0 c).before (10 : Fin 13) t d10, (dats m 0 c).before (11 : Fin 13) t d11, (dats m 0 c).before (12 : Fin 13) t d12, dk, dv, df⟩
  have hfl := stepAt_flush (ins m c t) (grid0.coords t) ⟨(dats m 0 c).before (8 : Fin 13) t d8, (dats m 0 c).before (9 : Fin 13) t d9,
    (dats m 0 c).before (10 : Fin 13) t d10, (dats m 0 c).before (11 : Fin 13) t d11, (dats m 0 c).before (12 : Fin 13) t d12, dk, dv, df⟩
  have hke := stepAt_keep (ins m c t) (grid0.coords t) ⟨(dats m 0 c).before (8 : Fin 13) t d8, (dats m 0 c).before (9 : Fin 13) t d9,
    (dats m 0 c).before (10 : Fin 13) t d10, (dats m 0 c).before (11 : Fin 13) t d11, (dats m 0 c).before (12 : Fin 13) t d12, dk, dv, df⟩
  rw [qi_point] at hfl hke
  generalize hs' : stepAt (ins m c t) (grid0.coords t) _ = s' at hsame hrun hfl hke
  obtain ⟨a1, a2, a3, a4, a5⟩ := hsame
  iapply wp_wand_r
  isplitl [HT0 HT1 H0 H1 H2 H3 H4 H5 H6 H7 H8 H9 H10 H11 H12 HS0 HS1 HS2]
  · iapply hrun
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iexact HS2
  iintro %_ ⟨HT0, HT1, H0, H1, H2, H3, H4, H5, H6, H7, H8, H9, H10, H11, H12, HS0, HS1, HS2⟩
  isplitl [HS0 HS1 HS2 HR HT0 HT1]
  · isplitl [HS0 HS1 HS2]
    · iexists s'.dk, s'.dv, s'.df
      isplitr; · ipureintro; exact fun _ => ⟨a3, a4, a5⟩
      isplitl [HS0]; · iexact HS0
      isplitl [HS1]; · iexact HS1
      iexact HS2
    isplitl [HR]; · iexact HR
    isplitl [HT0]; · iexact HT0
    iexact HT1
  isplitl [Ho]; · iexact Ho
  isplitl [H0]; · iapply (leaves_live m c 0 t rfl); iexact H0
  isplitl [H1]; · iapply (leaves_live m c 1 t rfl); iexact H1
  isplitl [H2]; · iapply (leaves_live m c 2 t rfl); iexact H2
  isplitl [H3]; · iapply (leaves_live m c 3 t rfl); iexact H3
  isplitl [H4]; · iapply (leaves_live m c 4 t rfl); iexact H4
  isplitl [H5]; · iapply (leaves_live m c 5 t rfl); iexact H5
  isplitl [H6]; · iapply (leaves_live m c 6 t rfl); iexact H6
  isplitl [H7]; · iapply (leaves_live m c 7 t rfl); iexact H7
  isplitl [H8]; · iapply (leaves_live m c 8 t (live_8 _)); rw [after_8, ← a1]; iexact H8
  isplitl [H9]; · iapply (leaves_live m c 9 t (live_9 _)); rw [after_9, ← a2]; iexact H9
  isplitl [H10]
  · iapply (leaves_key m c 10 t (idle_k _) (no_flush_10 t) d10 s'.odk
      (fun h => by rw [after_10, ← a3]; exact (hfl h).1) (fun h => (hke h).1))
    iexact H10
  isplitl [H11]
  · iapply (leaves_key m c 11 t (idle_k _) (no_flush_11 t) d11 s'.odv
      (fun h => by rw [after_11, ← a4]; exact (hfl h).2.1) (fun h => (hke h).2.1))
    iexact H11
  iapply (leaves_key m c 12 t (idle_k _) (no_flush_12 t) d12 s'.odf
    (fun h => by rw [after_12, ← a5]; exact (hfl h).2.2) (fun h => (hke h).2.2))
  iexact H12

theorem body_obligation (c : Dev nD) : BodyObligation (dats m 0 c) (defs₀ (F := F)) Variants.none () Set.univ := fun t => by
  rw [bigSep_W0, row]
  exact sound m c t

end Cert.KernelIdeal.Hand

end
-- ==== Proof.Run.lean ====
module

public import proofs.«01_k».proof.Proof.Launch

/-!
# The launch of the backward kernel

Every run of the program ends with each output array at what the proof data compute and every argument unchanged.
-/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

theorem share_eq (c : Dev nD) (w : Fin (cfgM (F := F)).W) : (dats m 0 c).share w = fullShare := by unfold Dat.share; split <;> rfl

/-- The tables' halves, table by table. -/
theorem tables_eq (c : Dev nD) : (Pipeline.ΦT pre0 (tabs (F := F)) c : sProp 𝕄)
    = iprop((((c : Thread nD τ).loc main_c) ↦{fullShare.right} (qtab (F := F))) ∗ (((c : Thread nD τ).loc main_c_0) ↦{fullShare.right} (ktab (F := F)))) := by
  unfold Pipeline.ΦT Pipeline.prefHeld
  rw [show (Finset.univ : Finset (Fin 2)) = insert (0 : Fin 2) {(1 : Fin 2)} from by decide,
    bigSep_insert (by decide), bigSep_singleton]
  rfl

/-- A whole buffer, owned through its memref. -/
theorem own_in (c : Dev nD) (b : Ref sig .tc) (q : PosShare TreeShare) (f : b.ty.Contents (Elt F)) :
    (((c : Thread nD τ).loc b) ↦{q} f) ⊢ (owns (c : Thread nD τ) (Memref.whole b) q f : sProp 𝕄) :=
  Entails.of_eq (owns_whole (c : Thread nD τ) b q f).symm
theorem own_out (c : Dev nD) (b : Ref sig .tc) (q : PosShare TreeShare) (f : b.ty.Contents (Elt F)) :
    (owns (c : Thread nD τ) (Memref.whole b) q f : sProp 𝕄) ⊢ (((c : Thread nD τ).loc b) ↦{q} f) :=
  Entails.of_eq (owns_whole (c : Thread nD τ) b q f)

/-- The invariant before the first point. -/
theorem enter (c : Dev nD) : iprop(Pipeline.ΦA spec0 c ∗ Pipeline.ΦT pre0 (tabs (F := F)) c) ⊢ (dats m 0 c).Φ 0 := by
  rw [Phi_eq, tables_eq]; unfold Phi Pipeline.ΦA; rw [scopedRest0_eq]
  iintro ⟨⟨⟨⟨%f0, H0⟩, ⟨%f1, H1⟩, ⟨%f2, H2⟩⟩, HR⟩, HT0, HT1⟩
  isplitl [H0 H1 H2]
  · iexists f0, f1, f2
    isplitr; · ipureintro; exact fun h => absurd rfl h
    isplitl [H0]; · iapply (own_in c cc0_scratch0 fullShare f0); iexact H0
    isplitl [H1]; · iapply (own_in c cc0_scratch1 fullShare f1); iexact H1
    iapply (own_in c cc0_scratch2 fullShare f2); iexact H2
  isplitl [HR]; · iexact HR
  isplitl [HT0]; · iapply (own_in c main_c fullShare.right (qtab (F := F))); iexact HT0
  iapply (own_in c main_c_0 fullShare.right (ktab (F := F))); iexact HT1

/-- The invariant after the last point lets the scratch go. -/
theorem leave (c : Dev nD) : (dats m 0 c).Φ (Fin.last (cfgM (F := F)).N) ⊢ (Pipeline.ΦA spec0 c : sProp 𝕄) := by
  rw [Phi_eq]; unfold Phi Pipeline.ΦA; rw [scopedRest0_eq]
  iintro ⟨⟨%dk, %dv, %df, -, H0, H1, H2⟩, HR, -, -⟩
  isplitl [H0 H1 H2]
  · isplitl [H0]; · iexists dk; iapply (own_out c cc0_scratch0 fullShare dk); iexact H0
    isplitl [H1]; · iexists dv; iapply (own_out c cc0_scratch1 fullShare dv); iexact H1
    iexists df; iapply (own_out c cc0_scratch2 fullShare df); iexact H2
  iexact HR

/-- What a run ends with: each window's array at what the proof data compute, the other buffers as the region found them,
    every semaphore at zero. -/
theorem run_main : θ_run (defs (F := F)) (onTc (τ := τ) (main (F := F))) (s₀ m ρ)
    (fun r => Pipeline.FramePost (Pipeline.pin pcfgs fun _ => adm (F := F)) (dats m) 0 (V m) r ∧ r.2.sem = fun _ => 0) :=
  Pipeline.θ_run_frameP_track pcfgs (fun _ => adm (F := F)) (dats m) (0 : Fin 1) (launch0 (F := F)) defs₀ Variants.none m ρ main
    (fun c => (body_obligation m c).loose) (share_eq m) (fun _ _ => rfl) (V m) (main_shape m) (fun _ _ => rfl) (V_tabs m)
    (enter m) (leave m) _ (fun _ h => h)

theorem kept {b : Ref sig .tc} (hb : IsArg b) : b ∈ Pipeline.restRefs sig spec0 := by
  rcases hb with rfl | rfl | rfl | rfl | rfl <;> decide

/-- Every argument ends as it started. -/
theorem unchanged (c : Dev nD) {b : Ref sig .tc} (hb : IsArg b) (r : PUnit × MemSt nD τ sig (Elt F))
    (h : Pipeline.FramePost (Pipeline.pin pcfgs fun _ => adm (F := F)) (dats m) 0 (V m) r) :
    r.2.mem ((c.tc : Thread nD τ).loc b) = m ((c.tc : Thread nD τ).loc b) :=
  ((h c).2 b (kept hb)).trans (V_arg m c hb)

/-- The program terminates with its arguments unchanged and its semaphores at zero. -/
theorem frame_run : θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨unchanged m c (.inl rfl) r h.1, unchanged m c (.inr (.inl rfl)) r h.1,
    unchanged m c (.inr (.inr (.inl rfl))) r h.1, unchanged m c (.inr (.inr (.inr (.inl rfl)))) r h.1,
    unchanged m c (.inr (.inr (.inr (.inr rfl)))) r h.1⟩, h.2⟩) (run_main m ρ)

end Cert.KernelIdeal.Hand

end
-- ==== Proof.Maths.lean ====
module

public import Idealize.ShloMosaic.Lib.Pointwise
public import Idealize.ShloMosaic.Lib.IdealHost

/-!
# The gradient of the attention with forget gates, on the reals

A query `i` of a head sees the keys `j ≤ i` with the score `Q i · K j + f i − f j`. `P` is the row's softmax, `G` the
gradient of the loss with respect to the score. Both programs are compared with these two tables.
-/

@[expose] public section

noncomputable section

namespace Cert.Attn

open Idealize.ShloMosaic

/-- The column of a head's entry. -/
def col (h : Fin 16) (d : Fin 128) : Fin 2048 := ⟨h.val * 128 + d.val, by omega⟩
/-- The row of a block's entry. -/
def row (b : Fin 8) (r : Fin 1024) : Fin 8192 := ⟨1024 * b.val + r.val, by omega⟩
/-- The first row of a row's block. -/
def first (i : Fin 8192) : Fin 8192 := ⟨i.val / 1024 * 1024, by omega⟩

theorem first_row (b : Fin 8) (r : Fin 1024) : first (row b r) = row b 0 := by
  apply Fin.ext; simp only [first, row, Fin.val_zero]; omega

theorem col_div (h : Fin 16) (d : Fin 128) (hh : (col h d).val / 128 < 16) : (⟨(col h d).val / 128, hh⟩ : Fin 16) = h := by
  apply Fin.ext; simp only [col]; omega
theorem col_mod (h : Fin 16) (d : Fin 128) (hh : (col h d).val % 128 < 128) : (⟨(col h d).val % 128, hh⟩ : Fin 128) = d := by
  apply Fin.ext; simp only [col]; omega

/-- What the programs are given, as reals: the scaled queries, the keys, the values, the incoming gradient, the gates. -/
structure Data where
  Q : Fin 16 → Fin 8192 → Fin 128 → ℝ
  K : Fin 16 → Fin 8192 → Fin 128 → ℝ
  V : Fin 16 → Fin 8192 → Fin 128 → ℝ
  O : Fin 16 → Fin 8192 → Fin 128 → ℝ
  f : Fin 16 → Fin 8192 → ℝ

namespace Data
variable (D : Data) (h : Fin 16) (i j : Fin 8192)

/-- A score before the mask. -/
def S : ℝ := (∑ d, D.Q h i d * D.K h j d) + D.f h i - D.f h j
/-- A score's exponential, zero where it is masked. -/
def E : ℝ := if j ≤ i then Real.exp (D.S h i j) else 0
/-- A row's sum of exponentials. -/
def Z : ℝ := ∑ j, D.E h i j
/-- A probability. -/
def P : ℝ := D.E h i j / D.Z h i
/-- The gradient with respect to a probability. -/
def dP : ℝ := ∑ d, D.O h i d * D.V h j d
/-- A row's correction. -/
def L : ℝ := ∑ j, D.P h i j * D.dP h i j
/-- The gradient with respect to a score. -/
def G : ℝ := D.P h i j * (D.dP h i j - D.L h i)

theorem E_nonneg : 0 ≤ D.E h i j := by
  unfold E; split
  · exact (Real.exp_pos _).le
  · exact le_rfl

theorem Z_pos : 0 < D.Z h i :=
  lt_of_lt_of_le (b := D.E h i i) (by simp only [E, le_refl, if_true]; exact Real.exp_pos _)
    (Finset.single_le_sum (f := fun j => D.E h i j) (fun j _ => D.E_nonneg h i j) (Finset.mem_univ i))

theorem P_hidden (hj : ¬ j ≤ i) : D.P h i j = 0 := by simp [P, E, hj]
theorem G_hidden (hj : ¬ j ≤ i) : D.G h i j = 0 := by simp [G, D.P_hidden h i j hj]

end Data

theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The largest element of a list is one of its elements or the start: real if the start is −∞, no element is ∞ and
one element is real. -/
theorem foldl_max_real {ι : Type*} (g : ι → EReal) (l : List ι) (n : ι) (hn : n ∈ l) (hr : ⊥ < g n) (ht : ∀ x ∈ l, g x < ⊤) :
    ∃ M : ℝ, l.foldl (fun r x => max r (g x)) ⊥ = (M : EReal) := by
  have up : ∀ (l : List ι) (b : EReal), b < ⊤ → (∀ x ∈ l, g x < ⊤) → l.foldl (fun r x => max r (g x)) b < ⊤ := by
    intro l
    induction l with
    | nil => intro b hb _; exact hb
    | cons a l ih => intro b hb h; exact ih _ (max_lt hb (h a (List.mem_cons_self ..))) fun x hx => h x (List.mem_cons_of_mem _ hx)
  have ge : ∀ (l : List ι) (b : EReal), b ≤ l.foldl (fun r x => max r (g x)) b := by
    intro l
    induction l with
    | nil => intro b; exact le_rfl
    | cons a l ih => intro b; exact (le_max_left _ _).trans (ih _)
  have mem : ∀ (l : List ι) (b : EReal), n ∈ l → g n ≤ l.foldl (fun r x => max r (g x)) b := by
    intro l
    induction l with
    | nil => intro b h; cases h
    | cons a l ih =>
      intro b h
      rcases List.mem_cons.mp h with rfl | h
      · exact (le_max_right _ _).trans (ge l _)
      · exact ih _ h
  have h1 := up l ⊥ bot_lt_top ht
  have h2 := hr.trans_le (mem l ⊥ hn)
  exact ⟨_, (EReal.coe_toReal h1.ne h2.ne').symm⟩

/-- A row maximum from −∞ is real where no element is ∞ and one is real. -/
theorem reduce_max_real {s t u : Shape} {axes : List (Fin s.rank)} (x : FVec Ideal s .f32) (init : FVec Ideal u .f32) (h : s.ReducesTo axes t)
    (hu : 0 < u.numel) (hi : (init (Shape.Idx.first hu) : EReal) = ⊥) (j : t.Idx) (n : s.Idx) (hn : h.drop n = j) (hr : ⊥ < (x n : EReal)) (ht : ∀ i, (x i : EReal) < ⊤) :
    ∃ M : ℝ, (Host.reduce (FloatOps.maximumf (F := Ideal) (φ := .f32)) x init h hu j : EReal) = (M : EReal) := by
  obtain ⟨M, hM⟩ := foldl_max_real (fun k => (x (s.rowMajor.symm k) : EReal)) ((List.finRange s.numel).filter fun n => h.drop (s.rowMajor.symm n) = j)
    (s.rowMajor n) (by simp [hn]) (by simpa using hr) (fun _ _ => ht _)
  refine ⟨M, ?_⟩
  rw [← hM, ← hi]; rfl

/-- The larger of −∞ and a real is the real. -/
theorem maximumf_real {s : Shape} (a b : FVec Ideal s .f32) (i : s.Idx) (M : ℝ) (ha : (a i : EReal) = ⊥) (hb : (b i : EReal) = M) :
    (maximumf a b i : EReal) = M := by
  show max (a i : EReal) (b i) = M
  rw [ha, hb]; exact max_eq_right bot_le

theorem negInf : Ideal.ofBits .f32 0xFF800000#32 = ⊥ := by simp [Ideal.ofBits, Ideal.ieee]

/-! ## The programs' arguments as reals -/

/-- No entry is an infinity. -/
def Finite {s : Shape} (a : FVec Ideal s .f32) : Prop := ∀ i, ∃ r : ℝ, (a i : EReal) = r

/-- The queries' scale. -/
def scale : ℝ := (Ideal.ofBits .f32 0x3DB504F3#32).toReal

theorem scale_coe : Ideal.ofBits .f32 0x3DB504F3#32 = (scale : EReal) := by
  unfold scale
  have e : Ideal.ofBits .f32 0x3DB504F3#32 = (((11863283 : ℝ) * ((2 : ℝ) ^ 27)⁻¹ : ℝ) : EReal) := by simp [Ideal.ofBits, Ideal.ieee]
  rw [e, EReal.toReal_coe]

/-- The arguments' entries. -/
def data (a0 a1 a2 a4 : FVec Ideal ⟨2, ![8192, 2048]⟩ .f32) (a3 : FVec Ideal ⟨2, ![8192, 16]⟩ .f32) : Data where
  Q h i d := (a0 (ix2 i (col h d)) : EReal).toReal * scale
  K h i d := (a1 (ix2 i (col h d)) : EReal).toReal
  V h i d := (a2 (ix2 i (col h d)) : EReal).toReal
  O h i d := (a4 (ix2 i (col h d)) : EReal).toReal
  f h i := (a3 (ix2 i h) : EReal).toReal

theorem Finite.coe {s : Shape} {a : FVec Ideal s .f32} (ha : Finite a) (i : s.Idx) : (((a i : EReal).toReal : ℝ) : EReal) = a i := by
  obtain ⟨r, hr⟩ := ha i
  rw [hr, EReal.toReal_coe]

section entries
variable {a0 a1 a2 a4 : FVec Ideal ⟨2, ![8192, 2048]⟩ .f32} {a3 : FVec Ideal ⟨2, ![8192, 16]⟩ .f32} (h : Fin 16) (i : Fin 8192) (d : Fin 128)

theorem Q_coe (h0 : Finite a0) : (a0 (ix2 i (col h d)) : EReal) * Ideal.ofBits .f32 0x3DB504F3#32 = ((data a0 a1 a2 a4 a3).Q h i d : ℝ) := by
  rw [scale_coe, ← h0.coe, ← EReal.coe_mul]; rfl
theorem K_coe (h1 : Finite a1) : (a1 (ix2 i (col h d)) : EReal) = ((data a0 a1 a2 a4 a3).K h i d : ℝ) := (h1.coe _).symm
theorem V_coe (h2 : Finite a2) : (a2 (ix2 i (col h d)) : EReal) = ((data a0 a1 a2 a4 a3).V h i d : ℝ) := (h2.coe _).symm
theorem O_coe (h4 : Finite a4) : (a4 (ix2 i (col h d)) : EReal) = ((data a0 a1 a2 a4 a3).O h i d : ℝ) := (h4.coe _).symm
theorem f_coe (h3 : Finite a3) : (a3 (ix2 i h) : EReal) = ((data a0 a1 a2 a4 a3).f h i : ℝ) := (h3.coe _).symm
end entries

/-! ## The softmax of a row -/

/-- A masked score's exponential after a shift. -/
theorem exp_masked (p : Prop) [Decidable p] (s M : ℝ) :
    Ideal.exp ((if p then (s : EReal) else ⊥) - (M : EReal)) = (((if p then Real.exp s else 0) * Real.exp (-M) : ℝ) : EReal) := by
  by_cases hp : p
  · rw [if_pos hp, if_pos hp, ← EReal.coe_sub, Ideal.exp_coe, ← Real.exp_add, sub_eq_add_neg]
  · rw [if_neg hp, if_neg hp, EReal.bot_sub, Ideal.exp_bot, zero_mul, EReal.coe_zero]

/-- A quotient of reals. -/
theorem div_real (x y : ℝ) (hy : y ≠ 0) : Ideal.div (x : EReal) (y : EReal) = ((x / y : ℝ) : EReal) := by
  rw [Ideal.div_coe hy, ← EReal.coe_mul, mul_one_div]

/-- The row's correction as the reference writes it. -/
theorem back_real {n : ℕ} (e dp : Fin n → ℝ) (z c : ℝ) (hz : z ≠ 0) (hc : c ≠ 0) :
    ∑ j, dp j * (1 / (z * c * (z * c))) * (e j * c) = (∑ j, e j / z * dp j) / (z * c) := by
  rw [Finset.sum_div]
  refine Finset.sum_congr rfl fun j _ => ?_
  field_simp

/-- The row's correction as the kernel's host writes it. -/
theorem corr_real (D : Data) (h : Fin 16) (i : Fin 8192) :
    ∑ d, D.O h i d * ∑ j, D.P h i j * D.V h j d = D.L h i := by
  simp only [Data.L, Data.dP, Finset.mul_sum]
  rw [Finset.sum_comm]
  exact Finset.sum_congr rfl fun j _ => Finset.sum_congr rfl fun d _ => by ring

end Cert.Attn

end
-- ==== Proof.Pre.lean ====
module

public import proofs.«01_k».proof.Pre_finite
public import proofs.«01_k».proof.Proof.Gen.Pre_finite
public import proofs.«01_k».proof.Proof.Maths

/-!
# What the precondition says

No entry of an argument is an infinity.
-/

@[expose] public section

noncomputable section

namespace Cert.Pre_finite.Hand

open Cert.Attn Cert.Pre_finite
open Idealize.ShloMosaic

/-- An extended real whose size is below infinity is a real. -/
theorem real_of_abs (x : EReal) (h : max x (-x) < Ideal.ofBits .f32 0x7F800000#32) : ∃ r : ℝ, x = r := by
  have ht : Ideal.ofBits .f32 0x7F800000#32 = ⊤ := by simp [Ideal.ofBits, Ideal.ieee]
  rw [ht, max_lt_iff] at h
  have hb : x ≠ ⊥ := fun e => by rw [e, EReal.neg_bot] at h; exact lt_irrefl _ h.2
  exact ⟨x.toReal, (EReal.coe_toReal h.1.ne hb).symm⟩

theorem and_ones {a b : BitVec 1} (h : IntOp.andi a b = 1#1) : a = 1#1 ∧ b = 1#1 := by
  revert a b; decide
theorem of_ones {p : Prop} [Decidable p] (h : BitVec.ofBool (decide p) = 1#1) : p := by
  by_contra hp
  rw [decide_eq_false hp] at h
  exact absurd h (by decide)

variable [Facts] {a0 a1 a2 a4 : FVec Ideal S8192x2048 .f32} {a3 : FVec Ideal S8192x16 .f32}

/-- The precondition, entry by entry. -/
theorem entries (h : fn (F := Ideal) a0 a1 a2 a3 a4 = fun _ => 1#1) (i : Fin 8192) (j : Fin 2048) (k : Fin 16) :
    (∃ r : ℝ, (a0 (ix2 i j) : EReal) = r) ∧ (∃ r : ℝ, (a1 (ix2 i j) : EReal) = r) ∧ (∃ r : ℝ, (a2 (ix2 i j) : EReal) = r)
      ∧ (∃ r : ℝ, (a4 (ix2 i j) : EReal) = r) ∧ ∃ r : ℝ, (a3 (ix2 i k) : EReal) = r := by
  have e := congrFun h (ix3 i j k)
  unfold fn fn_part1 at e
  revert e
  pointwise
  intro e
  obtain ⟨e, h3⟩ := and_ones e
  obtain ⟨e, h4⟩ := and_ones e
  obtain ⟨e, h2⟩ := and_ones e
  obtain ⟨h0, h1⟩ := and_ones e
  exact ⟨real_of_abs _ (of_ones h0), real_of_abs _ (of_ones h1), real_of_abs _ (of_ones h2), real_of_abs _ (of_ones h4), real_of_abs _ (of_ones h3)⟩

/-- The precondition, argument by argument. -/
theorem finite (h : fn (F := Ideal) a0 a1 a2 a3 a4 = fun _ => 1#1) : Finite a0 ∧ Finite a1 ∧ Finite a2 ∧ Finite a4 ∧ Finite a3 := by
  refine ⟨fun x => ?_, fun x => ?_, fun x => ?_, fun x => ?_, fun x => ?_⟩ <;> rw [eq_ix2 x]
  · exact (entries h (x 0) (x 1) 0).1
  · exact (entries h (x 0) (x 1) 0).2.1
  · exact (entries h (x 0) (x 1) 0).2.2.1
  · exact (entries h (x 0) (x 1) 0).2.2.2.1
  · exact (entries h (x 0) 0 (x 1)).2.2.2.2

end Cert.Pre_finite.Hand

end
-- ==== Proof.HostRead.lean ====
module

public import proofs.«01_k».proof.Proof.Tables
public import proofs.«01_k».proof.Proof.Maths
public import Idealize.ShloMosaic.Lib.Pointwise
public import Idealize.ShloMosaic.Lib.WordCmp
public import Idealize.ShloMosaic.Lib.StableHlo.ReadAt

/-!
# What the host hands the kernel

The host scales the queries, cuts the gates into blocks, and computes each row's log-sum and correction. This module
names those arrays, reads each at an index, and finds them in the buffers the kernel is called with.
-/

@[expose] public section

noncomputable section

namespace Cert.KernelIdeal.Hand

open Cert.KernelIdeal.Gen Cert.Attn
open Idealize.ShloMosaic Idealize.ShloMosaic.TcCoe Idealize.SL.Sem Idealize.ShloMosaic.StableHlo

variable {F : FTy → Type} [FloatOps F]

/-- The query times its scale. -/
def scaled (a : FVec F S8192x2048 .f32) : FVec F S8192x2048 .f32 :=
  mulf a (broadcastInDim S8192x2048 ![] bcast_S_S8192x2048 (constant S_ .f32 0x3DB504F3#32))
/-- The first gate of each block of rows. -/
def gate0 (a : FVec F S8192x16 .f32) : FVec F S16x8x1x1 .f32 :=
  shapeCast _ (transpose S16x8 [1, 0] (Host.slice S8x16 ![0, 0] ![1024, 1] a slicesBy_S8192x16_S8x16_0s1024_0s1) transposes_S8x16_S16x8_1_0) shapeCasts_S16x8_S16x8x1x1
/-- The gates, a head a row. -/
def gates (a : FVec F S8192x16 .f32) : FVec F S16x1x8192 .f32 :=
  shapeCast _ (transpose S16x8192 [1, 0] a transposes_S8192x16_S16x8192_1_0) shapeCasts_S16x8192_S16x1x8192
/-- The first gate of a row's block, for each row. -/
def gateRow (a : FVec F S16x8x1x1 .f32) : FVec F S16x8192x1 .f32 :=
  shapeCast _ (broadcastInDim S16x8x1024 ![0, 1, 2] bcast_S16x8x1_S16x8x1024_0_1_2 (shapeCast S16x8x1 a shapeCasts_S16x8x1x1_S16x8x1)) shapeCasts_S16x8x1024_S16x8192x1
/-- The heads of a matrix. -/
def heads (a : FVec F S8192x2048 .f32) : FVec F S16x8192x128 .f32 :=
  transpose S16x8192x128 [1, 0, 2] (shapeCast S8192x16x128 a shapeCasts_S8192x2048_S8192x16x128) transposes_S8192x16x128_S16x8192x128_1_0_2
/-- The masked scores, the gates relative to the first of the query's block. -/
def scores (q k : FVec F S16x8192x128 .f32) (a : FVec F S16x1x8192 .f32) (b : FVec F S16x8192x1 .f32) : FVec F S16x8192x8192 .f32 :=
  select (cmpi .sle (iotaInDim S16x8192x8192 32 2) (iotaInDim S16x8192x8192 32 1)) (subf (Host.dotGeneral dot_S16x8192x128_S16x8192x128_S16x8192x8192_2_2_1_1_0_0 none q k) (subf (broadcastInDim S16x8192x8192 ![0, 1, 2] bcast_S16x1x8192_S16x8192x8192_0_1_2 a) (broadcastInDim S16x8192x8192 ![0, 1, 2] bcast_S16x8192x1_S16x8192x8192_0_1_2 b))) (broadcastInDim S16x8192x8192 ![] bcast_S_S16x8192x8192 (constant S_ .f32 0xFF800000#32))
/-- The largest score of a row. -/
def peak (s : FVec F S16x8192x8192 .f32) : FVec F S16x8192x1 .f32 :=
  broadcastInDim S16x8192x1 ![0, 1] bcast_S16x8192_S16x8192x1_0_1 (Host.reduce FloatOps.maximumf s (constant S_ .f32 0xFF800000#32) reducesTo_S16x8192x8192_S16x8192_d2 h_S_)
/-- The exponentials of the scores, each row shifted by its peak. -/
def expo (s : FVec F S16x8192x8192 .f32) (t : FVec F S16x8192x1 .f32) : FVec F S16x8192x8192 .f32 :=
  Host.exp (subf s (broadcastInDim S16x8192x8192 ![0, 1, 2] bcast_S16x8192x1_S16x8192x8192_0_1_2 t))
/-- A row's sum of exponentials. -/
def total (e : FVec F S16x8192x8192 .f32) : FVec F S16x8192x1 .f32 :=
  broadcastInDim S16x8192x1 ![0, 1] bcast_S16x8192_S16x8192x1_0_1 (Host.reduceAdd e (constant S_ .f32 0x00000000#32) reducesTo_S16x8192x8192_S16x8192_d2 h_S_)
/-- A row's number, in every column of its head. -/
def spread (a : FVec F S16x8192x1 .f32) : FVec F S8192x2048 .f32 :=
  shapeCast _ (broadcastInDim S8192x16x128 ![0, 1, 2] bcast_S8192x16x1_S8192x16x128_0_1_2 (transpose S8192x16x1 [1, 0, 2] a transposes_S16x8192x1_S8192x16x1_1_0_2)) shapeCasts_S8192x16x128_S8192x2048
/-- A row's correction: the incoming gradient times the output. -/
def corr (o v : FVec F S16x8192x128 .f32) (e : FVec F S16x8192x8192 .f32) (l : FVec F S16x8192x1 .f32) : FVec F S16x8192x1 .f32 :=
  broadcastInDim S16x8192x1 ![0, 1] bcast_S16x8192_S16x8192x1_0_1 (Host.reduceAdd (mulf o (Host.dotGeneral dot_S16x8192x8192_S16x8192x128_S16x8192x128_2_1_1_2_0_0 none (Host.divf e (broadcastInDim S16x8192x8192 ![0, 1, 2] bcast_S16x8192x1_S16x8192x8192_0_1_2 l)) v)) (constant S_ .f32 0x00000000#32) reducesTo_S16x8192x128_S16x8192_d2 h_S_)

section stages
variable (a0 a1 a2 a4 : FVec F S8192x2048 .f32) (a3 : FVec F S8192x16 .f32)

def hostS := scores (heads (scaled a0)) (heads a1) (gates a3) (gateRow (gate0 a3))
def hostM := peak (hostS a0 a1 a3)
def hostE := expo (hostS a0 a1 a3) (hostM a0 a1 a3)
def hostZ := total (hostE a0 a1 a3)
def hostLse := spread (addf (hostM a0 a1 a3) (Host.log (hostZ a0 a1 a3)))
def hostCorr := spread (corr (heads a4) (heads a2) (hostE a0 a1 a3) (hostZ a0 a1 a3))
end stages

section found
variable (m : (ℓ : Loc nD τ sig) → Buf (Elt F) ℓ) (c : Dev nD)

abbrev arg0 : FVec F S8192x2048 .f32 := m ((c.tc : Thread nD τ).loc main_arg0)
abbrev arg1 : FVec F S8192x2048 .f32 := m ((c.tc : Thread nD τ).loc main_arg1)
abbrev arg2 : FVec F S8192x2048 .f32 := m ((c.tc : Thread nD τ).loc main_arg2)
abbrev arg3 : FVec F S8192x16 .f32 := m ((c.tc : Thread nD τ).loc main_arg3)
abbrev arg4 : FVec F S8192x2048 .f32 := m ((c.tc : Thread nD τ).loc main_arg4)

theorem V_q : V m c main_v49 = (truncf .bf16 (scaled (arg0 m c)) bitsLt_bf16_f32 : FVec F S8192x2048 .bf16) := by
  unfold V; after_reads_simp; rfl
theorem V_k : V m c main_v50 = (truncf .bf16 (arg1 m c) bitsLt_bf16_f32 : FVec F S8192x2048 .bf16) := by
  unfold V; after_reads_simp
theorem V_v : V m c main_v51 = (truncf .bf16 (arg2 m c) bitsLt_bf16_f32 : FVec F S8192x2048 .bf16) := by
  unfold V; after_reads_simp
theorem V_o : V m c main_v52 = (truncf .bf16 (arg4 m c) bitsLt_bf16_f32 : FVec F S8192x2048 .bf16) := by
  unfold V; after_reads_simp
theorem V_f0 : V m c main_v4 = gate0 (arg3 m c) := by
  unfold V; after_reads_simp; rfl
theorem V_fk : V m c main_v6 = gates (arg3 m c) := by
  unfold V; after_reads_simp; rfl
theorem V_lse : V m c main_v35 = hostLse (arg0 m c) (arg1 m c) (arg3 m c) := by
  unfold V; after_reads_simp; rfl
theorem V_dl : V m c main_v48 = hostCorr (arg0 m c) (arg1 m c) (arg2 m c) (arg4 m c) (arg3 m c) := by
  unfold V; after_reads_simp; rfl

end found

/-! ## Each array at an index -/

theorem scaled_apply (a : FVec Ideal S8192x2048 .f32) (i : Fin 8192) (j : Fin 2048) :
    (scaled a (ix2 i j) : EReal) = a (ix2 i j) * Ideal.ofBits .f32 0x3DB504F3#32 := by
  unfold scaled
  pointwise

theorem gate0_apply (a : FVec Ideal S8192x16 .f32) (h : Fin 16) (b : Fin 8) :
    (gate0 a (ix4 h b (0 : Fin 1) (0 : Fin 1)) : EReal) = a (ix2 (row b 0) h) := by
  unfold gate0
  pointwise
  rfl

theorem gates_apply (a : FVec Ideal S8192x16 .f32) (h : Fin 16) (i : Fin 8192) :
    (gates a (ix3 h (0 : Fin 1) i) : EReal) = a (ix2 i h) := by
  unfold gates
  pointwise

theorem gateRow_apply (a : FVec Ideal S16x8x1x1 .f32) (h : Fin 16) (i : Fin 8192) (hi : i.val / 1024 < 8) :
    (gateRow a (ix3 h i (0 : Fin 1)) : EReal) = a (ix4 h (⟨i.val / 1024, hi⟩ : Fin 8) (0 : Fin 1) (0 : Fin 1)) := by
  unfold gateRow
  pointwise

theorem heads_apply (a : FVec Ideal S8192x2048 .f32) (h : Fin 16) (i : Fin 8192) (d : Fin 128) :
    (heads a (ix3 h i d) : EReal) = a (ix2 i (col h d)) := by
  unfold heads
  pointwise
  rfl

theorem scores_apply (q k : FVec Ideal S16x8192x128 .f32) (a : FVec Ideal S16x1x8192 .f32) (b : FVec Ideal S16x8192x1 .f32) (h : Fin 16) (i j : Fin 8192) :
    (scores q k a b (ix3 h i j) : EReal)
      = if j ≤ i then (∑ d : Fin 128, (q (ix3 h i d) : EReal) * k (ix3 h j d)) - (a (ix3 h (0 : Fin 1) j) - b (ix3 h i (0 : Fin 1))) else ⊥ := by
  unfold scores
  pointwise
  word_cmp
  by_cases hji : j ≤ i
  · simp [hji]
  · have h' : ¬ j.val ≤ i.val := hji
    rw [if_neg h', if_neg hji]; exact negInf

theorem peak_real (s : FVec Ideal S16x8192x8192 .f32) (h : Fin 16) (i j : Fin 8192) (hr : ⊥ < (s (ix3 h i j) : EReal))
    (ht : ∀ k, (s k : EReal) < ⊤) : ∃ M : ℝ, (peak s (ix3 h i (0 : Fin 1)) : EReal) = M := by
  obtain ⟨M, hM⟩ := reduce_max_real s (constant (F := Ideal) S_ .f32 0xFF800000#32) reducesTo_S16x8192x8192_S16x8192_d2 h_S_ negInf
    (ix2 h i) (ix3 h i j) (by
      funext a; apply Fin.ext
      match a with
      | ⟨0, _⟩ => rfl
      | ⟨1, _⟩ => rfl) hr ht
  refine ⟨M, Eq.trans ?_ hM⟩
  unfold peak
  generalize Host.reduce (FloatOps.maximumf (F := Ideal) (φ := .f32)) s (constant (F := Ideal) S_ .f32 0xFF800000#32) reducesTo_S16x8192x8192_S16x8192_d2 h_S_ = y
  pointwise

theorem expo_apply (s : FVec Ideal S16x8192x8192 .f32) (t : FVec Ideal S16x8192x1 .f32) (h : Fin 16) (i j : Fin 8192) :
    (expo s t (ix3 h i j) : EReal) = Ideal.exp ((s (ix3 h i j) : EReal) - t (ix3 h i (0 : Fin 1))) := by
  unfold expo
  pointwise

theorem total_apply (e : FVec Ideal S16x8192x8192 .f32) (h : Fin 16) (i : Fin 8192) :
    (total e (ix3 h i (0 : Fin 1)) : EReal) = ∑ j : Fin 8192, (e (ix3 h i j) : EReal) := by
  unfold total
  pointwise

theorem spread_apply (a : FVec Ideal S16x8192x1 .f32) (h : Fin 16) (i : Fin 8192) (d : Fin 128) :
    (spread a (ix2 i (col h d)) : EReal) = a (ix3 h i (0 : Fin 1)) := by
  unfold spread
  pointwise
  simp only [col_div]

theorem corr_apply (o v : FVec Ideal S16x8192x128 .f32) (e : FVec Ideal S16x8192x8192 .f32) (l : FVec Ideal S16x8192x1 .f32) (h : Fin 16) (i : Fin 8192) :
    (corr o v e l (ix3 h i (0 : Fin 1)) : EReal)
      = ∑ d : Fin 128, (o (ix3 h i d) : EReal) * ∑ j : Fin 8192, Ideal.div (e (ix3 h i j)) (l (ix3 h i (0 : Fin 1))) * v (ix3 h j d) := by
  unfold corr
  pointwise

theorem lse_apply (t l : FVec Ideal S16x8192x1 .f32) (h : Fin 16) (i : Fin 8192) (d : Fin 128) :
    (spread (addf t (Host.log l)) (ix2 i (col h d)) : EReal) = t (ix3 h i (0 : Fin 1)) + Ideal.log (l (ix3 h i (0 : Fin 1))) := by
  rw [spread_apply]
  pointwise

end Cert.KernelIdeal.Hand

end
-- ==== Proof.HostValue.lean ====
module

public import proofs.«01_k».proof.Proof.HostRead

/-!
# The rows' log-sums and corrections

On finite arguments the host's log-sum of a row is the logarithm of `Z`, moved by the gates of the row and of its
block's first row; the row's correction is `L`.
-/

@[expose] public section

noncomputable section

namespace Cert.KernelIdeal.Hand

open Cert.KernelIdeal.Gen Cert.Attn
open Idealize.ShloMosaic

variable {a0 a1 a2 a4 : FVec Ideal S8192x2048 .f32} {a3 : FVec Ideal S8192x16 .f32}
variable (h0 : Finite a0) (h1 : Finite a1) (h2 : Finite a2) (h4 : Finite a4) (h3 : Finite a3)

/-- How far the host's scores of a row are from the reference's. -/
def shift (D : Data) (h : Fin 16) (i : Fin 8192) : ℝ := D.f h (first i) - D.f h i

include h0 h1 h3 in
theorem S_value (h : Fin 16) (i j : Fin 8192) :
    (hostS a0 a1 a3 (ix3 h i j) : EReal)
      = if j ≤ i then (((data a0 a1 a2 a4 a3).S h i j + shift (data a0 a1 a2 a4 a3) h i : ℝ) : EReal) else ⊥ := by
  have hi : i.val / 1024 < 8 := by omega
  have hf : row ⟨i.val / 1024, hi⟩ 0 = first i := by
    apply Fin.ext; simp only [row, first, Fin.val_zero]; omega
  unfold hostS
  rw [scores_apply, gates_apply, gateRow_apply _ _ _ hi, gate0_apply, hf]
  refine if_congr Iff.rfl ?_ rfl
  simp only [heads_apply, scaled_apply, Q_coe (a0 := a0) (a1 := a1) (a2 := a2) (a4 := a4) (a3 := a3) _ _ _ h0,
    K_coe (a0 := a0) (a1 := a1) (a2 := a2) (a4 := a4) (a3 := a3) _ _ _ h1, f_coe (a0 := a0) (a1 := a1) (a2 := a2) (a4 := a4) (a3 := a3) _ _ h3]
  simp only [← EReal.coe_mul]
  rw [← coe_sum, ← EReal.coe_sub, ← EReal.coe_sub, EReal.coe_eq_coe_iff]
  simp only [Data.S, shift]; ring

include h0 h1 h3 in
theorem peak_value (h : Fin 16) (i : Fin 8192) : ∃ M : ℝ, (hostM a0 a1 a3 (ix3 h i (0 : Fin 1)) : EReal) = M := by
  refine peak_real _ h i i ?_ ?_
  · rw [S_value (a2 := a0) (a4 := a0) h0 h1 h3, if_pos le_rfl]; exact EReal.bot_lt_coe _
  · intro k
    obtain ⟨h', i', j', rfl⟩ : ∃ h' i' j', k = ix3 h' i' j' := ⟨k 0, k 1, k 2, eq_ix3 k⟩
    rw [S_value (a2 := a0) (a4 := a0) h0 h1 h3]
    split
    · exact EReal.coe_lt_top _
    · exact bot_lt_top

include h0 h1 h3 in
/-- A row's peak, exponentials and sum. -/
theorem row_value (h : Fin 16) (i : Fin 8192) : ∃ M : ℝ, (hostM a0 a1 a3 (ix3 h i (0 : Fin 1)) : EReal) = M
    ∧ (∀ j, (hostE a0 a1 a3 (ix3 h i j) : EReal)
        = (((data a0 a1 a2 a4 a3).E h i j * Real.exp (shift (data a0 a1 a2 a4 a3) h i - M) : ℝ) : EReal))
    ∧ (hostZ a0 a1 a3 (ix3 h i (0 : Fin 1)) : EReal)
        = (((data a0 a1 a2 a4 a3).Z h i * Real.exp (shift (data a0 a1 a2 a4 a3) h i - M) : ℝ) : EReal) := by
  obtain ⟨M, hM⟩ := peak_value h0 h1 h3 h i
  have hE : ∀ j, (hostE a0 a1 a3 (ix3 h i j) : EReal)
      = (((data a0 a1 a2 a4 a3).E h i j * Real.exp (shift (data a0 a1 a2 a4 a3) h i - M) : ℝ) : EReal) := by
    intro j
    unfold hostE
    rw [expo_apply, hM, S_value (a2 := a2) (a4 := a4) h0 h1 h3, exp_masked, EReal.coe_eq_coe_iff, Data.E]
    split
    · rw [sub_eq_add_neg (shift _ _ _), Real.exp_add, Real.exp_add (shift _ _ _)]; ring
    · rw [zero_mul, zero_mul]
  refine ⟨M, hM, hE, ?_⟩
  unfold hostZ
  rw [total_apply]
  simp only [hE]
  rw [← coe_sum, ← Finset.sum_mul]; rfl

include h0 h1 h3 in
theorem lse_value (h : Fin 16) (i : Fin 8192) (d : Fin 128) :
    (hostLse a0 a1 a3 (ix2 i (col h d)) : EReal)
      = ((Real.log ((data a0 a1 a2 a4 a3).Z h i) + shift (data a0 a1 a2 a4 a3) h i : ℝ) : EReal) := by
  obtain ⟨M, hM, -, hZ⟩ := row_value (a2 := a2) (a4 := a4) h0 h1 h3 h i
  have hz := (data a0 a1 a2 a4 a3).Z_pos h i
  have hp := mul_pos hz (Real.exp_pos (shift (data a0 a1 a2 a4 a3) h i - M))
  unfold hostLse
  rw [lse_apply, hM, hZ, Ideal.log_coe, if_neg (not_le.mpr hp), ← EReal.coe_add, EReal.coe_eq_coe_iff, Real.log_mul hz.ne' (Real.exp_pos _).ne', Real.log_exp]
  ring

include h0 h1 h2 h3 h4 in
theorem corr_value (h : Fin 16) (i : Fin 8192) (d : Fin 128) :
    (hostCorr a0 a1 a2 a4 a3 (ix2 i (col h d)) : EReal) = ((data a0 a1 a2 a4 a3).L h i : ℝ) := by
  obtain ⟨M, -, hE, hZ⟩ := row_value (a2 := a2) (a4 := a4) h0 h1 h3 h i
  have hz := ((data a0 a1 a2 a4 a3).Z_pos h i).ne'
  have hc := (Real.exp_pos (shift (data a0 a1 a2 a4 a3) h i - M)).ne'
  unfold hostCorr
  rw [spread_apply, corr_apply]
  simp only [hE, hZ, div_real _ _ (mul_ne_zero hz hc), mul_div_mul_right _ _ hc, heads_apply,
    V_coe (a0 := a0) (a1 := a1) (a2 := a2) (a4 := a4) (a3 := a3) _ _ _ h2, O_coe (a0 := a0) (a1 := a1) (a2 := a2) (a4 := a4) (a3 := a3) _ _ _ h4]
  rw [← corr_real]
  simp only [coe_sum, EReal.coe_mul, Data.P]

end Cert.KernelIdeal.Hand

end
-- ==== Proof.Inputs.lean ====
module

public import proofs.«01_k».proof.Proof.Data
public import proofs.«01_k».proof.Proof.HostValue
public import Idealize.ShloMosaic.Lib.Pipeline.ValueKit.Geometry

/-!
# What a grid point is given

A point's eight input blocks, entry by entry, as entries of the arrays the kernel is called with.
-/

@[expose] public section

set_option maxRecDepth 16384

noncomputable section

namespace Cert.KernelIdeal.Hand

open Cert.KernelIdeal.Gen Cert.Attn
open Idealize.ShloMosaic Idealize.ShloMosaic.TcCoe Idealize.SL.Sem
open Idealize.ShloMosaic.Pipeline

/-- A point's head. -/
def hd (t : Fin grid0.N) : Fin 16 := grid0.coords t 0
/-- A point's query block. -/
def qb (t : Fin grid0.N) : Fin 8 := qblk (grid0.coords t)
/-- A point's key block. -/
def kb (t : Fin grid0.N) : Fin 8 := ⟨ki (grid0.coords t 1).val, (ki_le (grid0.coords t 1)).trans_lt (qi_lt _)⟩

variable {F : FTy → Type} [FloatOps F]

theorem index_q (t : Fin grid0.N) : ((cfgM (F := F)).win 0).index t = ![(qb t).val, (hd t).val] := map_q _ _ _
theorem index_k (t : Fin grid0.N) : ((cfgM (F := F)).win 1).index t = ![(kb t).val, (hd t).val] := map_k _ _ _
theorem index_f0 (t : Fin grid0.N) : ((cfgM (F := F)).win 3).index t = ![(hd t).val, (qb t).val, 0, 0] := map_f0 _ _ _
theorem index_fk (t : Fin grid0.N) : ((cfgM (F := F)).win 4).index t = ![(hd t).val, 0, (kb t).val] := map_fk _ _ _

/-- Where the query block's entries lie in a matrix. -/
theorem place_q (t : Fin grid0.N) (r : Fin 1024) (d : Fin 128) :
    (((cfgM (F := F)).win 0).rect t).emb (ix2 r d) = (ix2 (row (qb t) r) (col (hd t) d) : S8192x2048.Idx) := by
  have h := index_q (F := F) t
  blk_ext [h, row, col]

/-- Where the key block's entries lie in a matrix. -/
theorem place_k (t : Fin grid0.N) (r : Fin 1024) (d : Fin 128) :
    (((cfgM (F := F)).win 1).rect t).emb (ix2 r d) = (ix2 (row (kb t) r) (col (hd t) d) : S8192x2048.Idx) := by
  have h := index_k (F := F) t
  blk_ext [h, row, col]

/-- Where the query block's first gate lies. -/
theorem place_f0 (t : Fin grid0.N) :
    (((cfgM (F := F)).win 3).rect t).emb (ix4 (0 : Fin 1) (0 : Fin 1) (0 : Fin 1) (0 : Fin 1)) = (ix4 (hd t) (qb t) (0 : Fin 1) (0 : Fin 1) : S16x8x1x1.Idx) := by
  have h := index_f0 (F := F) t
  blk_ext [h, row, col]

/-- Where the key block's gates lie. -/
theorem place_fk (t : Fin grid0.N) (r : Fin 1024) :
    (((cfgM (F := F)).win 4).rect t).emb (ix3 (0 : Fin 1) (0 : Fin 1) r) = (ix3 (hd t) (0 : Fin 1) (row (kb t) r) : S16x1x8192.Idx) := by
  have h := index_fk (F := F) t
  blk_ext [h, row, col]

section entries
variable (m : (ℓ : Loc nD τ sig) → Buf (Elt F) ℓ) (c : Dev nD) (t : Fin grid0.N)

theorem ins_q (r : Fin 1024) (d : Fin 128) : (ins m c t).q (ix2 r d) = V m c main_v49 (ix2 (row (qb t) r) (col (hd t) d)) :=
  congrArg (V m c main_v49) (place_q t r d)
theorem ins_k (r : Fin 1024) (d : Fin 128) : (ins m c t).k (ix2 r d) = V m c main_v50 (ix2 (row (kb t) r) (col (hd t) d)) :=
  congrArg (V m c main_v50) (place_k t r d)
theorem ins_v (r : Fin 1024) (d : Fin 128) : (ins m c t).v (ix2 r d) = V m c main_v51 (ix2 (row (kb t) r) (col (hd t) d)) :=
  congrArg (V m c main_v51) (place_k t r d)
theorem ins_f0 : (ins m c t).f0 (ix4 (0 : Fin 1) (0 : Fin 1) (0 : Fin 1) (0 : Fin 1)) = V m c main_v4 (ix4 (hd t) (qb t) (0 : Fin 1) (0 : Fin 1)) :=
  congrArg (V m c main_v4) (place_f0 t)
theorem ins_fk (r : Fin 1024) : (ins m c t).fk (ix3 (0 : Fin 1) (0 : Fin 1) r) = V m c main_v6 (ix3 (hd t) (0 : Fin 1) (row (kb t) r)) :=
  congrArg (V m c main_v6) (place_fk t r)
theorem ins_o (r : Fin 1024) (d : Fin 128) : (ins m c t).dO (ix2 r d) = V m c main_v52 (ix2 (row (qb t) r) (col (hd t) d)) :=
  congrArg (V m c main_v52) (place_q t r d)
theorem ins_lse (r : Fin 1024) (d : Fin 128) : (ins m c t).lse (ix2 r d) = V m c main_v35 (ix2 (row (qb t) r) (col (hd t) d)) :=
  congrArg (V m c main_v35) (place_q t r d)
theorem ins_dl (r : Fin 1024) (d : Fin 128) : (ins m c t).dl (ix2 r d) = V m c main_v48 (ix2 (row (qb t) r) (col (hd t) d)) :=
  congrArg (V m c main_v48) (place_q t r d)

end entries

end Cert.KernelIdeal.Hand

end
-- ==== Proof.Block.lean ====
module

public import proofs.«01_k».proof.Proof.Body
public import Idealize.ShloMosaic.Lib.Pointwise
public import Idealize.ShloMosaic.Lib.WordCmp

/-!
# One block of the backward pass, entry by entry

What the kernel computes for one pair of a query block and a key block, read at an index in extended reals.
-/

@[expose] public section

noncomputable section

namespace Cert.KernelIdeal.Hand

open Cert.KernelIdeal.Gen
open Idealize.ShloMosaic

/-- The probability of key `c` at query `r`, without the mask. -/
def prob (X : Ins Ideal) (r c : Fin 1024) : EReal :=
  Ideal.exp ((∑ d : Fin 128, X.q (ix2 r d) * X.k (ix2 c d)) - (X.fk (ix3 0 0 c) - X.f0 (ix4 0 0 0 0)) - X.lse (ix2 r 0))

/-- The gradient of a score over its probability. -/
def slope (X : Ins Ideal) (r c : Fin 1024) : EReal :=
  (∑ d : Fin 128, X.dO (ix2 r d) * X.v (ix2 c d)) - X.dl (ix2 r 0)

theorem pay10_apply (X : Ins Ideal) (r c : Fin 1024) : k0_pay10 X.q X.k X.f0 X.fk X.lse (ix2 r c) = prob X r c := by
  unfold k0_pay10 prob; pointwise

theorem pay11_apply (X : Ins Ideal) (r c : Fin 1024) :
    k0_pay11 X.q X.k X.f0 X.fk X.lse X.dO X.v X.dl (ix2 r c) = prob X r c * slope X r c := by
  rw [← pay10_apply]; unfold k0_pay11 slope; pointwise

theorem pay18_apply (X : Ins Ideal) (r c : Fin 1024) :
    k0_pay18 X.q X.k X.f0 X.fk X.lse (ix2 r c) = if c ≤ r then prob X r c else 0 := by
  unfold k0_pay18 prob; pointwise
  word_cmp
  by_cases h : c ≤ r
  · simp [h]
  · simp [h]

theorem pay14_apply (s : FVec Ideal S1024x128 .f32) (o : FVec Ideal S1024x128 .bf16) (p : FVec Ideal S1024x1024 .bf16) (c : Fin 1024) (d : Fin 128) :
    k0_pay14 s o p (constant S1024x128 .f32 0x00000000#32) (ix2 c d) = s (ix2 c d) + ∑ r : Fin 1024, p (ix2 r c) * o (ix2 r d) := by
  unfold k0_pay14; pointwise

theorem pay15_apply (g : FVec Ideal S1024x1024 .f32) (s : FVec Ideal S1024x128 .f32) (q : FVec Ideal S1024x128 .bf16) (c : Fin 1024) (d : Fin 128) :
    k0_pay15 g s q (ix2 c d) = s (ix2 c d) + ∑ r : Fin 1024, g (ix2 r c) * q (ix2 r d) := by
  unfold k0_pay15; pointwise

theorem pay16_apply (g : FVec Ideal S1024x1024 .f32) (s : FVec Ideal S1x1024 .f32) (c : Fin 1024) :
    k0_pay16 g s (ix2 0 c) = s (ix2 0 c) - ∑ r : Fin 1024, g (ix2 r c) := by
  unfold k0_pay16; pointwise

theorem pay17_apply (g : FVec Ideal S1024x1024 .f32) (s : FVec Ideal S1024x128 .f32) (k : FVec Ideal S1024x128 .bf16) (r : Fin 1024) (d : Fin 128) :
    k0_pay17 g s k (ix2 r d) = s (ix2 r d) + ∑ c : Fin 1024, g (ix2 r c) * k (ix2 c d) := by
  unfold k0_pay17; pointwise

theorem pay6_apply (g : FVec Ideal S1024x1024 .f32) (s : FVec Ideal S1024x128 .f32) (r : Fin 1024) (d : Fin 128) :
    k0_pay6 g s (ix2 r d) = s (ix2 r d) + ∑ c : Fin 1024, g (ix2 r c) := by
  unfold k0_pay6; pointwise

theorem pay7_apply (g : FVec Ideal S1024x1024 .f32) (s : FVec Ideal S1024x128 .f32) (r : Fin 1024) (d : Fin 128) :
    k0_pay7 g s (ix2 r d) = s (ix2 r d) + ∑ c : Fin 1024, g (ix2 r c) := by
  unfold k0_pay7; pointwise

theorem pay12_apply (o : FVec Ideal S1024x128 .bf16) (i) : k0_pay12 o i = o i := by
  unfold k0_pay12; pointwise

theorem pay13_apply (X : Ins Ideal) (r c : Fin 1024) : k0_pay13 X.q X.k X.f0 X.fk X.lse (ix2 r c) = prob X r c := by
  rw [← pay10_apply]; unfold k0_pay13; pointwise

theorem pay19_apply (X : Ins Ideal) (r c : Fin 1024) :
    k0_pay19 X.q X.k X.f0 X.fk X.lse X.dO X.v X.dl (ix2 r c) = (if c ≤ r then prob X r c else 0) * slope X r c := by
  rw [← pay18_apply]; unfold k0_pay19 slope; pointwise

theorem pay20_apply (p : FVec Ideal S1024x1024 .f32) (s : FVec Ideal S1024x128 .f32) (o : FVec Ideal S1024x128 .bf16) (c : Fin 1024) (d : Fin 128) :
    k0_pay20 p s o (ix2 c d) = s (ix2 c d) + ∑ r : Fin 1024, p (ix2 r c) * o (ix2 r d) := by
  unfold k0_pay20; pointwise

theorem pay21_apply (g : FVec Ideal S1024x1024 .f32) (s : FVec Ideal S1024x128 .f32) (q : FVec Ideal S1024x128 .bf16) (c : Fin 1024) (d : Fin 128) :
    k0_pay21 g s q (ix2 c d) = s (ix2 c d) + ∑ r : Fin 1024, g (ix2 r c) * q (ix2 r d) := by
  unfold k0_pay21; pointwise

theorem pay22_apply (g : FVec Ideal S1024x1024 .f32) (s : FVec Ideal S1x1024 .f32) (c : Fin 1024) :
    k0_pay22 g s (ix2 0 c) = s (ix2 0 c) - ∑ r : Fin 1024, g (ix2 r c) := by
  unfold k0_pay22; pointwise

theorem pay23_apply (g : FVec Ideal S1024x1024 .f32) (s : FVec Ideal S1024x128 .f32) (k : FVec Ideal S1024x128 .bf16) (r : Fin 1024) (d : Fin 128) :
    k0_pay23 g s k (ix2 r d) = s (ix2 r d) + ∑ c : Fin 1024, g (ix2 r c) * k (ix2 c d) := by
  unfold k0_pay23; pointwise

theorem pay8_apply (s : FVec Ideal S1024x128 .f32) (i) : ((k0_pay8 s : FVec Ideal S1024x128 .bf16) i : EReal) = s i := by
  unfold k0_pay8; pointwise

theorem pay9_apply (s : FVec Ideal S1x1024 .f32) (c : Fin 1024) : k0_pay9 s (ix3 0 0 c) = s (ix2 0 c) := by
  unfold k0_pay9; pointwise

theorem pay1_apply (i) : (k0_pay1 : FVec Ideal S8192x128 .f32) i = 0 := by unfold k0_pay1; pointwise
theorem pay2_apply (i) : (k0_pay2 : FVec Ideal S8192x128 .f32) i = 0 := by unfold k0_pay2; pointwise
theorem pay3_apply (i) : (k0_pay3 : FVec Ideal S1024x128 .f32) i = 0 := by unfold k0_pay3; pointwise
theorem pay4_apply (i) : (k0_pay4 : FVec Ideal S1024x128 .f32) i = 0 := by unfold k0_pay4; pointwise
theorem pay5_apply (i) : (k0_pay5 : FVec Ideal S1x1024 .f32) i = 0 := by unfold k0_pay5; pointwise

end Cert.KernelIdeal.Hand

end
-- ==== Proof.Given.lean ====
module

public import proofs.«01_k».proof.Proof.Inputs
public import proofs.«01_k».proof.Proof.Block

/-!
# What a grid point computes

A point's probabilities and score gradients are the entries of the two tables `P` and `G` at the rows of its query block
and of its key block.
-/

@[expose] public section

set_option maxRecDepth 16384

noncomputable section

namespace Cert.KernelIdeal.Hand

open Cert.KernelIdeal.Gen Cert.Attn
open Idealize.ShloMosaic Idealize.ShloMosaic.TcCoe Idealize.SL.Sem

variable (m : (ℓ : Loc nD τ sig) → Buf (Elt Ideal) ℓ) (c : Dev nD)

/-- The arguments' entries as reals. -/
abbrev dat : Data := data (arg0 m c) (arg1 m c) (arg2 m c) (arg4 m c) (arg3 m c)

/-- The arguments hold no infinity. -/
structure AllFinite : Prop where
  a0 : Finite (arg0 m c)
  a1 : Finite (arg1 m c)
  a2 : Finite (arg2 m c)
  a4 : Finite (arg4 m c)
  a3 : Finite (arg3 m c)

variable {m c}
variable (H : AllFinite m c) (t : Fin grid0.N)
include H

theorem q_coe (r : Fin 1024) (d : Fin 128) : ((ins m c t).q (ix2 r d) : EReal) = ((dat m c).Q (hd t) (row (qb t) r) d : ℝ) := by
  rw [ins_q, V_q]
  exact (scaled_apply _ _ _).trans (Q_coe (hd t) (row (qb t) r) d H.a0)
theorem k_coe (r : Fin 1024) (d : Fin 128) : ((ins m c t).k (ix2 r d) : EReal) = ((dat m c).K (hd t) (row (kb t) r) d : ℝ) := by
  rw [ins_k, V_k]
  exact K_coe (hd t) (row (kb t) r) d H.a1
theorem v_coe (r : Fin 1024) (d : Fin 128) : ((ins m c t).v (ix2 r d) : EReal) = ((dat m c).V (hd t) (row (kb t) r) d : ℝ) := by
  rw [ins_v, V_v]
  exact V_coe (hd t) (row (kb t) r) d H.a2
theorem o_coe (r : Fin 1024) (d : Fin 128) : ((ins m c t).dO (ix2 r d) : EReal) = ((dat m c).O (hd t) (row (qb t) r) d : ℝ) := by
  rw [ins_o, V_o]
  exact O_coe (hd t) (row (qb t) r) d H.a4
theorem f0_coe : ((ins m c t).f0 (ix4 (0 : Fin 1) (0 : Fin 1) (0 : Fin 1) (0 : Fin 1)) : EReal) = ((dat m c).f (hd t) (row (qb t) 0) : ℝ) := by
  rw [ins_f0, V_f0, gate0_apply]
  exact f_coe (hd t) (row (qb t) 0) H.a3
theorem fk_coe (r : Fin 1024) : ((ins m c t).fk (ix3 (0 : Fin 1) (0 : Fin 1) r) : EReal) = ((dat m c).f (hd t) (row (kb t) r) : ℝ) := by
  rw [ins_fk, V_fk, gates_apply]
  exact f_coe (hd t) (row (kb t) r) H.a3
theorem lse_coe (r : Fin 1024) (d : Fin 128) : ((ins m c t).lse (ix2 r d) : EReal)
    = ((Real.log ((dat m c).Z (hd t) (row (qb t) r)) + ((dat m c).f (hd t) (row (qb t) 0) - (dat m c).f (hd t) (row (qb t) r)) : ℝ) : EReal) := by
  rw [ins_lse, V_lse, lse_value (a2 := arg2 m c) (a4 := arg4 m c) H.a0 H.a1 H.a3, shift, first_row]
theorem dl_coe (r : Fin 1024) (d : Fin 128) : ((ins m c t).dl (ix2 r d) : EReal) = ((dat m c).L (hd t) (row (qb t) r) : ℝ) := by
  rw [ins_dl, V_dl, corr_value H.a0 H.a1 H.a2 H.a4 H.a3]

/-- A visible pair's probability. -/
theorem prob_value (r k : Fin 1024) (hle : row (kb t) k ≤ row (qb t) r) :
    prob (ins m c t) r k = ((dat m c).P (hd t) (row (qb t) r) (row (kb t) k) : ℝ) := by
  unfold prob
  rw [f0_coe H, fk_coe H, lse_coe H]
  simp only [q_coe H, k_coe H, ← EReal.coe_mul]
  rw [← coe_sum, ← EReal.coe_sub, ← EReal.coe_sub, ← EReal.coe_sub, Ideal.exp_coe, EReal.coe_eq_coe_iff]
  have hz := (dat m c).Z_pos (hd t) (row (qb t) r)
  rw [Data.P, Data.E, if_pos hle]
  conv_rhs => rw [← Real.exp_log hz, ← Real.exp_sub]
  congr 1
  rw [Data.S]; ring

/-- A score's gradient over its probability. -/
theorem slope_value (r k : Fin 1024) : slope (ins m c t) r k
    = (((dat m c).dP (hd t) (row (qb t) r) (row (kb t) k) - (dat m c).L (hd t) (row (qb t) r) : ℝ) : EReal) := by
  unfold slope
  rw [dl_coe H]
  simp only [o_coe H, v_coe H, ← EReal.coe_mul]
  rw [← coe_sum, ← EReal.coe_sub]; rfl

omit H in
/-- Before the diagonal every pair is visible. -/
theorem visible_past {b k : Fin 8} (h : k < b) (r j : Fin 1024) : row k j ≤ row b r := by
  have : k.val < b.val := h
  show 1024 * k.val + j.val ≤ 1024 * b.val + r.val
  omega
omit H in
/-- On the diagonal a pair is visible when its place in the block is. -/
theorem visible_diag {b k : Fin 8} (h : b = k) (r j : Fin 1024) : row k j ≤ row b r ↔ j ≤ r := by
  subst h
  show 1024 * b.val + j.val ≤ 1024 * b.val + r.val ↔ j.val ≤ r.val
  omega

/-- The probabilities before the diagonal. -/
theorem past_P (h : kb t < qb t) (r k : Fin 1024) :
    ((k0_pay13 (ins m c t).q (ins m c t).k (ins m c t).f0 (ins m c t).fk (ins m c t).lse : FVec Ideal S1024x1024 .bf16) (ix2 r k) : EReal)
      = ((dat m c).P (hd t) (row (qb t) r) (row (kb t) k) : ℝ) :=
  (pay13_apply _ r k).trans (prob_value H t r k (visible_past h r k))

/-- The score gradients before the diagonal. -/
theorem past_G (h : kb t < qb t) (r k : Fin 1024) :
    (k0_pay11 (ins m c t).q (ins m c t).k (ins m c t).f0 (ins m c t).fk (ins m c t).lse (ins m c t).dO (ins m c t).v (ins m c t).dl (ix2 r k) : EReal)
      = ((dat m c).G (hd t) (row (qb t) r) (row (kb t) k) : ℝ) := by
  rw [pay11_apply, prob_value H t r k (visible_past h r k), slope_value H, ← EReal.coe_mul]; rfl

/-- The masked probabilities on the diagonal. -/
theorem diag_prob (h : qb t = kb t) (r k : Fin 1024) :
    (if k ≤ r then prob (ins m c t) r k else 0) = ((dat m c).P (hd t) (row (qb t) r) (row (kb t) k) : ℝ) := by
  by_cases hk : k ≤ r
  · rw [if_pos hk, prob_value H t r k ((visible_diag h r k).mpr hk)]
  · rw [if_neg hk, Data.P_hidden _ _ _ _ (fun h' => hk ((visible_diag h r k).mp h')), EReal.coe_zero]

/-- The probabilities on the diagonal. -/
theorem diag_P (h : qb t = kb t) (r k : Fin 1024) :
    (k0_pay18 (ins m c t).q (ins m c t).k (ins m c t).f0 (ins m c t).fk (ins m c t).lse (ix2 r k) : EReal)
      = ((dat m c).P (hd t) (row (qb t) r) (row (kb t) k) : ℝ) :=
  (pay18_apply _ r k).trans (diag_prob H t h r k)

/-- The score gradients on the diagonal. -/
theorem diag_G (h : qb t = kb t) (r k : Fin 1024) :
    (k0_pay19 (ins m c t).q (ins m c t).k (ins m c t).f0 (ins m c t).fk (ins m c t).lse (ins m c t).dO (ins m c t).v (ins m c t).dl (ix2 r k) : EReal)
      = ((dat m c).G (hd t) (row (qb t) r) (row (kb t) k) : ℝ) := by
  rw [pay19_apply, diag_prob H t h, slope_value H, ← EReal.coe_mul]; rfl

end Cert.KernelIdeal.Hand

end
-- ==== Proof.Steps.lean ====
module

public import proofs.«01_k».proof.Proof.Given

/-!
# What a grid point adds to the accumulators

The accumulators as tables of reals, and a point's step on them.
-/

@[expose] public section

set_option maxRecDepth 16384

noncomputable section

namespace Cert.KernelIdeal.Hand

open Cert.KernelIdeal.Gen Cert.Attn
open Idealize.ShloMosaic Idealize.ShloMosaic.TcCoe Idealize.SL.Sem

/-! ## Rows of a block -/

theorem getRows_apply (n : Fin 8) (x : FVec Ideal S8192x128 .f32) (r : Fin 1024) (d : Fin 128) :
    getRows (F := Ideal) n x (ix2 r d) = x (ix2 (row n r) d) := by
  refine congrArg x ?_
  funext a; apply Fin.ext
  match a with
  | ⟨0, _⟩ => show 1024 * n.val + 1 * r.val = 1024 * n.val + r.val; omega
  | ⟨1, _⟩ => show 0 + 1 * d.val = d.val; omega

theorem putRows_apply (n b : Fin 8) (x : FVec Ideal S8192x128 .f32) (w : FVec Ideal S1024x128 .f32) (r : Fin 1024) (d : Fin 128) :
    (putRows (F := Ideal) n x w (ix2 (row b r) d) : EReal) = if b = n then (w (ix2 r d) : EReal) else x (ix2 (row b r) d) := by
  refine (getRows_apply b (putRows (F := Ideal) n x w) r d).symm.trans ?_
  rw [← getRows_apply b x]
  by_cases h : b = n
  · subst h
    rw [if_pos rfl]
    exact congrFun (VecWindow.window_put_same (s := S8192x128) x ![1024 * b.val, 0] S1024x128.size (rows_inb b) w) _
  · rw [if_neg h]
    refine congrFun (VecWindow.window_put_of_disjoint (s := S8192x128) x ![1024 * n.val, 0] S1024x128.size ![1024 * b.val, 0] S1024x128.size (rows_inb b) w (0 : Fin 2) ?_) _
    have : b.val ≠ n.val := fun e => h (Fin.ext e)
    show 1024 * b.val + 1024 ≤ 1024 * n.val ∨ 1024 * n.val + 1024 ≤ 1024 * b.val
    omega

/-! ## The accumulators as reals -/

/-- The accumulators' entries. -/
structure Acc where
  dq : Fin 8 → Fin 1024 → Fin 128 → ℝ
  fq : Fin 8 → Fin 1024 → ℝ
  dk : Fin 1024 → Fin 128 → ℝ
  dv : Fin 1024 → Fin 128 → ℝ
  fk : Fin 1024 → ℝ

/-- What a key block adds to a query's gradient. -/
def partQ (D : Data) (h : Fin 16) (i : Fin 8192) (k : Fin 8) (d : Fin 128) : ℝ := ∑ j : Fin 1024, D.G h i (row k j) * D.K h (row k j) d
/-- What a key block adds to a query gate's gradient. -/
def partFq (D : Data) (h : Fin 16) (i : Fin 8192) (k : Fin 8) : ℝ := ∑ j : Fin 1024, D.G h i (row k j)
/-- What a query block adds to a key's gradient. -/
def partK (D : Data) (h : Fin 16) (b : Fin 8) (j : Fin 8192) (d : Fin 128) : ℝ := ∑ r : Fin 1024, D.G h (row b r) j * D.Q h (row b r) d
/-- What a query block adds to a value's gradient. -/
def partV (D : Data) (h : Fin 16) (b : Fin 8) (j : Fin 8192) (d : Fin 128) : ℝ := ∑ r : Fin 1024, D.P h (row b r) j * D.O h (row b r) d
/-- What a query block takes from a key gate's gradient. -/
def partFk (D : Data) (h : Fin 16) (b : Fin 8) (j : Fin 8192) : ℝ := ∑ r : Fin 1024, D.G h (row b r) j

/-- The accumulators after the pair of query block `b` and key block `k`. -/
def Acc.add (D : Data) (h : Fin 16) (b k : Fin 8) (a : Acc) : Acc where
  dq b' r d := a.dq b' r d + if b' = b then partQ D h (row b' r) k d else 0
  fq b' r := a.fq b' r + if b' = b then partFq D h (row b' r) k else 0
  dk j d := a.dk j d + partK D h b (row k j) d
  dv j d := a.dv j d + partV D h b (row k j) d
  fk j := a.fk j - partFk D h b (row k j)

/-- The accumulators with the key block's cleared. -/
def Acc.clearK (a : Acc) : Acc := { a with dk := fun _ _ => 0, dv := fun _ _ => 0, fk := fun _ => 0 }

/-- The accumulators cleared. -/
def Acc.zero : Acc := ⟨fun _ _ _ => 0, fun _ _ => 0, fun _ _ => 0, fun _ _ => 0, fun _ => 0⟩

/-- The buffers hold the accumulators. -/
structure Holds (s : St Ideal) (a : Acc) : Prop where
  dq : ∀ b r d, (s.dq (ix2 (row b r) d) : EReal) = (a.dq b r d : ℝ)
  fq : ∀ b r d, (s.dfq (ix2 (row b r) d) : EReal) = (a.fq b r : ℝ)
  dk : ∀ j d, (s.dk (ix2 j d) : EReal) = (a.dk j d : ℝ)
  dv : ∀ j d, (s.dv (ix2 j d) : EReal) = (a.dv j d : ℝ)
  fk : ∀ j, (s.df (ix2 (0 : Fin 1) j) : EReal) = (a.fk j : ℝ)

theorem Holds.same {s s' : St Ideal} {a : Acc} (hs : Same s' s) (h : Holds s a) : Holds s' a := by
  obtain ⟨h1, h2, h3, h4, h5⟩ := hs
  exact ⟨h1 ▸ h.dq, h2 ▸ h.fq, h3 ▸ h.dk, h4 ▸ h.dv, h5 ▸ h.fk⟩

theorem Holds.clearK {s : St Ideal} {a : Acc} (h : Holds s a) : Holds (clearKeys s) a.clearK where
  dq := h.dq
  fq := h.fq
  dk j d := (pay3_apply (ix2 j d)).trans EReal.coe_zero.symm
  dv j d := (pay4_apply (ix2 j d)).trans EReal.coe_zero.symm
  fk j := (pay5_apply (ix2 (0 : Fin 1) j)).trans EReal.coe_zero.symm

theorem Holds.zero (s : St Ideal) : Holds (clearKeys (clearHead s)) Acc.zero where
  dq b r d := (pay1_apply (ix2 (row b r) d)).trans EReal.coe_zero.symm
  fq b r d := (pay2_apply (ix2 (row b r) d)).trans EReal.coe_zero.symm
  dk j d := (pay3_apply (ix2 j d)).trans EReal.coe_zero.symm
  dv j d := (pay4_apply (ix2 j d)).trans EReal.coe_zero.symm
  fk j := (pay5_apply (ix2 (0 : Fin 1) j)).trans EReal.coe_zero.symm

/-- A sum of products of reals added to a real. -/
theorem add_dot {n : ℕ} (x : ℝ) (f g : Fin n → EReal) (u v : Fin n → ℝ) (hf : ∀ i, f i = u i) (hg : ∀ i, g i = v i) :
    (x : EReal) + ∑ i, f i * g i = ((x + ∑ i, u i * v i : ℝ) : EReal) := by
  rw [EReal.coe_add, coe_sum]
  exact congrArg _ (Finset.sum_congr rfl fun i _ => by rw [hf, hg, EReal.coe_mul])
theorem add_row {n : ℕ} (x : ℝ) (f : Fin n → EReal) (u : Fin n → ℝ) (hf : ∀ i, f i = u i) :
    (x : EReal) + ∑ i, f i = ((x + ∑ i, u i : ℝ) : EReal) := by
  rw [EReal.coe_add, coe_sum]
  exact congrArg _ (Finset.sum_congr rfl fun i _ => hf i)
theorem sub_row {n : ℕ} (x : ℝ) (f : Fin n → EReal) (u : Fin n → ℝ) (hf : ∀ i, f i = u i) :
    (x : EReal) - ∑ i, f i = ((x - ∑ i, u i : ℝ) : EReal) := by
  rw [EReal.coe_sub, coe_sum]
  exact congrArg _ (Finset.sum_congr rfl fun i _ => hf i)

variable {m : (ℓ : Loc nD τ sig) → Buf (Elt Ideal) ℓ} {c : Dev nD}
variable (H : AllFinite m c) (t : Fin grid0.N)
include H

/-- A point before the diagonal adds its pair. -/
theorem past_adds (h : kb t < qb t) {s : St Ideal} {a : Acc} (hs : Holds s a) :
    Holds (past (ins m c t) (qb t) s) (a.add (dat m c) (hd t) (qb t) (kb t)) where
  dq b r d := by
    refine (putRows_apply _ _ _ _ _ _).trans ?_
    by_cases hb : b = qb t
    · subst hb
      rw [if_pos rfl, pay17_apply, getRows_apply, hs.dq]
      refine (add_dot _ _ _ _ _ (fun k => past_G H t h r k) (fun k => k_coe H t k d)).trans ?_
      simp only [Acc.add, if_true]; rfl
    · rw [if_neg hb, hs.dq]; simp only [Acc.add, if_neg hb, add_zero]
  fq b r d := by
    refine (putRows_apply _ _ _ _ _ _).trans ?_
    by_cases hb : b = qb t
    · subst hb
      rw [if_pos rfl, pay6_apply, getRows_apply, hs.fq]
      refine (add_row _ _ _ (fun k => past_G H t h r k)).trans ?_
      simp only [Acc.add, if_true]; rfl
    · rw [if_neg hb, hs.fq]; simp only [Acc.add, if_neg hb, add_zero]
  dk j d := by
    refine (pay15_apply _ _ _ _ _).trans ?_
    rw [hs.dk]
    exact add_dot _ _ _ _ _ (fun r => past_G H t h r j) (fun r => q_coe H t r d)
  dv j d := by
    refine (pay14_apply _ _ _ _ _).trans ?_
    rw [hs.dv]
    exact add_dot _ _ _ _ _ (fun r => past_P H t h r j) (fun r => (pay12_apply _ _).trans (o_coe H t r d))
  fk j := by
    refine (pay16_apply _ _ _).trans ?_
    rw [hs.fk]
    exact sub_row _ _ _ (fun r => past_G H t h r j)

/-- A point on the diagonal adds its pair. -/
theorem diag_adds (h : qb t = kb t) {s : St Ideal} {a : Acc} (hs : Holds s a) :
    Holds (diag (ins m c t) (qb t) s) (a.add (dat m c) (hd t) (qb t) (kb t)) where
  dq b r d := by
    refine (putRows_apply _ _ _ _ _ _).trans ?_
    by_cases hb : b = qb t
    · subst hb
      rw [if_pos rfl, pay23_apply, getRows_apply, hs.dq]
      refine (add_dot _ _ _ _ _ (fun k => diag_G H t h r k) (fun k => k_coe H t k d)).trans ?_
      simp only [Acc.add, if_true]; rfl
    · rw [if_neg hb, hs.dq]; simp only [Acc.add, if_neg hb, add_zero]
  fq b r d := by
    refine (putRows_apply _ _ _ _ _ _).trans ?_
    by_cases hb : b = qb t
    · subst hb
      rw [if_pos rfl, pay7_apply, getRows_apply, hs.fq]
      refine (add_row _ _ _ (fun k => diag_G H t h r k)).trans ?_
      simp only [Acc.add, if_true]; rfl
    · rw [if_neg hb, hs.fq]; simp only [Acc.add, if_neg hb, add_zero]
  dk j d := by
    refine (pay21_apply _ _ _ _ _).trans ?_
    rw [hs.dk]
    exact add_dot _ _ _ _ _ (fun r => diag_G H t h r j) (fun r => q_coe H t r d)
  dv j d := by
    refine (pay20_apply _ _ _ _ _).trans ?_
    rw [hs.dv]
    exact add_dot _ _ _ _ _ (fun r => diag_P H t h r j) (fun r => o_coe H t r d)
  fk j := by
    refine (pay22_apply _ _ _).trans ?_
    rw [hs.fk]
    exact sub_row _ _ _ (fun r => diag_G H t h r j)

end Cert.KernelIdeal.Hand

end
-- ==== Proof.Order.lean ====
module

public import proofs.«01_k».proof.Proof.Steps

/-!
# The order of a head's pairs

The 36 points of a head visit every pair of a key block and a query block at or after it once. A sum over the points that
visit a block is therefore a sum over all blocks, since a pair above the diagonal adds nothing.
-/

@[expose] public section

set_option maxRecDepth 16384

noncomputable section

namespace Cert.KernelIdeal.Hand

open Cert.KernelIdeal.Gen Cert.Attn
open Idealize.ShloMosaic

/-- The query block of a head's point `n`. -/
def qF (n : ℕ) : Fin 8 := ⟨qi n % 8, Nat.mod_lt _ (by decide)⟩
/-- The key block of a head's point `n`. -/
def kF (n : ℕ) : Fin 8 := ⟨ki n % 8, Nat.mod_lt _ (by decide)⟩

theorem keys_of : ∀ b : Fin 8, ((Finset.range 36).filter fun n => qF n = b).image kF = Finset.univ.filter fun k => k ≤ b := by decide +kernel
theorem keys_once : ∀ b : Fin 8, ∀ n ∈ (Finset.range 36).filter (fun n => qF n = b), ∀ n' ∈ (Finset.range 36).filter (fun n => qF n = b), kF n = kF n' → n = n' := by decide +kernel
theorem queries_of : ∀ n ∈ Finset.range 36, qF n = 7 →
    ((Finset.range (n + 1)).filter fun n' => kF n' = kF n).image qF = Finset.univ.filter fun b => kF n ≤ b := by decide +kernel
theorem queries_once : ∀ k : Fin 8, ∀ n ∈ (Finset.range 36).filter (fun n => kF n = k), ∀ n' ∈ (Finset.range 36).filter (fun n => kF n = k), qF n = qF n' → n = n' := by decide +kernel
/-- A point on the diagonal is its key block's first. -/
theorem first_of_key : ∀ n ∈ Finset.range 36, qF n = kF n → ∀ n' ∈ Finset.range n, kF n' ≠ kF n := by decide +kernel
/-- A point off the diagonal has the key block of the point before. -/
theorem same_key : ∀ n ∈ Finset.range 35, qF (n + 1) ≠ kF (n + 1) → kF (n + 1) = kF n := by decide +kernel
theorem key_le : ∀ n ∈ Finset.range 36, kF n ≤ qF n := by decide +kernel

/-- The points of a query block, summed. -/
theorem sum_keys (b : Fin 8) (g : Fin 8 → ℝ) (hg : ∀ k, b < k → g k = 0) :
    ∑ n ∈ Finset.range 36, (if qF n = b then g (kF n) else 0) = ∑ k, g k := by
  rw [← Finset.sum_filter, ← Finset.sum_image (f := g) (g := kF) (fun n hn n' hn' e => keys_once b n hn n' hn' e), keys_of b]
  exact Finset.sum_filter_of_ne fun k _ hk => not_lt.mp fun h => hk (hg k h)

/-- The points of a key block up to its last, summed. -/
theorem sum_queries (n : ℕ) (hn : n < 36) (h7 : qF n = 7) (g : Fin 8 → ℝ) (hg : ∀ b, b < kF n → g b = 0) :
    ∑ n' ∈ Finset.range (n + 1), (if kF n' = kF n then g (qF n') else 0) = ∑ b, g b := by
  have sub : ∀ x ∈ (Finset.range (n + 1)).filter (fun n' => kF n' = kF n), x ∈ (Finset.range 36).filter (fun n' => kF n' = kF n) := by
    intro x hx
    rw [Finset.mem_filter, Finset.mem_range] at hx ⊢
    exact ⟨by omega, hx.2⟩
  rw [← Finset.sum_filter, ← Finset.sum_image (f := g) (g := qF) (fun x hx y hy e => queries_once _ x (sub x hx) y (sub y hy) e), queries_of n (Finset.mem_range.mpr hn) h7]
  exact Finset.sum_filter_of_ne fun b _ hb => not_lt.mp fun h => hb (hg b h)

/-- A sum over the rows, block by block. -/
theorem sum_rows (g : Fin 8192 → ℝ) : ∑ i, g i = ∑ b : Fin 8, ∑ r : Fin 1024, g (row b r) := by
  rw [← Fintype.sum_prod_type' (f := fun b r => g (row b r))]
  refine (Fintype.sum_equiv (finProdFinEquiv (m := 8) (n := 1024)) _ _ fun x => ?_).symm
  refine congrArg g (Fin.ext ?_)
  show 1024 * x.1.val + x.2.val = x.2.val + 1024 * x.1.val
  omega

theorem hidden {b k : Fin 8} (h : b < k) (r j : Fin 1024) : ¬ row k j ≤ row b r := by
  have hb : b.val < k.val := h
  intro (hle : 1024 * k.val + j.val ≤ 1024 * b.val + r.val)
  omega

section totals
variable (D : Data) (h : Fin 16)

theorem partQ_hidden {b k : Fin 8} (hk : b < k) (r : Fin 1024) (d : Fin 128) : partQ D h (row b r) k d = 0 :=
  Finset.sum_eq_zero fun j _ => by rw [D.G_hidden h _ _ (hidden hk r j), zero_mul]
theorem partFq_hidden {b k : Fin 8} (hk : b < k) (r : Fin 1024) : partFq D h (row b r) k = 0 :=
  Finset.sum_eq_zero fun j _ => D.G_hidden h _ _ (hidden hk r j)
theorem partK_hidden {b k : Fin 8} (hk : b < k) (j : Fin 1024) (d : Fin 128) : partK D h b (row k j) d = 0 :=
  Finset.sum_eq_zero fun r _ => by rw [D.G_hidden h _ _ (hidden hk r j), zero_mul]
theorem partV_hidden {b k : Fin 8} (hk : b < k) (j : Fin 1024) (d : Fin 128) : partV D h b (row k j) d = 0 :=
  Finset.sum_eq_zero fun r _ => by rw [D.P_hidden h _ _ (hidden hk r j), zero_mul]
theorem partFk_hidden {b k : Fin 8} (hk : b < k) (j : Fin 1024) : partFk D h b (row k j) = 0 :=
  Finset.sum_eq_zero fun r _ => D.G_hidden h _ _ (hidden hk r j)

end totals

/-! ## The accumulators after a head's point -/

/-- The accumulators after point `n` of head `h`. -/
def accAt (D : Data) (h : Fin 16) (n : ℕ) : Acc where
  dq b r d := ∑ n' ∈ Finset.range (n + 1), if qF n' = b then partQ D h (row b r) (kF n') d else 0
  fq b r := ∑ n' ∈ Finset.range (n + 1), if qF n' = b then partFq D h (row b r) (kF n') else 0
  dk j d := ∑ n' ∈ Finset.range (n + 1), if kF n' = kF n then partK D h (qF n') (row (kF n) j) d else 0
  dv j d := ∑ n' ∈ Finset.range (n + 1), if kF n' = kF n then partV D h (qF n') (row (kF n) j) d else 0
  fk j := - ∑ n' ∈ Finset.range (n + 1), if kF n' = kF n then partFk D h (qF n') (row (kF n) j) else 0

theorem acc_first (D : Data) (h : Fin 16) : Acc.zero.add D h (qF 0) (kF 0) = accAt D h 0 := by
  unfold Acc.add accAt Acc.zero
  simp only [zero_add, Finset.range_one, Finset.sum_singleton, if_true, zero_sub]
  congr 1
  · funext b r d; exact if_congr eq_comm rfl rfl
  · funext b r; exact if_congr eq_comm rfl rfl

theorem acc_past (D : Data) (h : Fin 16) (n : ℕ) (hn : n < 35) (hd : qF (n + 1) ≠ kF (n + 1)) :
    (accAt D h n).add D h (qF (n + 1)) (kF (n + 1)) = accAt D h (n + 1) := by
  have hk := same_key n (Finset.mem_range.mpr hn) hd
  unfold Acc.add accAt
  simp only [Finset.sum_range_succ _ (n + 1), if_true, hk, neg_add, ← sub_eq_add_neg]
  congr 1
  · funext b r d; exact congrArg _ (if_congr eq_comm rfl rfl)
  · funext b r; exact congrArg _ (if_congr eq_comm rfl rfl)

theorem acc_diag (D : Data) (h : Fin 16) (n : ℕ) (hn : n < 35) (hd : qF (n + 1) = kF (n + 1)) :
    (accAt D h n).clearK.add D h (qF (n + 1)) (kF (n + 1)) = accAt D h (n + 1) := by
  have hk := first_of_key (n + 1) (Finset.mem_range.mpr (by omega)) hd
  have hz : ∀ g : ℕ → ℝ, ∑ n' ∈ Finset.range (n + 1), (if kF n' = kF (n + 1) then g n' else 0) = 0 := fun g =>
    Finset.sum_eq_zero fun n' hn' => if_neg (hk n' hn')
  unfold Acc.add accAt Acc.clearK
  simp only [Finset.sum_range_succ _ (n + 1), if_true, hz, zero_add, zero_sub]
  congr 1
  · funext b r d; exact congrArg _ (if_congr eq_comm rfl rfl)
  · funext b r; exact congrArg _ (if_congr eq_comm rfl rfl)

/-- A query's gradient after the head's last point. -/
theorem acc_dq (D : Data) (h : Fin 16) (b : Fin 8) (r : Fin 1024) (d : Fin 128) :
    (accAt D h 35).dq b r d = ∑ j, D.G h (row b r) j * D.K h j d :=
  (sum_keys b (fun k => partQ D h (row b r) k d) fun _ hk => partQ_hidden D h hk r d).trans (sum_rows (fun j => D.G h (row b r) j * D.K h j d)).symm
/-- A query gate's gradient after the head's last point. -/
theorem acc_fq (D : Data) (h : Fin 16) (b : Fin 8) (r : Fin 1024) :
    (accAt D h 35).fq b r = ∑ j, D.G h (row b r) j :=
  (sum_keys b (fun k => partFq D h (row b r) k) fun _ hk => partFq_hidden D h hk r).trans (sum_rows (fun j => D.G h (row b r) j)).symm

variable (D : Data) (h : Fin 16) (n : ℕ) (hn : n < 36) (h7 : qF n = 7) (j : Fin 1024) (d : Fin 128)
include hn h7
/-- A key's gradient after the key block's last point. -/
theorem acc_dk : (accAt D h n).dk j d = ∑ i, D.G h i (row (kF n) j) * D.Q h i d :=
  (sum_queries n hn h7 (fun b => partK D h b (row (kF n) j) d) fun _ hb => partK_hidden D h hb j d).trans (sum_rows (fun i => D.G h i (row (kF n) j) * D.Q h i d)).symm
/-- A value's gradient after the key block's last point. -/
theorem acc_dv : (accAt D h n).dv j d = ∑ i, D.P h i (row (kF n) j) * D.O h i d :=
  (sum_queries n hn h7 (fun b => partV D h b (row (kF n) j) d) fun _ hb => partV_hidden D h hb j d).trans (sum_rows (fun i => D.P h i (row (kF n) j) * D.O h i d)).symm
/-- A key gate's gradient after the key block's last point. -/
theorem acc_fk : (accAt D h n).fk j = - ∑ i, D.G h i (row (kF n) j) :=
  congrArg Neg.neg ((sum_queries n hn h7 (fun b => partFk D h b (row (kF n) j)) fun _ hb => partFk_hidden D h hb j).trans (sum_rows (fun i => D.G h i (row (kF n) j))).symm)

end Cert.KernelIdeal.Hand

end
-- ==== Proof.Traj.lean ====
module

public import proofs.«01_k».proof.Proof.Order

/-!
# What the accumulators hold after every grid point
-/

@[expose] public section

set_option maxRecDepth 16384

noncomputable section

namespace Cert.KernelIdeal.Hand

open Cert.KernelIdeal.Gen Cert.Attn
open Idealize.ShloMosaic Idealize.ShloMosaic.TcCoe Idealize.SL.Sem

/-- Point `n` of head `h`. -/
def pt (h : Fin 16) (n : Fin 36) : Fin grid0.N := ⟨36 * h.val + n.val, by show _ < 576; omega⟩

theorem pt_val (h : Fin 16) (n : Fin 36) : (pt h n).val = 36 * h.val + n.val := rfl

theorem pt_coords (h : Fin 16) (n : Fin 36) : (grid0.coords (pt h n) 0).val = h.val ∧ (grid0.coords (pt h n) 1).val = n.val := by
  obtain ⟨e0, e1⟩ := coords_val (pt h n)
  rw [e0, e1, pt_val]; omega

theorem hd_pt (h : Fin 16) (n : Fin 36) : hd (pt h n) = h := Fin.ext (pt_coords h n).1
theorem qb_pt (h : Fin 16) (n : Fin 36) : qb (pt h n) = qF n.val := by
  apply Fin.ext
  show qi (grid0.coords (pt h n) 1).val = qi n.val % 8
  rw [(pt_coords h n).2, Nat.mod_eq_of_lt (qi_lt _)]
theorem kb_pt (h : Fin 16) (n : Fin 36) : kb (pt h n) = kF n.val := by
  apply Fin.ext
  show ki (grid0.coords (pt h n) 1).val = ki n.val % 8
  rw [(pt_coords h n).2, Nat.mod_eq_of_lt ((ki_le n).trans_lt (qi_lt _))]

theorem diag_iff (n : Fin 36) : qF n.val = kF n.val ↔ qi n.val = ki n.val := by
  rw [Fin.ext_iff]
  show qi n.val % 8 = ki n.val % 8 ↔ _
  rw [Nat.mod_eq_of_lt (qi_lt _), Nat.mod_eq_of_lt ((ki_le n).trans_lt (qi_lt _))]

theorem add_pt (D : Data) (h : Fin 16) (n : Fin 36) (a : Acc) :
    a.add D (hd (pt h n)) (qb (pt h n)) (kb (pt h n)) = a.add D h (qF n.val) (kF n.val) := by
  rw [hd_pt, qb_pt, kb_pt]

variable {m : (ℓ : Loc nD τ sig) → Buf (Elt Ideal) ℓ} {c : Dev nD}

/-- After point `n` of head `h` the buffers hold the accumulators of that point. -/
theorem traj_holds (H : AllFinite m c) (h : Fin 16) :
    ∀ (n : ℕ) (hn : n < 36), Holds (traj m c ((pt h ⟨n, hn⟩).val + 1)) (accAt (dat m c) h n)
  | 0, hn => by
    have hc := (pt_coords h ⟨0, hn⟩).2
    have hq : qb (pt h ⟨0, hn⟩) = kb (pt h ⟨0, hn⟩) := by rw [qb_pt, kb_pt]; rfl
    rw [traj_succ, ← acc_first]
    refine Holds.same (stepAt_first _ _ _ hc) ?_
    have := diag_adds H (pt h ⟨0, hn⟩) hq (Holds.zero (traj m c (pt h ⟨0, hn⟩).val))
    rw [add_pt] at this
    exact this
  | n + 1, hn => by
    have hc := (pt_coords h ⟨n + 1, hn⟩).2
    have ih := traj_holds H h n (by omega)
    have ev : (pt h ⟨n, by omega⟩).val + 1 = (pt h ⟨n + 1, hn⟩).val := rfl
    rw [ev] at ih
    rw [traj_succ]
    by_cases hd : qF (n + 1) = kF (n + 1)
    · rw [← acc_diag _ _ n (by omega) hd]
      have hq : qb (pt h ⟨n + 1, hn⟩) = kb (pt h ⟨n + 1, hn⟩) := by rw [qb_pt, kb_pt]; exact hd
      refine Holds.same (stepAt_diag _ _ _ (by rw [hc]; exact Nat.succ_ne_zero n) (by rw [hc]; exact (diag_iff ⟨n + 1, hn⟩).mp hd)) ?_
      have := diag_adds H (pt h ⟨n + 1, hn⟩) hq ih.clearK
      rw [add_pt] at this
      exact this
    · rw [← acc_past _ _ n (by omega) hd]
      have hlt : kb (pt h ⟨n + 1, hn⟩) < qb (pt h ⟨n + 1, hn⟩) := by
        rw [qb_pt, kb_pt]; exact lt_of_le_of_ne (key_le _ (Finset.mem_range.mpr hn)) (Ne.symm hd)
      refine Holds.same (stepAt_past _ _ _ (by rw [hc]; exact fun e => hd ((diag_iff ⟨n + 1, hn⟩).mpr e))) ?_
      have := past_adds H (pt h ⟨n + 1, hn⟩) hlt ih
      rw [add_pt] at this
      exact this

/-- Every point is a point of a head. -/
theorem exists_pt (t : Fin grid0.N) : ∃ h n, t = pt h n := by
  have ht : t.val < 576 := t.isLt
  refine ⟨⟨t.val / 36, by omega⟩, ⟨t.val % 36, by omega⟩, Fin.ext ?_⟩
  show t.val = 36 * (t.val / 36) + t.val % 36
  omega

end Cert.KernelIdeal.Hand

end
-- ==== Proof.Arrays.lean ====
module

public import proofs.«01_k».proof.Proof.Traj

/-!
# The kernel's results

Each result's array is written back block by block, and holds after the run the sums over all rows.
-/

@[expose] public section

set_option maxRecDepth 16384

noncomputable section

namespace Cert.KernelIdeal.Hand

open Cert.KernelIdeal.Gen Cert.Attn
open Idealize.ShloMosaic Idealize.ShloMosaic.TcCoe Idealize.SL.Sem
open Idealize.ShloMosaic.Pipeline

theorem index_dq (t : Fin grid0.N) : ((cfgM (F := Ideal)).win 8).index t = ![0, (hd t).val] := by
  show ![0, (BitVec.ofNat 32 (grid0.coords t 0).val).toNat] = _
  rw [head_toNat]; rfl
theorem index_dfq (t : Fin grid0.N) : ((cfgM (F := Ideal)).win 9).index t = ![0, (hd t).val] := index_dq t
theorem index_dk (t : Fin grid0.N) : ((cfgM (F := Ideal)).win 10).index t = ![(kb t).val, (hd t).val] := map_k _ _ _
theorem index_dv (t : Fin grid0.N) : ((cfgM (F := Ideal)).win 11).index t = ![(kb t).val, (hd t).val] := map_k _ _ _
theorem index_dfk (t : Fin grid0.N) : ((cfgM (F := Ideal)).win 12).index t = ![(hd t).val, 0, (kb t).val] := map_fk _ _ _

theorem exists_col (j : Fin 2048) : ∃ h d, j = col h d :=
  ⟨⟨j.val / 128, by omega⟩, ⟨j.val % 128, by omega⟩, Fin.ext (by show j.val = j.val / 128 * 128 + j.val % 128; omega)⟩
theorem exists_row (i : Fin 8192) : ∃ b r, i = row b r :=
  ⟨⟨i.val / 1024, by omega⟩, ⟨i.val % 1024, by omega⟩, Fin.ext (by show i.val = 1024 * (i.val / 1024) + i.val % 1024; omega)⟩

/-! ## The key block's results are written back at its last point -/

theorem last_of_key : ∀ k : Fin 8, ∃ n : Fin 36, kF n.val = k ∧ qF n.val = 7 := by decide +kernel

theorem next_other : ∀ t t' : Fin grid0.N, t'.val = t.val + 1 → qi (t.val % 36) = 7 → ¬ (ki (t'.val % 36) = ki (t.val % 36) ∧ t'.val / 36 = t.val / 36) := by
  have key : ∀ n : Fin 36, qi n.val = 7 → ∀ n' : Fin 36, n'.val = n.val + 1 → ki n'.val ≠ ki n.val := by decide +kernel
  intro t t' e h ⟨h1, h2⟩
  exact key ⟨t.val % 36, by omega⟩ h ⟨t'.val % 36, by omega⟩ (by show t'.val % 36 = t.val % 36 + 1; omega) h1

/-- A key block's results are written back only at its last query block. -/
theorem last_query (w : Fin (cfgM (F := Ideal)).W) (h : Fin 16) (n : Fin 36)
    (hix : ∀ t t' : Fin (cfgM (F := Ideal)).N, t.val / 36 = t'.val / 36 → ki (t.val % 36) = ki (t'.val % 36) → ((cfgM (F := Ideal)).win w).index t = ((cfgM (F := Ideal)).win w).index t')
    (hf : ((cfgM (F := Ideal)).win w).flush (pt h n) = true) : qF n.val = 7 := by
  have e : (pt h n).val % 36 = n.val := by rw [pt_val]; omega
  by_contra hne
  have : qi ((pt h n).val % 36) ≠ 7 := by
    rw [e]; intro h7; apply hne; apply Fin.ext; show qi n.val % 8 = 7; rw [h7]
  rw [no_flush w (pt h n) this hix] at hf
  exact Bool.false_ne_true hf

/-- At its last query block a key block's results are written back. -/
theorem flush_last (w : Fin (cfgM (F := Ideal)).W) (hw : ((cfgM (F := Ideal)).win w).isOut = true) (h : Fin 16) (n : Fin 36)
    (hix : ∀ t t' : Fin (cfgM (F := Ideal)).N, ((cfgM (F := Ideal)).win w).index t = ((cfgM (F := Ideal)).win w).index t' → ki (t'.val % 36) = ki (t.val % 36) ∧ t'.val / 36 = t.val / 36)
    (h7 : qF n.val = 7) : ((cfgM (F := Ideal)).win w).flush (pt h n) = true := by
  have e : (pt h n).val % 36 = n.val := by rw [pt_val]; omega
  have h7' : qi ((pt h n).val % 36) = 7 := by
    have := congrArg Fin.val h7
    rw [e, ← Nat.mod_eq_of_lt (qi_lt n.val)]; exact this
  unfold Window.flush
  rw [hw, Bool.true_and, Bool.or_eq_true, decide_eq_true_iff, decide_eq_true_iff]
  by_cases hN : (pt h n).val + 1 = (cfgM (F := Ideal)).grid.N
  · exact .inl hN
  · right
    have hlt : (pt h n).val + 1 < (cfgM (F := Ideal)).grid.N := lt_of_le_of_ne (pt h n).isLt hN
    exact ⟨hlt, fun hi => next_other (pt h n) ⟨_, hlt⟩ rfl h7' (hix _ _ hi.symm)⟩

theorem same_block (t t' : Fin grid0.N) (h : t.val / 36 = t'.val / 36) (hk : ki (t.val % 36) = ki (t'.val % 36)) :
    (hd t).val = (hd t').val ∧ (kb t).val = (kb t').val := by
  obtain ⟨a0, a1⟩ := coords_val t
  obtain ⟨b0, b1⟩ := coords_val t'
  refine ⟨?_, ?_⟩
  · show (grid0.coords t 0).val = (grid0.coords t' 0).val
    rw [a0, b0, h]
  · show ki (grid0.coords t 1).val = ki (grid0.coords t' 1).val
    rw [a1, b1, hk]

theorem block_same (t t' : Fin grid0.N) (h : (hd t).val = (hd t').val) (hk : (kb t).val = (kb t').val) :
    ki (t'.val % 36) = ki (t.val % 36) ∧ t'.val / 36 = t.val / 36 := by
  obtain ⟨a0, a1⟩ := coords_val t
  obtain ⟨b0, b1⟩ := coords_val t'
  refine ⟨?_, ?_⟩
  · rw [← a1, ← b1]; exact hk.symm
  · rw [← a0, ← b0]; exact h.symm

theorem map2 (a b a' b' : ℕ) : (![a, b] : Fin 2 → ℕ) = ![a', b'] ↔ a = a' ∧ b = b' :=
  ⟨fun h => ⟨congrFun h 0, congrFun h 1⟩, fun ⟨h, h'⟩ => by rw [h, h']⟩
theorem map3 (a b c a' b' c' : ℕ) : (![a, b, c] : Fin 3 → ℕ) = ![a', b', c'] ↔ a = a' ∧ b = b' ∧ c = c' :=
  ⟨fun h => ⟨congrFun h 0, congrFun h 1, congrFun h 2⟩, fun ⟨h, h', h''⟩ => by rw [h, h', h'']⟩

theorem place_dq (t : Fin grid0.N) (i : Fin 8192) (d : Fin 128) :
    (((cfgM (F := Ideal)).win 8).rect t).emb (ix2 i d) = (ix2 i (col (hd t) d) : S8192x2048.Idx) := by
  have h := index_dq t
  blk_ext [h, col, WinKind.off]
theorem place_dfq (t : Fin grid0.N) (i : Fin 8192) (d : Fin 128) :
    (((cfgM (F := Ideal)).win 9).rect t).emb (ix2 i d) = (ix2 i (col (hd t) d) : S8192x2048.Idx) := by
  have h := index_dfq t
  blk_ext [h, col, WinKind.off]
theorem place_dk (t : Fin grid0.N) (r : Fin 1024) (d : Fin 128) :
    (((cfgM (F := Ideal)).win 10).rect t).emb (ix2 r d) = (ix2 (row (kb t) r) (col (hd t) d) : S8192x2048.Idx) := by
  have h := index_dk t
  blk_ext [h, row, col, WinKind.off]
theorem place_dv (t : Fin grid0.N) (r : Fin 1024) (d : Fin 128) :
    (((cfgM (F := Ideal)).win 11).rect t).emb (ix2 r d) = (ix2 (row (kb t) r) (col (hd t) d) : S8192x2048.Idx) := by
  have h := index_dv t
  blk_ext [h, row, col, WinKind.off]
theorem place_dfk (t : Fin grid0.N) (r : Fin 1024) :
    (((cfgM (F := Ideal)).win 12).rect t).emb (ix3 (0 : Fin 1) (0 : Fin 1) r) = (ix3 (hd t) (0 : Fin 1) (row (kb t) r) : S16x1x8192.Idx) := by
  have h := index_dfk t
  blk_ext [h, row, WinKind.off]

variable {m : (ℓ : Loc nD τ sig) → Buf (Elt Ideal) ℓ} {c : Dev nD}

/-- A head's last point. -/
def endPt : Fin 36 := ⟨35, by decide⟩

/-- The queries' gradients. -/
theorem array_dq (H : AllFinite m c) (G : FVec Ideal S8192x2048 .f32)
    (hG : ∀ h i d, (G (ix2 i (col h d)) : EReal) = ((∑ j, (dat m c).G h i j * (dat m c).K h j d : ℝ) : EReal)) :
    (dats m 0 c).arrAt (8 : Fin 13) (cfgM (F := Ideal)).N = G := by
  refine (dats m 0 c).arrAt_eq_of_emb (8 : Fin 13) G (fun t hf y => ?_) fun i => ?_
  · obtain ⟨h, n, rfl⟩ := exists_pt t
    have hn : n = endPt := Fin.ext (by have := (flush_8 (F := Ideal) (pt h n)).mp hf; rw [pt_val] at this; show n.val = 35; omega)
    subst hn
    blk_simp
    obtain ⟨i, d, hy⟩ : ∃ (i : Fin 8192) (d : Fin 128), y = ix2 i d := ⟨y 0, y 1, eq_ix2 y⟩
    subst hy
    obtain ⟨b, r, rfl⟩ := exists_row i
    have ep := place_dq (pt h endPt) (row b r) d
    rw [hd_pt] at ep
    have ev := ((traj_holds H h 35 (by decide)).dq b r d).trans (congrArg (fun x : ℝ => (x : EReal)) (acc_dq (dat m c) h b r d))
    exact ev.trans ((congrArg G ep).trans (hG h (row b r) d)).symm
  · obtain ⟨i0, i1, hi⟩ : ∃ (i0 : Fin 8192) (i1 : Fin 2048), i = ix2 i0 i1 := ⟨i 0, i 1, eq_ix2 i⟩
    obtain ⟨h, d, rfl⟩ := exists_col i1
    have ep := place_dq (pt h endPt) i0 d
    rw [hd_pt, ← hi] at ep
    refine ⟨pt h endPt, (flush_8 (F := Ideal) _).mpr (by rw [pt_val]; show (36 * h.val + 35) % 36 = 35; omega), ?_⟩
    have hm := (((cfgM (F := Ideal)).win 8).blk (pt h endPt)).view.emb_mem_set (ix2 i0 d)
    exact ep ▸ hm

/-- The query gates' gradients. -/
theorem array_dfq (H : AllFinite m c) (G : FVec Ideal S8192x2048 .f32)
    (hG : ∀ h i d, (G (ix2 i (col h d)) : EReal) = ((∑ j, (dat m c).G h i j : ℝ) : EReal)) :
    (dats m 0 c).arrAt (9 : Fin 13) (cfgM (F := Ideal)).N = G := by
  refine (dats m 0 c).arrAt_eq_of_emb (9 : Fin 13) G (fun t hf y => ?_) fun i => ?_
  · obtain ⟨h, n, rfl⟩ := exists_pt t
    have hn : n = endPt := Fin.ext (by have := (flush_9 (F := Ideal) (pt h n)).mp hf; rw [pt_val] at this; show n.val = 35; omega)
    subst hn
    blk_simp
    obtain ⟨i, d, hy⟩ : ∃ (i : Fin 8192) (d : Fin 128), y = ix2 i d := ⟨y 0, y 1, eq_ix2 y⟩
    subst hy
    obtain ⟨b, r, rfl⟩ := exists_row i
    have ep := place_dfq (pt h endPt) (row b r) d
    rw [hd_pt] at ep
    have ev := ((traj_holds H h 35 (by decide)).fq b r d).trans (congrArg (fun x : ℝ => (x : EReal)) (acc_fq (dat m c) h b r))
    exact ev.trans ((congrArg G ep).trans (hG h (row b r) d)).symm
  · obtain ⟨i0, i1, hi⟩ : ∃ (i0 : Fin 8192) (i1 : Fin 2048), i = ix2 i0 i1 := ⟨i 0, i 1, eq_ix2 i⟩
    obtain ⟨h, d, rfl⟩ := exists_col i1
    have ep := place_dfq (pt h endPt) i0 d
    rw [hd_pt, ← hi] at ep
    refine ⟨pt h endPt, (flush_9 (F := Ideal) _).mpr (by rw [pt_val]; show (36 * h.val + 35) % 36 = 35; omega), ?_⟩
    have hm := (((cfgM (F := Ideal)).win 9).blk (pt h endPt)).view.emb_mem_set (ix2 i0 d)
    exact ep ▸ hm

/-- The keys' gradients. -/
theorem array_dk (H : AllFinite m c) (G : FVec Ideal S8192x2048 .f32)
    (hG : ∀ h j d, (G (ix2 j (col h d)) : EReal) = ((∑ i, (dat m c).G h i j * (dat m c).Q h i d : ℝ) : EReal)) :
    (dats m 0 c).arrAt (10 : Fin 13) (cfgM (F := Ideal)).N = G := by
  refine (dats m 0 c).arrAt_eq_of_emb (10 : Fin 13) G (fun t hf y => ?_) fun i => ?_
  · obtain ⟨h, n, rfl⟩ := exists_pt t
    have h7 := last_query (10 : Fin 13) h n (fun t t' h1 h2 => by
      rw [index_dk, index_dk, (same_block t t' h1 h2).1, (same_block t t' h1 h2).2]) hf
    blk_simp
    obtain ⟨j, d, hy⟩ : ∃ (j : Fin 1024) (d : Fin 128), y = ix2 j d := ⟨y 0, y 1, eq_ix2 y⟩
    subst hy
    have ep := place_dk (pt h n) j d
    rw [hd_pt, kb_pt] at ep
    have ev := ((traj_holds H h n.val n.isLt).dk j d).trans (congrArg (fun x : ℝ => (x : EReal)) (acc_dk (dat m c) h n.val n.isLt h7 j d))
    exact ev.trans ((congrArg G ep).trans (hG h (row (kF n.val) j) d)).symm
  · obtain ⟨i0, i1, hi⟩ : ∃ (i0 : Fin 8192) (i1 : Fin 2048), i = ix2 i0 i1 := ⟨i 0, i 1, eq_ix2 i⟩
    obtain ⟨h, d, rfl⟩ := exists_col i1
    obtain ⟨k, j, rfl⟩ := exists_row i0
    obtain ⟨n, rfl, h7⟩ := last_of_key k
    have ep := place_dk (pt h n) j d
    rw [hd_pt, kb_pt, ← hi] at ep
    refine ⟨pt h n, flush_last (10 : Fin 13) rfl h n (fun t t' e => ?_) h7, ?_⟩
    · rw [index_dk, index_dk, map2] at e
      exact block_same t t' e.2 e.1
    have hm := (((cfgM (F := Ideal)).win 10).blk (pt h n)).view.emb_mem_set (ix2 j d)
    exact ep ▸ hm

/-- The values' gradients. -/
theorem array_dv (H : AllFinite m c) (G : FVec Ideal S8192x2048 .bf16)
    (hG : ∀ h j d, (G (ix2 j (col h d)) : EReal) = ((∑ i, (dat m c).P h i j * (dat m c).O h i d : ℝ) : EReal)) :
    (dats m 0 c).arrAt (11 : Fin 13) (cfgM (F := Ideal)).N = G := by
  refine (dats m 0 c).arrAt_eq_of_emb (11 : Fin 13) G (fun t hf y => ?_) fun i => ?_
  · obtain ⟨h, n, rfl⟩ := exists_pt t
    have h7 := last_query (11 : Fin 13) h n (fun t t' h1 h2 => by
      rw [index_dv, index_dv, (same_block t t' h1 h2).1, (same_block t t' h1 h2).2]) hf
    blk_simp
    obtain ⟨j, d, hy⟩ : ∃ (j : Fin 1024) (d : Fin 128), y = ix2 j d := ⟨y 0, y 1, eq_ix2 y⟩
    subst hy
    have ep := place_dv (pt h n) j d
    rw [hd_pt, kb_pt] at ep
    have ev := (pay8_apply _ (ix2 j d)).trans <| ((traj_holds H h n.val n.isLt).dv j d).trans (congrArg (fun x : ℝ => (x : EReal)) (acc_dv (dat m c) h n.val n.isLt h7 j d))
    exact ev.trans ((congrArg G ep).trans (hG h (row (kF n.val) j) d)).symm
  · obtain ⟨i0, i1, hi⟩ : ∃ (i0 : Fin 8192) (i1 : Fin 2048), i = ix2 i0 i1 := ⟨i 0, i 1, eq_ix2 i⟩
    obtain ⟨h, d, rfl⟩ := exists_col i1
    obtain ⟨k, j, rfl⟩ := exists_row i0
    obtain ⟨n, rfl, h7⟩ := last_of_key k
    have ep := place_dv (pt h n) j d
    rw [hd_pt, kb_pt, ← hi] at ep
    refine ⟨pt h n, flush_last (11 : Fin 13) rfl h n (fun t t' e => ?_) h7, ?_⟩
    · rw [index_dv, index_dv, map2] at e
      exact block_same t t' e.2 e.1
    have hm := (((cfgM (F := Ideal)).win 11).blk (pt h n)).view.emb_mem_set (ix2 j d)
    exact ep ▸ hm

/-- The key gates' gradients. -/
theorem array_dfk (H : AllFinite m c) (G : FVec Ideal S16x1x8192 .f32)
    (hG : ∀ h j, (G (ix3 h (0 : Fin 1) j) : EReal) = ((-∑ i, (dat m c).G h i j : ℝ) : EReal)) :
    (dats m 0 c).arrAt (12 : Fin 13) (cfgM (F := Ideal)).N = G := by
  refine (dats m 0 c).arrAt_eq_of_emb (12 : Fin 13) G (fun t hf y => ?_) fun i => ?_
  · obtain ⟨h, n, rfl⟩ := exists_pt t
    have h7 := last_query (12 : Fin 13) h n (fun t t' h1 h2 => by
      rw [index_dfk, index_dfk, (same_block t t' h1 h2).1, (same_block t t' h1 h2).2]) hf
    blk_simp
    obtain ⟨j, hy⟩ : ∃ j : Fin 1024, y = ix3 (0 : Fin 1) (0 : Fin 1) j := by
      refine ⟨y 2, (eq_ix3 y).trans ?_⟩
      rw [show y 0 = (0 : Fin 1) from Subsingleton.elim (α := Fin 1) _ _, show y 1 = (0 : Fin 1) from Subsingleton.elim (α := Fin 1) _ _]
    subst hy
    have ep := place_dfk (pt h n) j
    rw [hd_pt, kb_pt] at ep
    have ev := (pay9_apply _ j).trans <| ((traj_holds H h n.val n.isLt).fk j).trans (congrArg (fun x : ℝ => (x : EReal)) (acc_fk (dat m c) h n.val n.isLt h7 j))
    exact ev.trans ((congrArg G ep).trans (hG h (row (kF n.val) j))).symm
  · obtain ⟨h, i1, hi⟩ : ∃ (h : Fin 16) (i1 : Fin 8192), i = ix3 h (0 : Fin 1) i1 := by
      refine ⟨i 0, i 2, (eq_ix3 i).trans ?_⟩
      rw [show i 1 = (0 : Fin 1) from Subsingleton.elim (α := Fin 1) _ _]
    obtain ⟨k, j, rfl⟩ := exists_row i1
    obtain ⟨n, rfl, h7⟩ := last_of_key k
    have ep := place_dfk (pt h n) j
    rw [hd_pt, kb_pt, ← hi] at ep
    refine ⟨pt h n, flush_last (12 : Fin 13) rfl h n (fun t t' e => ?_) h7, ?_⟩
    · rw [index_dfk, index_dfk, map3] at e
      exact block_same t t' e.1 e.2.2
    have hm := (((cfgM (F := Ideal)).win 12).blk (pt h n)).view.emb_mem_set (ix3 (0 : Fin 1) (0 : Fin 1) j)
    exact ep ▸ hm

end Cert.KernelIdeal.Hand

end
-- ==== Proof.RefRead.lean ====
module

public import proofs.«01_k».proof.Proof.Gen.ReferenceIdeal.Run
public import proofs.«01_k».proof.Proof.Maths
public import Idealize.ShloMosaic.Lib.Pointwise
public import Idealize.ShloMosaic.Lib.WordCmp

/-!
# The reference, stage by stage

The reference's five results are composed of a few arrays: the heads of the four matrices, the masked scores, their
exponentials and row sums, the gradient with respect to a probability and the gradient with respect to a score. This
module names those arrays and reads each one at an index.
-/

@[expose] public section

noncomputable section

namespace Cert.ReferenceIdeal.Hand

open Cert.ReferenceIdeal Cert.ReferenceIdeal.Gen Cert.Attn Idealize.ShloMosaic Idealize.ShloMosaic.TcCoe Idealize.SL.Sem Idealize.ShloMosaic.StableHlo

variable {F : FTy → Type} [FloatOps F]

/-- The heads of a matrix. -/
def heads (a : FVec F S8192x2048 .f32) : FVec F S1x16x8192x128 .f32 :=
  transpose S1x16x8192x128 [0, 2, 1, 3] (shapeCast _ a shapeCasts_S8192x2048_S1x8192x16x128) transposes_S1x8192x16x128_S1x16x8192x128_0_2_1_3

/-- The query times its scale. -/
def scaled (a : FVec F S8192x2048 .f32) : FVec F S8192x2048 .f32 :=
  mulf a (broadcastInDim S8192x2048 ![] bcast_S_S8192x2048 (constant S_ .f32 0x3DB504F3#32))

/-- Which keys a query may see. -/
def mask : IVec S1x16x8192x8192 1 :=
  broadcastInDim S1x16x8192x8192 ![2, 3] bcast_S8192x8192_S1x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The masked scores. -/
def scores (q k : FVec F S1x16x8192x128 .f32) (a3 : FVec F S8192x16 .f32) : FVec F S1x16x8192x8192 .f32 :=
  select mask (subf (addf (Host.dotGeneral dot_S1x16x8192x128_S1x16x8192x128_S1x16x8192x8192_3_3_2_2_01_01 none q k) (broadcastInDim S1x16x8192x8192 ![0, 1, 2, 3] bcast_S1x16x8192x1_S1x16x8192x8192_0_1_2_3 (broadcastInDim S1x16x8192x1 ![0, 1, 2] bcast_S1x16x8192_S1x16x8192x1_0_1_2 (shapeCast _ (transpose S16x8192 [1, 0] a3 transposes_S8192x16_S16x8192_1_0) shapeCasts_S16x8192_S1x16x8192)))) (broadcastInDim S1x16x8192x8192 ![0, 1, 2, 3] bcast_S1x16x1x8192_S1x16x8192x8192_0_1_2_3 (broadcastInDim S1x16x1x8192 ![0, 1, 3] bcast_S1x16x8192_S1x16x1x8192_0_1_3 (shapeCast _ (transpose S16x8192 [1, 0] a3 transposes_S8192x16_S16x8192_1_0) shapeCasts_S16x8192_S1x16x8192)))) (broadcastInDim S1x16x8192x8192 ![] bcast_S_S1x16x8192x8192 (id (constant S_ .f32 0xFF800000#32)))

/-- The largest score of a row. -/
def peak (s : FVec F S1x16x8192x8192 .f32) : FVec F S1x16x8192 .f32 :=
  maximumf (broadcastInDim S1x16x8192 ![] bcast_S_S1x16x8192 (constant S_ .f32 0xFF800000#32)) (Host.reduce FloatOps.maximumf s (constant S_ .f32 0xFF800000#32) reducesTo_S1x16x8192x8192_S1x16x8192_d3 h_S_)

/-- The exponentials of the scores, each row shifted by its peak. -/
def expo (s : FVec F S1x16x8192x8192 .f32) (t : FVec F S1x16x8192 .f32) : FVec F S1x16x8192x8192 .f32 :=
  Host.exp (subf s (broadcastInDim S1x16x8192x8192 ![0, 1, 2, 3] bcast_S1x16x8192x1_S1x16x8192x8192_0_1_2_3 (broadcastInDim S1x16x8192x1 ![0, 1, 2] bcast_S1x16x8192_S1x16x8192x1_0_1_2 t)))

/-- A row's sum of exponentials. -/
def total (e : FVec F S1x16x8192x8192 .f32) : FVec F S1x16x8192x1 .f32 :=
  broadcastInDim S1x16x8192x1 ![0, 1, 2] bcast_S1x16x8192_S1x16x8192x1_0_1_2 (Host.reduceAdd e (constant S_ .f32 0x00000000#32) reducesTo_S1x16x8192x8192_S1x16x8192_d3 h_S_)

/-- The probabilities. -/
def probs (e : FVec F S1x16x8192x8192 .f32) (l : FVec F S1x16x8192x1 .f32) : FVec F S1x16x8192x8192 .f32 :=
  Host.divf e (broadcastInDim S1x16x8192x8192 ![0, 1, 2, 3] bcast_S1x16x8192x1_S1x16x8192x8192_0_1_2_3 l)

/-- The gradient with respect to the probabilities. -/
def dprobs (o v : FVec F S1x16x8192x128 .f32) : FVec F S1x16x8192x8192 .f32 :=
  Host.dotGeneral dot_S1x16x8192x128_S1x16x8192x128_S1x16x8192x8192_3_3_2_2_01_01 none o v

/-- What a row's normalisation gives back. -/
def back (p : FVec F S1x16x8192x8192 .f32) (l : FVec F S1x16x8192x1 .f32) (e : FVec F S1x16x8192x8192 .f32) : FVec F S1x16x8192 .f32 :=
  broadcastInDim S1x16x8192 ![1, 2] bcast_S16x8192_S1x16x8192_1_2 (Host.reduceAdd (Host.negf (shapeCast _ (Host.reduceAdd (mulf (mulf p (broadcastInDim S1x16x8192x8192 ![0, 1, 2, 3] bcast_S1x16x8192x1_S1x16x8192x8192_0_1_2_3 (Host.divf (broadcastInDim S1x16x8192x1 ![] bcast_S_S1x16x8192x1 (constant S_ .f32 0x3F800000#32)) (mulf l l)))) e) (constant S_ .f32 0x00000000#32) reducesTo_S1x16x8192x8192_S1x16x8192_d3 h_S_) shapeCasts_S1x16x8192_S1x16x8192x1)) (constant S_ .f32 0x00000000#32) reducesTo_S1x16x8192x1_S16x8192_d0_3 h_S_)

/-- The gradient with respect to the scores. -/
def dscores (p : FVec F S1x16x8192x8192 .f32) (l : FVec F S1x16x8192x1 .f32) (b : FVec F S1x16x8192 .f32) (e : FVec F S1x16x8192x8192 .f32) : FVec F S1x16x8192x8192 .f32 :=
  select mask (mulf (addf (Host.divf p (broadcastInDim S1x16x8192x8192 ![0, 1, 2, 3] bcast_S1x16x8192x1_S1x16x8192x8192_0_1_2_3 l)) (broadcastInDim S1x16x8192x8192 ![0, 1, 2] bcast_S1x16x8192_S1x16x8192x8192_0_1_2 b)) e) (broadcastInDim S1x16x8192x8192 ![] bcast_S_S1x16x8192x8192 (constant S_ .f32 0x00000000#32))

/-- The rows of a head's array, back in one matrix. -/
def joined (x : FVec F S1x16x8192x128 .f32) : FVec F S8192x2048 .f32 :=
  shapeCast _ (transpose S1x8192x16x128 [0, 2, 1, 3] x transposes_S1x16x8192x128_S1x8192x16x128_0_2_1_3) shapeCasts_S1x8192x16x128_S8192x2048

def outQ (g : FVec F S1x16x8192x8192 .f32) (k : FVec F S1x16x8192x128 .f32) : FVec F S8192x2048 .f32 :=
  joined (Host.dotGeneral dot_S1x16x8192x8192_S1x16x8192x128_S1x16x8192x128_3_2_2_3_01_01 none g k)

def outFq (g : FVec F S1x16x8192x8192 .f32) : FVec F S8192x2048 .f32 :=
  shapeCast _ (broadcastInDim S8192x16x128 ![0, 1, 2] bcast_S8192x16x1_S8192x16x128_0_1_2 (broadcastInDim S8192x16x1 ![0, 1] bcast_S8192x16_S8192x16x1_0_1 (transpose S8192x16 [1, 0] (shapeCast _ (broadcastInDim S1x16x8192 ![1, 2] bcast_S16x8192_S1x16x8192_1_2 (Host.reduceAdd (shapeCast _ (Host.reduceAdd g (constant S_ .f32 0x00000000#32) reducesTo_S1x16x8192x8192_S1x16x8192_d3 h_S_) shapeCasts_S1x16x8192_S1x16x8192x1) (constant S_ .f32 0x00000000#32) reducesTo_S1x16x8192x1_S16x8192_d0_3 h_S_)) shapeCasts_S1x16x8192_S16x8192) transposes_S16x8192_S8192x16_1_0))) shapeCasts_S8192x16x128_S8192x2048

def outK (g : FVec F S1x16x8192x8192 .f32) (q : FVec F S1x16x8192x128 .f32) : FVec F S8192x2048 .f32 :=
  joined (Host.dotGeneral dot_S1x16x8192x8192_S1x16x8192x128_S1x16x8192x128_2_2_3_3_01_01 none g q)

def outV (o : FVec F S1x16x8192x128 .f32) (p : FVec F S1x16x8192x8192 .f32) : FVec F S8192x2048 .bf16 :=
  truncf .bf16 (joined (transpose S1x16x8192x128 [0, 1, 3, 2] (Host.dotGeneral dot_S1x16x8192x128_S1x16x8192x8192_S1x16x128x8192_2_2_3_3_01_01 none o p) transposes_S1x16x128x8192_S1x16x8192x128_0_1_3_2)) bitsLt_bf16_f32

def outFk (g : FVec F S1x16x8192x8192 .f32) : FVec F S16x1x8192 .f32 :=
  shapeCast _ (broadcastInDim S1x16x8192 ![1, 2] bcast_S16x8192_S1x16x8192_1_2 (Host.reduceAdd (shapeCast _ (Host.reduceAdd (Host.negf g) (constant S_ .f32 0x00000000#32) reducesTo_S1x16x8192x8192_S1x16x8192_d2 h_S_) shapeCasts_S1x16x8192_S1x16x1x8192) (constant S_ .f32 0x00000000#32) reducesTo_S1x16x1x8192_S16x8192_d0_2 h_S_)) shapeCasts_S1x16x8192_S16x1x8192

section stages
variable (a0 a1 a2 a4 : FVec F S8192x2048 .f32) (a3 : FVec F S8192x16 .f32)

def refS := scores (heads (scaled a0)) (heads a1) a3
def refE := expo (refS a0 a1 a3) (peak (refS a0 a1 a3))
def refL := total (refE a0 a1 a3)
def refP := probs (refE a0 a1 a3) (refL a0 a1 a3)
def refD := dprobs (heads a4) (heads a2)
def refG := dscores (refD a2 a4) (refL a0 a1 a3) (back (refD a2 a4) (refL a0 a1 a3) (refE a0 a1 a3)) (refE a0 a1 a3)
end stages

section results
variable (m : (ℓ : Loc nD τ sig) → Buf (Elt F) ℓ) (c : Dev nD)

abbrev arg0 : FVec F S8192x2048 .f32 := m ((c.tc : Thread nD τ).loc main_arg0)
abbrev arg1 : FVec F S8192x2048 .f32 := m ((c.tc : Thread nD τ).loc main_arg1)
abbrev arg2 : FVec F S8192x2048 .f32 := m ((c.tc : Thread nD τ).loc main_arg2)
abbrev arg3 : FVec F S8192x16 .f32 := m ((c.tc : Thread nD τ).loc main_arg3)
abbrev arg4 : FVec F S8192x2048 .f32 := m ((c.tc : Thread nD τ).loc main_arg4)

theorem res_q : Value.res_main_v90 m c = outQ (refG (arg0 m c) (arg1 m c) (arg2 m c) (arg4 m c) (arg3 m c)) (heads (arg1 m c)) := rfl
theorem res_fq : Value.res_main_v95 m c = outFq (refG (arg0 m c) (arg1 m c) (arg2 m c) (arg4 m c) (arg3 m c)) := rfl
theorem res_k : Value.res_main_v88 m c = outK (refG (arg0 m c) (arg1 m c) (arg2 m c) (arg4 m c) (arg3 m c)) (heads (scaled (arg0 m c))) := rfl
theorem res_v : Value.res_main_v96 m c = outV (heads (arg4 m c)) (refP (arg0 m c) (arg1 m c) (arg3 m c)) := rfl
theorem res_fk : Value.res_main_v97 m c = outFk (refG (arg0 m c) (arg1 m c) (arg2 m c) (arg4 m c) (arg3 m c)) := rfl

end results

/-! ## Each array at an index -/

section read

/-- A sum over two axes of length one is the one element. -/
theorem unit_sum_0_3 (x : FVec Ideal S1x16x8192x1 .f32) (h : Fin 16) (i : Fin 8192) :
    (Ideal.hostReduceAdd reducesTo_S1x16x8192x1_S16x8192_d0_3 x 0 (ix2 h i) : EReal) = x (ix4 (0 : Fin 1) h i (0 : Fin 1)) := by
  unfold Ideal.hostReduceAdd
  rw [zero_add, Finset.sum_filter, Finset.sum_eq_single (ix4 (0 : Fin 1) h i (0 : Fin 1))]
  · rw [if_pos]; funext a; apply Fin.ext
    match a with
    | ⟨0, _⟩ => rfl
    | ⟨1, _⟩ => rfl
  · intro k _ hk
    rw [if_neg]; intro e; apply hk; funext a; apply Fin.ext
    match a with
    | ⟨0, _⟩ => exact Nat.lt_one_iff.mp (k 0).isLt
    | ⟨1, _⟩ => have h' := congrArg Fin.val (congrFun e ⟨0, by decide⟩); exact h'
    | ⟨2, _⟩ => have h' := congrArg Fin.val (congrFun e ⟨1, by decide⟩); exact h'
    | ⟨3, _⟩ => exact Nat.lt_one_iff.mp (k 3).isLt
  · intro hk; exact absurd (Finset.mem_univ _) hk

theorem unit_sum_0_2 (x : FVec Ideal S1x16x1x8192 .f32) (h : Fin 16) (i : Fin 8192) :
    (Ideal.hostReduceAdd reducesTo_S1x16x1x8192_S16x8192_d0_2 x 0 (ix2 h i) : EReal) = x (ix4 (0 : Fin 1) h (0 : Fin 1) i) := by
  unfold Ideal.hostReduceAdd
  rw [zero_add, Finset.sum_filter, Finset.sum_eq_single (ix4 (0 : Fin 1) h (0 : Fin 1) i)]
  · rw [if_pos]; funext a; apply Fin.ext
    match a with
    | ⟨0, _⟩ => rfl
    | ⟨1, _⟩ => rfl
  · intro k _ hk
    rw [if_neg]; intro e; apply hk; funext a; apply Fin.ext
    match a with
    | ⟨0, _⟩ => exact Nat.lt_one_iff.mp (k 0).isLt
    | ⟨1, _⟩ => have h' := congrArg Fin.val (congrFun e ⟨0, by decide⟩); exact h'
    | ⟨2, _⟩ => exact Nat.lt_one_iff.mp (k 2).isLt
    | ⟨3, _⟩ => have h' := congrArg Fin.val (congrFun e ⟨1, by decide⟩); exact h'
  · intro hk; exact absurd (Finset.mem_univ _) hk

theorem heads_apply (a : FVec Ideal S8192x2048 .f32) (h : Fin 16) (i : Fin 8192) (d : Fin 128) :
    (heads a (ix4 (0 : Fin 1) h i d) : EReal) = a (ix2 i (col h d)) := by
  unfold heads
  pointwise
  rfl

theorem scaled_apply (a : FVec Ideal S8192x2048 .f32) (i : Fin 8192) (j : Fin 2048) :
    (scaled a (ix2 i j) : EReal) = a (ix2 i j) * Ideal.ofBits .f32 0x3DB504F3#32 := by
  unfold scaled
  pointwise

theorem scores_apply (q k : FVec Ideal S1x16x8192x128 .f32) (f : FVec Ideal S8192x16 .f32) (h : Fin 16) (i j : Fin 8192) :
    (scores q k f (ix4 (0 : Fin 1) h i j) : EReal)
      = if j ≤ i then (∑ d : Fin 128, (q (ix4 (0 : Fin 1) h i d) : EReal) * k (ix4 (0 : Fin 1) h j d)) + f (ix2 i h) - f (ix2 j h) else ⊥ := by
  unfold scores mask
  pointwise
  word_cmp
  by_cases hji : j ≤ i
  · simp [hji]
  · have h' : ¬ j.val ≤ i.val := hji
    rw [if_neg h', if_neg hji]; exact negInf

/-- The row maximum is real where no score is ∞ and one is real. -/
theorem peak_real (s : FVec Ideal S1x16x8192x8192 .f32) (h : Fin 16) (i j : Fin 8192) (hr : ⊥ < (s (ix4 (0 : Fin 1) h i j) : EReal))
    (ht : ∀ k, (s k : EReal) < ⊤) : ∃ M : ℝ, (peak s (ix3 (0 : Fin 1) h i) : EReal) = M := by
  obtain ⟨M, hM⟩ := reduce_max_real s (constant (F := Ideal) S_ .f32 0xFF800000#32) reducesTo_S1x16x8192x8192_S1x16x8192_d3 h_S_ negInf
    (ix3 (0 : Fin 1) h i) (ix4 (0 : Fin 1) h i j) (by
      funext a; apply Fin.ext
      match a with
      | ⟨0, _⟩ => rfl
      | ⟨1, _⟩ => rfl
      | ⟨2, _⟩ => rfl) hr ht
  exact ⟨M, maximumf_real _ _ _ M negInf hM⟩

theorem expo_apply (s : FVec Ideal S1x16x8192x8192 .f32) (t : FVec Ideal S1x16x8192 .f32) (h : Fin 16) (i j : Fin 8192) :
    (expo s t (ix4 (0 : Fin 1) h i j) : EReal) = Ideal.exp ((s (ix4 (0 : Fin 1) h i j) : EReal) - t (ix3 (0 : Fin 1) h i)) := by
  unfold expo
  pointwise

theorem total_apply (e : FVec Ideal S1x16x8192x8192 .f32) (h : Fin 16) (i : Fin 8192) :
    (total e (ix4 (0 : Fin 1) h i (0 : Fin 1)) : EReal) = ∑ j : Fin 8192, (e (ix4 (0 : Fin 1) h i j) : EReal) := by
  unfold total
  pointwise

theorem probs_apply (e : FVec Ideal S1x16x8192x8192 .f32) (l : FVec Ideal S1x16x8192x1 .f32) (h : Fin 16) (i j : Fin 8192) :
    (probs e l (ix4 (0 : Fin 1) h i j) : EReal) = Ideal.div (e (ix4 (0 : Fin 1) h i j)) (l (ix4 (0 : Fin 1) h i (0 : Fin 1))) := by
  unfold probs
  pointwise

theorem dprobs_apply (o v : FVec Ideal S1x16x8192x128 .f32) (h : Fin 16) (i j : Fin 8192) :
    (dprobs o v (ix4 (0 : Fin 1) h i j) : EReal) = ∑ d : Fin 128, (o (ix4 (0 : Fin 1) h i d) : EReal) * v (ix4 (0 : Fin 1) h j d) := by
  unfold dprobs
  pointwise

theorem back_apply (p : FVec Ideal S1x16x8192x8192 .f32) (l : FVec Ideal S1x16x8192x1 .f32) (e : FVec Ideal S1x16x8192x8192 .f32) (h : Fin 16) (i : Fin 8192) :
    (back p l e (ix3 (0 : Fin 1) h i) : EReal)
      = -∑ j : Fin 8192, (p (ix4 (0 : Fin 1) h i j) : EReal) * Ideal.div 1 ((l (ix4 (0 : Fin 1) h i (0 : Fin 1)) : EReal) * l (ix4 (0 : Fin 1) h i (0 : Fin 1))) * e (ix4 (0 : Fin 1) h i j) := by
  unfold back
  pointwise
  rw [unit_sum_0_3]
  pointwise

theorem dscores_apply (p : FVec Ideal S1x16x8192x8192 .f32) (l : FVec Ideal S1x16x8192x1 .f32) (b : FVec Ideal S1x16x8192 .f32) (e : FVec Ideal S1x16x8192x8192 .f32)
    (h : Fin 16) (i j : Fin 8192) :
    (dscores p l b e (ix4 (0 : Fin 1) h i j) : EReal)
      = if j ≤ i then (Ideal.div (p (ix4 (0 : Fin 1) h i j)) (l (ix4 (0 : Fin 1) h i (0 : Fin 1))) + b (ix3 (0 : Fin 1) h i)) * e (ix4 (0 : Fin 1) h i j) else 0 := by
  unfold dscores mask
  pointwise
  word_cmp
  by_cases hji : j ≤ i <;> simp [hji]

theorem outQ_apply (g : FVec Ideal S1x16x8192x8192 .f32) (k : FVec Ideal S1x16x8192x128 .f32) (h : Fin 16) (i : Fin 8192) (d : Fin 128) :
    (outQ g k (ix2 i (col h d)) : EReal) = ∑ j : Fin 8192, (g (ix4 (0 : Fin 1) h i j) : EReal) * k (ix4 (0 : Fin 1) h j d) := by
  unfold outQ joined
  pointwise
  simp only [col_div, col_mod]

theorem outFq_apply (g : FVec Ideal S1x16x8192x8192 .f32) (h : Fin 16) (i : Fin 8192) (d : Fin 128) :
    (outFq g (ix2 i (col h d)) : EReal) = ∑ j : Fin 8192, (g (ix4 (0 : Fin 1) h i j) : EReal) := by
  unfold outFq
  pointwise
  rw [unit_sum_0_3]
  pointwise
  simp only [col_div]

theorem outK_apply (g : FVec Ideal S1x16x8192x8192 .f32) (q : FVec Ideal S1x16x8192x128 .f32) (h : Fin 16) (j : Fin 8192) (d : Fin 128) :
    (outK g q (ix2 j (col h d)) : EReal) = ∑ i : Fin 8192, (g (ix4 (0 : Fin 1) h i j) : EReal) * q (ix4 (0 : Fin 1) h i d) := by
  unfold outK joined
  pointwise
  simp only [col_div, col_mod]

theorem outV_apply (o : FVec Ideal S1x16x8192x128 .f32) (p : FVec Ideal S1x16x8192x8192 .f32) (h : Fin 16) (j : Fin 8192) (d : Fin 128) :
    (outV o p (ix2 j (col h d)) : EReal) = ∑ i : Fin 8192, (o (ix4 (0 : Fin 1) h i d) : EReal) * p (ix4 (0 : Fin 1) h i j) := by
  unfold outV joined
  pointwise
  simp only [col_div, col_mod]

theorem outFk_apply (g : FVec Ideal S1x16x8192x8192 .f32) (h : Fin 16) (j : Fin 8192) :
    (outFk g (ix3 h (0 : Fin 1) j) : EReal) = ∑ i : Fin 8192, -(g (ix4 (0 : Fin 1) h i j) : EReal) := by
  unfold outFk
  pointwise
  rw [unit_sum_0_2]
  pointwise

end read

end Cert.ReferenceIdeal.Hand

end
-- ==== Proof.RefValue.lean ====
module

public import proofs.«01_k».proof.Proof.RefRead

/-!
# What the reference computes

On finite arguments every array of the reference is real, and its results are sums over the tables `P` and `G`.
-/

@[expose] public section

noncomputable section

namespace Cert.ReferenceIdeal.Hand

open Cert.ReferenceIdeal Cert.Attn Idealize.ShloMosaic

variable {a0 a1 a2 a4 : FVec Ideal S8192x2048 .f32} {a3 : FVec Ideal S8192x16 .f32}
variable (h0 : Finite a0) (h1 : Finite a1) (h2 : Finite a2) (h4 : Finite a4) (h3 : Finite a3)

include h0 in
theorem scaled_value (h : Fin 16) (i : Fin 8192) (d : Fin 128) :
    (heads (scaled a0) (ix4 (0 : Fin 1) h i d) : EReal) = ((data a0 a1 a2 a4 a3).Q h i d : ℝ) := by
  rw [heads_apply, scaled_apply, Q_coe _ _ _ h0]

include h0 h1 h3 in
theorem S_value (h : Fin 16) (i j : Fin 8192) :
    (refS a0 a1 a3 (ix4 (0 : Fin 1) h i j) : EReal) = if j ≤ i then ((data a0 a1 a2 a4 a3).S h i j : EReal) else ⊥ := by
  unfold refS
  rw [scores_apply]
  refine if_congr Iff.rfl ?_ rfl
  simp only [scaled_value (a1 := a1) (a2 := a2) (a4 := a4) (a3 := a3) h0, heads_apply, K_coe (a0 := a0) (a1 := a1) (a2 := a2) (a4 := a4) (a3 := a3) _ _ _ h1, f_coe (a0 := a0) (a1 := a1) (a2 := a2) (a4 := a4) (a3 := a3) _ _ h3]
  simp only [Data.S, EReal.coe_sub, EReal.coe_add, coe_sum, EReal.coe_mul]

include h0 h1 h3 in
theorem peak_value (h : Fin 16) (i : Fin 8192) : ∃ M : ℝ, (peak (refS a0 a1 a3) (ix3 (0 : Fin 1) h i) : EReal) = M := by
  refine peak_real _ h i i ?_ ?_
  · rw [S_value (a2 := a0) (a4 := a0) h0 h1 h3, if_pos le_rfl]; exact EReal.bot_lt_coe _
  · intro k
    obtain ⟨z, h', i', j', rfl⟩ : ∃ z h' i' j', k = ix4 z h' i' j' := ⟨k 0, k 1, k 2, k 3, eq_ix4 k⟩
    obtain rfl : z = 0 := Subsingleton.elim _ _
    rw [S_value (a2 := a0) (a4 := a0) h0 h1 h3]
    split
    · exact EReal.coe_lt_top _
    · exact bot_lt_top

include h0 h1 h3 in
/-- A row's exponentials, in terms of the row's shift. -/
theorem row_value (h : Fin 16) (i : Fin 8192) : ∃ M : ℝ,
    (∀ j, (refE a0 a1 a3 (ix4 (0 : Fin 1) h i j) : EReal) = (((data a0 a1 a2 a4 a3).E h i j * Real.exp (-M) : ℝ) : EReal))
    ∧ (refL a0 a1 a3 (ix4 (0 : Fin 1) h i (0 : Fin 1)) : EReal) = (((data a0 a1 a2 a4 a3).Z h i * Real.exp (-M) : ℝ) : EReal) := by
  obtain ⟨M, hM⟩ := peak_value h0 h1 h3 h i
  have hE : ∀ j, (refE a0 a1 a3 (ix4 (0 : Fin 1) h i j) : EReal) = (((data a0 a1 a2 a4 a3).E h i j * Real.exp (-M) : ℝ) : EReal) := by
    intro j
    unfold refE
    rw [expo_apply, hM, S_value (a2 := a2) (a4 := a4) h0 h1 h3, exp_masked]; rfl
  refine ⟨M, hE, ?_⟩
  unfold refL
  rw [total_apply]
  simp only [hE]
  rw [← coe_sum, ← Finset.sum_mul]; rfl

include h0 h1 h3 in
theorem P_value (h : Fin 16) (i j : Fin 8192) :
    (refP a0 a1 a3 (ix4 (0 : Fin 1) h i j) : EReal) = ((data a0 a1 a2 a4 a3).P h i j : ℝ) := by
  obtain ⟨M, hE, hL⟩ := row_value (a2 := a2) (a4 := a4) h0 h1 h3 h i
  have hc := (Real.exp_pos (-M)).ne'
  have hz := ((data a0 a1 a2 a4 a3).Z_pos h i).ne'
  unfold refP
  rw [probs_apply, hE, hL, div_real _ _ (mul_ne_zero hz hc), mul_div_mul_right _ _ hc]; rfl

include h2 h4 in
theorem dP_value (h : Fin 16) (i j : Fin 8192) :
    (refD a2 a4 (ix4 (0 : Fin 1) h i j) : EReal) = ((data a0 a1 a2 a4 a3).dP h i j : ℝ) := by
  unfold refD
  rw [dprobs_apply]
  simp only [heads_apply, V_coe (a0 := a0) (a1 := a1) (a2 := a2) (a4 := a4) (a3 := a3) _ _ _ h2, O_coe (a0 := a0) (a1 := a1) (a2 := a2) (a4 := a4) (a3 := a3) _ _ _ h4]
  simp only [Data.dP, coe_sum, EReal.coe_mul]

include h0 h1 h2 h3 h4 in
theorem G_value (h : Fin 16) (i j : Fin 8192) :
    (refG a0 a1 a2 a4 a3 (ix4 (0 : Fin 1) h i j) : EReal) = ((data a0 a1 a2 a4 a3).G h i j : ℝ) := by
  obtain ⟨M, hE, hL⟩ := row_value (a2 := a2) (a4 := a4) h0 h1 h3 h i
  have hc := (Real.exp_pos (-M)).ne'
  have hz := ((data a0 a1 a2 a4 a3).Z_pos h i).ne'
  have hzc := mul_ne_zero hz hc
  unfold refG
  rw [dscores_apply]
  split
  · rename_i hj
    rw [back_apply, hE, hL]
    simp only [hE, dP_value (a0 := a0) (a1 := a1) (a3 := a3) h2 h4]
    rw [← EReal.coe_mul, ← EReal.coe_one, div_real _ _ (mul_ne_zero hzc hzc), div_real _ _ hzc]
    simp only [← EReal.coe_mul]
    rw [← coe_sum, ← EReal.coe_neg, ← EReal.coe_add, ← EReal.coe_mul, EReal.coe_eq_coe_iff, back_real _ _ _ _ hz hc]
    simp only [Data.G, Data.L, Data.P]
    field_simp
    ring
  · rename_i hj
    rw [Data.G_hidden _ _ _ _ hj, EReal.coe_zero]

section results
include h0 h1 h2 h3 h4

theorem q_value (h : Fin 16) (i : Fin 8192) (d : Fin 128) :
    (outQ (refG a0 a1 a2 a4 a3) (heads a1) (ix2 i (col h d)) : EReal)
      = ((∑ j, (data a0 a1 a2 a4 a3).G h i j * (data a0 a1 a2 a4 a3).K h j d : ℝ) : EReal) := by
  rw [outQ_apply]
  simp only [G_value h0 h1 h2 h4 h3, heads_apply, K_coe (a0 := a0) (a1 := a1) (a2 := a2) (a4 := a4) (a3 := a3) _ _ _ h1]
  simp only [coe_sum, EReal.coe_mul]

theorem fq_value (h : Fin 16) (i : Fin 8192) (d : Fin 128) :
    (outFq (refG a0 a1 a2 a4 a3) (ix2 i (col h d)) : EReal) = ((∑ j, (data a0 a1 a2 a4 a3).G h i j : ℝ) : EReal) := by
  rw [outFq_apply]
  simp only [G_value h0 h1 h2 h4 h3, coe_sum]

theorem k_value (h : Fin 16) (j : Fin 8192) (d : Fin 128) :
    (outK (refG a0 a1 a2 a4 a3) (heads (scaled a0)) (ix2 j (col h d)) : EReal)
      = ((∑ i, (data a0 a1 a2 a4 a3).G h i j * (data a0 a1 a2 a4 a3).Q h i d : ℝ) : EReal) := by
  rw [outK_apply]
  simp only [G_value h0 h1 h2 h4 h3, scaled_value (a1 := a1) (a2 := a2) (a4 := a4) (a3 := a3) h0, coe_sum, EReal.coe_mul]

theorem v_value (h : Fin 16) (j : Fin 8192) (d : Fin 128) :
    (outV (heads a4) (refP a0 a1 a3) (ix2 j (col h d)) : EReal)
      = ((∑ i, (data a0 a1 a2 a4 a3).P h i j * (data a0 a1 a2 a4 a3).O h i d : ℝ) : EReal) := by
  rw [outV_apply]
  simp only [P_value (a2 := a2) (a4 := a4) h0 h1 h3, heads_apply, O_coe (a0 := a0) (a1 := a1) (a2 := a2) (a4 := a4) (a3 := a3) _ _ _ h4]
  simp only [coe_sum, EReal.coe_mul]
  exact Finset.sum_congr rfl fun _ _ => mul_comm _ _

theorem fk_value (h : Fin 16) (j : Fin 8192) :
    (outFk (refG a0 a1 a2 a4 a3) (ix3 h (0 : Fin 1) j) : EReal) = ((-∑ i, (data a0 a1 a2 a4 a3).G h i j : ℝ) : EReal) := by
  rw [outFk_apply, ← Finset.sum_neg_distrib]
  simp only [G_value h0 h1 h2 h4 h3, coe_sum, EReal.coe_neg]

end results

end Cert.ReferenceIdeal.Hand

end
-- ==== Proof.Value.lean ====
module

public import proofs.«01_k».proof.Proof.Arrays
public import proofs.«01_k».proof.Proof.Run
public import proofs.«01_k».proof.Proof.RefValue

/-!
# The kernel's results are the reference's
-/

@[expose] public section

set_option maxRecDepth 16384

noncomputable section

namespace Cert.Attn

open Idealize.ShloMosaic Idealize.ShloMosaic.TcCoe Idealize.SL.Sem

open Cert.KernelIdeal.Hand (AllFinite array_dq array_dfq array_dk array_dv array_dfk)

variable {m : (ℓ : Loc KernelIdeal.nD KernelIdeal.τ KernelIdeal.sig) → Buf (Elt Ideal) ℓ}
variable {m' : (ℓ : Loc ReferenceIdeal.nD ReferenceIdeal.τ ReferenceIdeal.sig) → Buf (Elt Ideal) ℓ}

/-- The two programs are given the same arguments. -/
def Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  ReferenceIdeal.Hand.arg0 m' c = KernelIdeal.Hand.arg0 m c ∧ ReferenceIdeal.Hand.arg1 m' c = KernelIdeal.Hand.arg1 m c
    ∧ ReferenceIdeal.Hand.arg2 m' c = KernelIdeal.Hand.arg2 m c ∧ ReferenceIdeal.Hand.arg3 m' c = KernelIdeal.Hand.arg3 m c
    ∧ ReferenceIdeal.Hand.arg4 m' c = KernelIdeal.Hand.arg4 m c

variable {c : Dev KernelIdeal.nD} (H : AllFinite m c) (E : Agree m m' c)
include H E

theorem same_dq : (KernelIdeal.Hand.dats m 0 c).arrAt (8 : Fin 13) (KernelIdeal.Hand.cfgM (F := Ideal)).N = ReferenceIdeal.Value.res_main_v90 m' c := by
  obtain ⟨e0, e1, e2, e3, e4⟩ := E
  rw [ReferenceIdeal.Hand.res_q, e0, e1, e2, e3, e4]
  exact array_dq H _ fun h i d => ReferenceIdeal.Hand.q_value H.a0 H.a1 H.a2 H.a4 H.a3 h i d
theorem same_dfq : (KernelIdeal.Hand.dats m 0 c).arrAt (9 : Fin 13) (KernelIdeal.Hand.cfgM (F := Ideal)).N = ReferenceIdeal.Value.res_main_v95 m' c := by
  obtain ⟨e0, e1, e2, e3, e4⟩ := E
  rw [ReferenceIdeal.Hand.res_fq, e0, e1, e2, e3, e4]
  exact array_dfq H _ fun h i d => ReferenceIdeal.Hand.fq_value H.a0 H.a1 H.a2 H.a4 H.a3 h i d
theorem same_dk : (KernelIdeal.Hand.dats m 0 c).arrAt (10 : Fin 13) (KernelIdeal.Hand.cfgM (F := Ideal)).N = ReferenceIdeal.Value.res_main_v88 m' c := by
  obtain ⟨e0, e1, e2, e3, e4⟩ := E
  rw [ReferenceIdeal.Hand.res_k, e0, e1, e2, e3, e4]
  exact array_dk H _ fun h j d => ReferenceIdeal.Hand.k_value H.a0 H.a1 H.a2 H.a4 H.a3 h j d
theorem same_dv : (KernelIdeal.Hand.dats m 0 c).arrAt (11 : Fin 13) (KernelIdeal.Hand.cfgM (F := Ideal)).N = ReferenceIdeal.Value.res_main_v96 m' c := by
  obtain ⟨e0, e1, e2, e3, e4⟩ := E
  rw [ReferenceIdeal.Hand.res_v, e0, e1, e3, e4]
  exact array_dv H _ fun h j d => ReferenceIdeal.Hand.v_value H.a0 H.a1 H.a2 H.a4 H.a3 h j d
theorem same_dfk : (KernelIdeal.Hand.dats m 0 c).arrAt (12 : Fin 13) (KernelIdeal.Hand.cfgM (F := Ideal)).N = ReferenceIdeal.Value.res_main_v97 m' c := by
  obtain ⟨e0, e1, e2, e3, e4⟩ := E
  rw [ReferenceIdeal.Hand.res_fk, e0, e1, e2, e3, e4]
  exact array_dfk H _ fun h j => ReferenceIdeal.Hand.fk_value H.a0 H.a1 H.a2 H.a4 H.a3 h j

end Cert.Attn

end
-- ==== Proof.Product.lean ====
module

public import Idealize.ShloMosaic.Lib.Pipeline.Value
public import Idealize.ShloMosaic.Lib.Pipeline.ValueKit.Acc
public import Idealize.ShloMosaic.Lib.Pointwise

/-!
# Sums in blocks

What every product of the step needs: the block and the place in it that a place of the result falls on, and a sum over a whole
axis, taken block by block.
-/

@[expose] public section

namespace Cert.Product

open Idealize.ShloMosaic

/-- The zero offset of a load or a store of a whole buffer. -/
theorem origin : (![0, 0] : Fin 2 → Nat) = fun _ => 0 := funext fun a => by fin_cases a <;> rfl

/-- Blocks of `bm` rows and `bn` columns, `g` of them side by side and numbered row by row: each place lies in one of them. -/
theorem point_of {P bm bn M N : Nat} (g : Nat) (i : Fin M) (j : Fin N) (hm : 0 < bm) (hn : 0 < bn) (hj : j.val / bn < g) (ht : g * (i.val / bm) + j.val / bn < P) :
    ∃ (t : Fin P) (r : Fin bm) (q : Fin bn), bm * (t.val / g) + r.val = i.val ∧ bn * (t.val % g) + q.val = j.val := by
  refine ⟨⟨_, ht⟩, ⟨i.val % bm, Nat.mod_lt _ hm⟩, ⟨j.val % bn, Nat.mod_lt _ hn⟩, ?_, ?_⟩
  · show bm * ((g * (i.val / bm) + j.val / bn) / g) + i.val % bm = i.val
    rw [Nat.mul_add_div (Nat.lt_of_le_of_lt (Nat.zero_le _) hj), Nat.div_eq_of_lt hj, Nat.add_zero, Nat.div_add_mod]
  · show bn * ((g * (i.val / bm) + j.val / bn) % g) + j.val % bn = j.val
    rw [Nat.mul_add_mod, Nat.mod_eq_of_lt hj, Nat.div_add_mod]

/-- A sum over `J` blocks of `sz` is the sum of the blocks' sums. -/
theorem sum_blocks {J sz L : Nat} (hL : J * sz = L) (f : Fin L → EReal) (g : Fin J → Fin sz → EReal)
    (hg : ∀ (s : Fin J) (k : Fin sz) (l : Fin L), sz * s.val + k.val = l.val → g s k = f l) : ∑ s, ∑ k, g s k = ∑ l, f l := by
  subst hL
  have e := Fin.sum_univ_univ_mul_add J sz fun n => if h : n < J * sz then f ⟨n, h⟩ else 0
  have hl : ∀ l : Fin (J * sz), (if h : l.val < J * sz then f ⟨l.val, h⟩ else 0) = f l := fun l => dif_pos l.isLt
  rw [← Finset.sum_congr rfl fun l _ => hl l]
  refine Eq.trans (Finset.sum_congr rfl fun s _ => Finset.sum_congr rfl fun k _ => ?_) e
  have h : s.val * sz + k.val < J * sz :=
    Nat.lt_of_lt_of_le (Nat.add_lt_add_left k.isLt _) (by rw [← Nat.succ_mul]; exact Nat.mul_le_mul_right _ s.isLt)
  rw [dif_pos h]
  exact hg s k _ (by rw [Nat.mul_comm])

/-- A product summed from point to point: `J` points, one for each block of the summed axis, work on one block of the result, and
    the last of them holds the sum over the whole axis. `x t k i` and `y t k i` are the factors that point `t` multiplies for
    place `i`, `X` and `Y` the lines of the two arrays that meet there. -/
theorem kept_sum {S : Shape} {N : Nat} (J last sz L : Nat) [NeZero J] (hJ : last + 1 = J) (hL : J * sz = L)
    (f : (n : Nat) → n < N → S.Idx → EReal) (x y : Fin N → Fin sz → S.Idx → EReal)
    (start : ∀ t : Fin N, t.val % J = 0 → ∀ i, f t.val t.isLt i = ∑ k, x t k i * y t k i)
    (step : ∀ t : Fin N, ¬t.val % J = 0 → ∀ i, f t.val t.isLt i = f (t.val - 1) (Nat.lt_of_le_of_lt (Nat.sub_le _ _) t.isLt) i + ∑ k, x t k i * y t k i)
    (b : Nat) (hb : J * b + last < N) (i : S.Idx) (X Y : Fin L → EReal)
    (hx : ∀ (s : Fin J) (k : Fin sz) (t : Fin N) (l : Fin L), t.val = J * b + s.val → sz * s.val + k.val = l.val → x t k i = X l)
    (hy : ∀ (s : Fin J) (k : Fin sz) (t : Fin N) (l : Fin L), t.val = J * b + s.val → sz * s.val + k.val = l.val → y t k i = Y l) :
    f (J * b + last) hb i = ∑ l : Fin L, X l * Y l := by
  have hlt : last < J := by omega
  have hr : (J * b + last) % J = J - 1 := by rw [Nat.mul_add_mod, Nat.mod_eq_of_lt hlt]; omega
  have hd : (J * b + last) / J = b := by rw [Nat.mul_add_div (by omega), Nat.div_eq_of_lt hlt, Nat.add_zero]
  refine (Pipeline.eq_sum_fin_of_reset_step_apply_of_flush (ι := S.Idx) (M := EReal) f J (fun _ => 0) (fun t i => ∑ k, x t k i * y t k i)
    (fun t h i => (start t h i).trans (zero_add _).symm) (fun t h i => step t h i) ⟨J * b + last, hb⟩ hr i).trans ?_
  rw [zero_add]
  refine sum_blocks hL (fun l => X l * Y l) _ fun s k l e => ?_
  have ht : J * ((J * b + last) / J) + s.val = J * b + s.val := by rw [hd]
  exact congrArg₂ (fun x y : EReal => x * y) (hx s k _ l ht e) (hy s k _ l ht e)

end Cert.Product
-- ==== Proof.DwUp.lean ====
module

public import proofs.«01_k».proof.Proof.Product
public import proofs.«01_k».proof.Proof.Gen.Kernel2Ideal.Value
public import proofs.«01_k».proof.Proof.Gen.Reference2Ideal.Run
public import Idealize.ShloMosaic.Lib.Pipeline.ValueKit.Geometry

/-!
# The gradient of the up product's weights

The kernel sums the products of a block of tokens into a buffer, one block after the other; the array it returns holds at
each place the sum over all tokens.
-/

@[expose] public section

noncomputable section

namespace Cert.Kernel2Ideal.Hand

open Cert.Kernel2Ideal Cert.Kernel2Ideal.Gen Cert.Kernel2Ideal.Value Cert.Product
open Idealize.ShloMosaic Idealize.ShloMosaic.TcCoe Idealize.SL.Sem
open Idealize.ShloMosaic.Pipeline (Dat)

section steps
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole) (x y : Vec F S2048x1024 .bf16) (s : Vec F S1024x1024 .f32)

/-- The first block of tokens starts the sum. -/
theorem start (g0 g1 g2) : sout0_A_0 c i a3 h3 a4 h4 a5 h5 a6 h6 g0 g1 g2 x y = k0_pay2 x y := by
  unfold sout0_A_0
  rw [View.read_writes_eq_canon _ _ _ (scover0_A_0 c i a3 h3 a4 h4 a5 h5 a6 h6 g0 g1 g2 x y)]
  unfold kernelRun0_A
  dsimp only
  rw [View.canon_unit_zero origin]
  simp only [View.readAt_eq_ld, h3.read_unread, h4.read_unread, View.ld_unit_zero (S := S2048x1024) origin]

/-- A later block adds to the sum. -/
theorem go_on (g0 g1 g2) : sout0_B_0 c i a3 h3 a4 h4 a5 h5 a6 h6 g0 g1 g2 x y s = k0_pay3 x y s := by
  unfold sout0_B_0
  rw [View.read_writes_eq_canon _ _ _ (scover0_B_0 c i a3 h3 a4 h4 a5 h5 a6 h6 g0 g1 g2 x y s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

/-- So does the last block, and the result is the sum then reached. -/
theorem finish_sum (g0 g1 g2) : sout0_C_0 c i a3 h3 a4 h4 a5 h5 a6 h6 g0 g1 g2 x y s = k0_pay3 x y s := by
  unfold sout0_C_0
  rw [View.read_writes_eq_canon _ _ _ (scover0_C_0 c i a3 h3 a4 h4 a5 h5 a6 h6 g0 g1 g2 x y s)]
  unfold kernelRun0_C
  dsimp only
  sl_unfold_words
  rw [View.canon_unit_zero origin]
  simp only [View.readAt_eq_ld, h3.read_unread, h4.read_unread, h6.read_unread, View.ld_unit_zero (S := S2048x1024) origin, View.ld_unit_zero (S := S1024x1024) origin]

theorem finish (g0 g1 g2) : out0_C_2 c i a3 h3 a4 h4 a5 h5 a6 h6 g0 g1 g2 x y s = k0_pay3 x y s := by
  unfold out0_C_2
  rw [View.read_writes_eq_canon _ _ _ (cover0_C_2 c i a3 h3 a4 h4 a5 h5 a6 h6 g0 g1 g2 x y s)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S2048x1024) origin, View.ld_unit_zero (S := S1024x1024) origin]

end steps

/-- What a block of tokens adds at one place. -/
theorem pay2_apply (x y : FVec Ideal S2048x1024 .bf16) (r q : Fin 1024) :
    (k0_pay2 (F := Ideal) x y (ix2 r q) : EReal) = ∑ k : Fin 2048, (x (ix2 k r) : EReal) * y (ix2 k q) := by
  unfold k0_pay2 k0_pay1; pointwise
theorem pay3_apply (x y : FVec Ideal S2048x1024 .bf16) (s : FVec Ideal S1024x1024 .f32) (r q : Fin 1024) :
    (k0_pay3 (F := Ideal) x y s (ix2 r q) : EReal) = s (ix2 r q) + ∑ k : Fin 2048, (x (ix2 k r) : EReal) * y (ix2 k q) := by
  unfold k0_pay3 k0_pay1; pointwise

variable (m : (ℓ : Loc nD τ sig) → Buf (Elt Ideal) ℓ) (c : Dev nD)

/-- The two blocks that point `t` is given. -/
def left (t : Fin cfg0.N) : FVec Ideal S2048x1024 .bf16 := iblk m c 0 t
def right (t : Fin cfg0.N) : FVec Ideal S2048x1024 .bf16 := iblk m c 1 t
/-- The two arrays that the call is given. -/
def arg0 : FVec Ideal S8192x2048 .bf16 := m ((c.tc : Thread nD τ).loc main_arg0)
def arg1 : FVec Ideal S8192x11264 .bf16 := m ((c.tc : Thread nD τ).loc main_arg1)

theorem out_eq_sum (t : Fin cfg0.N) (h : t.val % 4 = 3) : (outsAt0 m c t.val t.isLt).1 = (outsAt0 m c t.val t.isLt).2 := by
  rw [outsAt0_C m c t (by omega) (by omega) h]
  dsimp only
  rw [finish, finish_sum]

/-- The factors that point `t` multiplies for one place of the block it works on. -/
def x (t : Fin cfg0.N) (k : Fin 2048) (i : S1024x1024.Idx) : EReal := left m c t (ix2 k (i 0))
def y (t : Fin cfg0.N) (k : Fin 2048) (i : S1024x1024.Idx) : EReal := right m c t (ix2 k (i 1))

theorem sum_start (t : Fin cfg0.N) (h : t.val % 4 = 0) (i : S1024x1024.Idx) : ((outsAt0 m c t.val t.isLt).2 i : EReal) = ∑ k, x m c t k i * y m c t k i := by
  rw [outsAt0_A m c t h (by omega) (by omega)]
  dsimp only
  rw [start, eq_ix2 i]
  exact pay2_apply (left m c t) (right m c t) _ _

theorem sum_step (t : Fin cfg0.N) (h : ¬t.val % 4 = 0) (i : S1024x1024.Idx) :
    ((outsAt0 m c t.val t.isLt).2 i : EReal) = (outsAt0 m c (t.val - 1) (Nat.lt_of_le_of_lt (Nat.sub_le _ _) t.isLt)).2 i + ∑ k, x m c t k i * y m c t k i := by
  by_cases h2 : t.val % 4 = 3
  on_goal 1 => rw [outsAt0_C m c t h (by omega) h2]
  on_goal 2 => rw [outsAt0_B m c t h (by omega) h2]
  all_goals
    dsimp only
    first | rw [finish_sum] | rw [go_on]
    rw [eq_ix2 i]
    exact pay3_apply (left m c t) (right m c t) _ _ _

/-- Which blocks a point is given, and which it works on. -/
theorem index_in : ∀ t : Fin cfg0.N, win0_0.index t = ![t.val % 4, t.val / 44] ∧ win0_1.index t = ![t.val % 4, t.val / 4 % 11] :=
  (by decide +kernel : ∀ t : Fin grid0.N, _)

theorem left_at (t : Fin cfg0.N) (k : Fin 2048) (r : Fin 1024) (a : Fin 8192) (b : Fin 2048) (ha : 2048 * (t.val % 4) + k.val = a.val)
    (hb : 1024 * (t.val / 44) + r.val = b.val) : left m c t (ix2 k r) = arg0 m c (ix2 a b) := by
  obtain ⟨a, _⟩ := a; obtain ⟨b, _⟩ := b; subst ha; subst hb
  refine congrArg (V m c main_arg0) (?_ : (win0_0.rect t).emb (ix2 k r) = _)
  have h := (index_in t).1
  blk_ext [h, Pipeline.WinKind.off]

theorem right_at (t : Fin cfg0.N) (k : Fin 2048) (r : Fin 1024) (a : Fin 8192) (b : Fin 11264) (ha : 2048 * (t.val % 4) + k.val = a.val)
    (hb : 1024 * (t.val / 4 % 11) + r.val = b.val) : right m c t (ix2 k r) = arg1 m c (ix2 a b) := by
  obtain ⟨a, _⟩ := a; obtain ⟨b, _⟩ := b; subst ha; subst hb
  refine congrArg (V m c main_arg1) (?_ : (win0_1.rect t).emb (ix2 k r) = _)
  have h := (index_in t).2
  blk_ext [h, Pipeline.WinKind.off]

/-- The array that the call returns, place by place. -/
theorem result_at (i : Fin 2048) (j : Fin 11264) :
    (G2 m c (ix2 i j : S2048x11264.Idx) : EReal) = ∑ l : Fin 8192, (arg0 m c (ix2 l i) : EReal) * arg1 m c (ix2 l j) := by
  have hN : cfg0.N = 88 := N_0
  obtain ⟨b, hb⟩ : ∃ b, b = 11 * (i.val / 1024) + j.val / 1024 := ⟨_, rfl⟩
  have hp : pt2Of (ix2 i j : S2048x11264.Idx) = 4 * b + 3 := by
    show 4 * (11 * (i.val / 1024 - 0) + 1 * (j.val / 1024 - 0)) + 3 = _
    omega
  have hlt : 4 * b + 3 < cfg0.N := by omega
  have hl : loc2Of (ix2 i j : S2048x11264.Idx) = (ix2 ⟨i.val % 1024, by omega⟩ ⟨j.val % 1024, by omega⟩ : S1024x1024.Idx) := by
    funext a; fin_cases a <;> rfl
  unfold G2
  rw [dif_pos (hp ▸ hlt), hl, fold0_congr m c _ _ (4 * b + 3) (by omega) hp, ← outsAt0_sweep m c _ hlt, out_eq_sum m c ⟨_, hlt⟩ (by show (4 * b + 3) % 4 = 3; omega)]
  exact kept_sum 4 3 2048 8192 rfl rfl (S := S1024x1024) (fun n h => (outsAt0 m c n h).2) (x m c) (y m c) (sum_start m c) (sum_step m c) b hlt _
    (fun l => arg0 m c (ix2 l i)) (fun l => arg1 m c (ix2 l j))
    (fun s k t l ht hl => left_at m c t k _ l _ (by omega) (by show 1024 * (t.val / 44) + i.val % 1024 = _; omega))
    (fun s k t l ht hl => right_at m c t k _ l _ (by omega) (by show 1024 * (t.val / 4 % 11) + j.val % 1024 = _; omega))

end Cert.Kernel2Ideal.Hand

namespace Cert.Reference2Ideal.Hand

open Cert.Reference2Ideal Cert.Reference2Ideal.Gen
open Idealize.ShloMosaic

/-- The reference's result, place by place. -/
theorem result_at (x : FVec Ideal S8192x2048 .bf16) (y : FVec Ideal S8192x11264 .bf16) (i : Fin 2048) (j : Fin 11264) :
    ((transpose S2048x11264 [1, 0] (Host.dotGeneral dot_S8192x11264_S8192x2048_S11264x2048_0_0_1_1_n_n none (extf .f32 y bitsLt_bf16_f32)
      (extf .f32 x bitsLt_bf16_f32)) transposes_S11264x2048_S2048x11264_1_0 : FVec Ideal S2048x11264 .f32) (ix2 i j) : EReal) = ∑ l : Fin 8192, (x (ix2 l i) : EReal) * y (ix2 l j) := by
  pointwise
  exact Finset.sum_congr rfl fun l _ => mul_comm _ _

end Cert.Reference2Ideal.Hand

end
-- ==== Proof.DwGdn.lean ====
module

public import proofs.«01_k».proof.Proof.Product
public import proofs.«01_k».proof.Proof.Gen.Kernel3Ideal.Value
public import proofs.«01_k».proof.Proof.Gen.Reference3Ideal.Run
public import Idealize.ShloMosaic.Lib.Pipeline.ValueKit.Geometry

/-!
# The gradient of the weights before the delta rule

As for the up product, over twelve blocks of columns.
-/

@[expose] public section

noncomputable section

namespace Cert.Kernel3Ideal.Hand

open Cert.Kernel3Ideal Cert.Kernel3Ideal.Gen Cert.Kernel3Ideal.Value Cert.Product
open Idealize.ShloMosaic Idealize.ShloMosaic.TcCoe Idealize.SL.Sem

section steps
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- The first block of tokens starts the sum. -/
theorem start (g0 g1 g2) : sout0_A_0 c i a3 h3 a4 h4 a5 h5 a6 h6 g0 g1 g2 x y = k0_pay2 x y := by
  unfold sout0_A_0
  rw [View.read_writes_eq_canon _ _ _ (scover0_A_0 c i a3 h3 a4 h4 a5 h5 a6 h6 g0 g1 g2 x y)]
  unfold kernelRun0_A
  dsimp only
  rw [View.canon_unit_zero origin]
  simp only [View.readAt_eq_ld, h3.read_unread, h4.read_unread, View.ld_unit_zero (S := S2048x1024) origin]

/-- A later block adds to the sum. -/
theorem go_on (g0 g1 g2) : sout0_B_0 c i a3 h3 a4 h4 a5 h5 a6 h6 g0 g1 g2 x y s = k0_pay3 x y s := by
  unfold sout0_B_0
  rw [View.read_writes_eq_canon _ _ _ (scover0_B_0 c i a3 h3 a4 h4 a5 h5 a6 h6 g0 g1 g2 x y s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

/-- So does the last block, and the result is the sum then reached. -/
theorem finish_sum (g0 g1 g2) : sout0_C_0 c i a3 h3 a4 h4 a5 h5 a6 h6 g0 g1 g2 x y s = k0_pay3 x y s := by
  unfold sout0_C_0
  rw [View.read_writes_eq_canon _ _ _ (scover0_C_0 c i a3 h3 a4 h4 a5 h5 a6 h6 g0 g1 g2 x y s)]
  unfold kernelRun0_C
  dsimp only
  sl_unfold_words
  rw [View.canon_unit_zero origin]
  simp only [View.readAt_eq_ld, h3.read_unread, h4.read_unread, h6.read_unread, View.ld_unit_zero (S := S2048x1024) origin, View.ld_unit_zero (S := S1024x1024) origin]

theorem finish (g0 g1 g2) : out0_C_2 c i a3 h3 a4 h4 a5 h5 a6 h6 g0 g1 g2 x y s = k0_pay3 x y s := by
  unfold out0_C_2
  rw [View.read_writes_eq_canon _ _ _ (cover0_C_2 c i a3 h3 a4 h4 a5 h5 a6 h6 g0 g1 g2 x y s)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S2048x1024) origin, View.ld_unit_zero (S := S1024x1024) origin]

end steps

/-- What a block of tokens adds at one place. -/
theorem pay2_apply (x y : FVec Ideal S2048x1024 .bf16) (r q : Fin 1024) :
    (k0_pay2 (F := Ideal) x y (ix2 r q) : EReal) = ∑ k : Fin 2048, (x (ix2 k r) : EReal) * y (ix2 k q) := by
  unfold k0_pay2 k0_pay1; pointwise
theorem pay3_apply (x y : FVec Ideal S2048x1024 .bf16) (s : FVec Ideal S1024x1024 .f32) (r q : Fin 1024) :
    (k0_pay3 (F := Ideal) x y s (ix2 r q) : EReal) = s (ix2 r q) + ∑ k : Fin 2048, (x (ix2 k r) : EReal) * y (ix2 k q) := by
  unfold k0_pay3 k0_pay1; pointwise

variable (m : (ℓ : Loc nD τ sig) → Buf (Elt Ideal) ℓ) (c : Dev nD)

/-- The two blocks that point `t` is given. -/
def left (t : Fin cfg0.N) : FVec Ideal S2048x1024 .bf16 := iblk m c 0 t
def right (t : Fin cfg0.N) : FVec Ideal S2048x1024 .bf16 := iblk m c 1 t
/-- The two arrays that the call is given. -/
def arg0 : FVec Ideal S8192x2048 .bf16 := m ((c.tc : Thread nD τ).loc main_arg0)
def arg1 : FVec Ideal S8192x12288 .bf16 := m ((c.tc : Thread nD τ).loc main_arg1)

theorem out_eq_sum (t : Fin cfg0.N) (h : t.val % 4 = 3) : (outsAt0 m c t.val t.isLt).1 = (outsAt0 m c t.val t.isLt).2 := by
  rw [outsAt0_C m c t (by omega) (by omega) h]
  dsimp only
  rw [finish, finish_sum]

/-- The factors that point `t` multiplies for one place of the block it works on. -/
def x (t : Fin cfg0.N) (k : Fin 2048) (i : S1024x1024.Idx) : EReal := left m c t (ix2 k (i 0))
def y (t : Fin cfg0.N) (k : Fin 2048) (i : S1024x1024.Idx) : EReal := right m c t (ix2 k (i 1))

theorem sum_start (t : Fin cfg0.N) (h : t.val % 4 = 0) (i : S1024x1024.Idx) : ((outsAt0 m c t.val t.isLt).2 i : EReal) = ∑ k, x m c t k i * y m c t k i := by
  rw [outsAt0_A m c t h (by omega) (by omega)]
  dsimp only
  rw [start, eq_ix2 i]
  exact pay2_apply (left m c t) (right m c t) _ _

theorem sum_step (t : Fin cfg0.N) (h : ¬t.val % 4 = 0) (i : S1024x1024.Idx) :
    ((outsAt0 m c t.val t.isLt).2 i : EReal) = (outsAt0 m c (t.val - 1) (Nat.lt_of_le_of_lt (Nat.sub_le _ _) t.isLt)).2 i + ∑ k, x m c t k i * y m c t k i := by
  by_cases h2 : t.val % 4 = 3
  on_goal 1 => rw [outsAt0_C m c t h (by omega) h2]
  on_goal 2 => rw [outsAt0_B m c t h (by omega) h2]
  all_goals
    dsimp only
    first | rw [finish_sum] | rw [go_on]
    rw [eq_ix2 i]
    exact pay3_apply (left m c t) (right m c t) _ _ _

/-- Which blocks a point is given. -/
theorem index_in : ∀ t : Fin cfg0.N, win0_0.index t = ![t.val % 4, t.val / 48] ∧ win0_1.index t = ![t.val % 4, t.val / 4 % 12] :=
  (by decide +kernel : ∀ t : Fin grid0.N, _)

theorem left_at (t : Fin cfg0.N) (k : Fin 2048) (r : Fin 1024) (a : Fin 8192) (b : Fin 2048) (ha : 2048 * (t.val % 4) + k.val = a.val)
    (hb : 1024 * (t.val / 48) + r.val = b.val) : left m c t (ix2 k r) = arg0 m c (ix2 a b) := by
  obtain ⟨a, _⟩ := a; obtain ⟨b, _⟩ := b; subst ha; subst hb
  refine congrArg (V m c main_arg0) (?_ : (win0_0.rect t).emb (ix2 k r) = _)
  have h := (index_in t).1
  blk_ext [h, Pipeline.WinKind.off]

theorem right_at (t : Fin cfg0.N) (k : Fin 2048) (r : Fin 1024) (a : Fin 8192) (b : Fin 12288) (ha : 2048 * (t.val % 4) + k.val = a.val)
    (hb : 1024 * (t.val / 4 % 12) + r.val = b.val) : right m c t (ix2 k r) = arg1 m c (ix2 a b) := by
  obtain ⟨a, _⟩ := a; obtain ⟨b, _⟩ := b; subst ha; subst hb
  refine congrArg (V m c main_arg1) (?_ : (win0_1.rect t).emb (ix2 k r) = _)
  have h := (index_in t).2
  blk_ext [h, Pipeline.WinKind.off]

/-- The array that the call returns, place by place. -/
theorem result_at (i : Fin 2048) (j : Fin 12288) :
    (G2 m c (ix2 i j : S2048x12288.Idx) : EReal) = ∑ l : Fin 8192, (arg0 m c (ix2 l i) : EReal) * arg1 m c (ix2 l j) := by
  have hN : cfg0.N = 96 := N_0
  obtain ⟨b, hb⟩ : ∃ b, b = 12 * (i.val / 1024) + j.val / 1024 := ⟨_, rfl⟩
  have hp : pt2Of (ix2 i j : S2048x12288.Idx) = 4 * b + 3 := by
    show 4 * (12 * (i.val / 1024 - 0) + 1 * (j.val / 1024 - 0)) + 3 = _
    omega
  have hlt : 4 * b + 3 < cfg0.N := by omega
  have hl : loc2Of (ix2 i j : S2048x12288.Idx) = (ix2 ⟨i.val % 1024, by omega⟩ ⟨j.val % 1024, by omega⟩ : S1024x1024.Idx) := by
    funext a; fin_cases a <;> rfl
  unfold G2
  rw [dif_pos (hp ▸ hlt), hl, fold0_congr m c _ _ (4 * b + 3) (by omega) hp, ← outsAt0_sweep m c _ hlt, out_eq_sum m c ⟨_, hlt⟩ (by show (4 * b + 3) % 4 = 3; omega)]
  exact kept_sum 4 3 2048 8192 rfl rfl (S := S1024x1024) (fun n h => (outsAt0 m c n h).2) (x m c) (y m c) (sum_start m c) (sum_step m c) b hlt _
    (fun l => arg0 m c (ix2 l i)) (fun l => arg1 m c (ix2 l j))
    (fun s k t l ht hl => left_at m c t k _ l _ (by omega) (by show 1024 * (t.val / 48) + i.val % 1024 = _; omega))
    (fun s k t l ht hl => right_at m c t k _ l _ (by omega) (by show 1024 * (t.val / 4 % 12) + j.val % 1024 = _; omega))

end Cert.Kernel3Ideal.Hand

namespace Cert.Reference3Ideal.Hand

open Cert.Reference3Ideal Cert.Reference3Ideal.Gen
open Idealize.ShloMosaic

/-- The reference's result, place by place. -/
theorem result_at (x : FVec Ideal S8192x2048 .bf16) (y : FVec Ideal S8192x12288 .bf16) (i : Fin 2048) (j : Fin 12288) :
    ((transpose S2048x12288 [1, 0] (Host.dotGeneral dot_S8192x12288_S8192x2048_S12288x2048_0_0_1_1_n_n none (extf .f32 y bitsLt_bf16_f32)
      (extf .f32 x bitsLt_bf16_f32)) transposes_S12288x2048_S2048x12288_1_0 : FVec Ideal S2048x12288 .f32) (ix2 i j) : EReal) = ∑ l : Fin 8192, (x (ix2 l i) : EReal) * y (ix2 l j) := by
  pointwise
  exact Finset.sum_congr rfl fun l _ => mul_comm _ _

end Cert.Reference3Ideal.Hand

end
-- ==== Proof.DwDown.lean ====
module

public import proofs.«01_k».proof.Proof.Product
public import proofs.«01_k».proof.Proof.Gen.Kernel4Ideal.Value
public import proofs.«01_k».proof.Proof.Gen.Reference4Ideal.Run
public import Idealize.ShloMosaic.Lib.Pipeline.ValueKit.Geometry

/-!
# The gradient of the down product's weights

As for the up product, over blocks of 512 rows and 1024 columns.
-/

@[expose] public section

noncomputable section

namespace Cert.Kernel4Ideal.Hand

open Cert.Kernel4Ideal Cert.Kernel4Ideal.Gen Cert.Kernel4Ideal.Value Cert.Product
open Idealize.ShloMosaic Idealize.ShloMosaic.TcCoe Idealize.SL.Sem

section steps
variable {F : FTy → Type} [FloatOps F]
variable (c : Dev nD) (i : grid0.Coords) (a3 : Memref sig .tc .vmem S2048x512 .bf16) (h3 : a3.IsWhole) (a4 : Memref sig .tc .vmem S2048x1024 .bf16) (h4 : a4.IsWhole)
  (a5 : Memref sig .tc .vmem S512x1024 .f32) (h5 : a5.IsWhole) (a6 : Memref sig .tc .vmem S512x1024 .f32) (h6 : a6.IsWhole)
  (x : Vec F S2048x512 .bf16) (y : Vec F S2048x1024 .bf16) (s : Vec F S512x1024 .f32)

/-- The first block of tokens starts the sum. -/
theorem start (g0 g1 g2) : sout0_A_0 c i a3 h3 a4 h4 a5 h5 a6 h6 g0 g1 g2 x y = k0_pay2 x y := by
  unfold sout0_A_0
  rw [View.read_writes_eq_canon _ _ _ (scover0_A_0 c i a3 h3 a4 h4 a5 h5 a6 h6 g0 g1 g2 x y)]
  unfold kernelRun0_A
  dsimp only
  rw [View.canon_unit_zero origin]
  simp only [View.readAt_eq_ld, h3.read_unread, h4.read_unread, View.ld_unit_zero (S := S2048x512) origin, View.ld_unit_zero (S := S2048x1024) origin]

/-- A later block adds to the sum. -/
theorem go_on (g0 g1 g2) : sout0_B_0 c i a3 h3 a4 h4 a5 h5 a6 h6 g0 g1 g2 x y s = k0_pay3 x y s := by
  unfold sout0_B_0
  rw [View.read_writes_eq_canon _ _ _ (scover0_B_0 c i a3 h3 a4 h4 a5 h5 a6 h6 g0 g1 g2 x y s)]
  unfold kernelRun0_B
  dsimp only
  rw [View.canon_unit_zero origin]
  simp only [View.readAt_eq_ld, h3.read_unread, h4.read_unread, h6.read_unread, View.ld_unit_zero (S := S2048x512) origin, View.ld_unit_zero (S := S2048x1024) origin,
    View.ld_unit_zero (S := S512x1024) origin]

/-- So does the last block, and the result is the sum then reached. -/
theorem finish_sum (g0 g1 g2) : sout0_C_0 c i a3 h3 a4 h4 a5 h5 a6 h6 g0 g1 g2 x y s = k0_pay3 x y s := by
  unfold sout0_C_0
  rw [View.read_writes_eq_canon _ _ _ (scover0_C_0 c i a3 h3 a4 h4 a5 h5 a6 h6 g0 g1 g2 x y s)]
  unfold kernelRun0_C
  dsimp only
  sl_unfold_words
  rw [View.canon_unit_zero origin]
  simp only [View.readAt_eq_ld, h3.read_unread, h4.read_unread, h6.read_unread, View.ld_unit_zero (S := S2048x512) origin, View.ld_unit_zero (S := S2048x1024) origin,
    View.ld_unit_zero (S := S512x1024) origin]

theorem finish (g0 g1 g2) : out0_C_2 c i a3 h3 a4 h4 a5 h5 a6 h6 g0 g1 g2 x y s = k0_pay3 x y s := by
  unfold out0_C_2
  rw [View.read_writes_eq_canon _ _ _ (cover0_C_2 c i a3 h3 a4 h4 a5 h5 a6 h6 g0 g1 g2 x y s)]
  unfold kernelRun0_C
  dsimp only
  sl_unfold_words
  rw [View.canon_unit_zero origin, View.readCov_unit_zero (S := S512x1024) _ origin]
  simp only [View.readAt_eq_ld, h3.read_unread, h4.read_unread, h6.read_unread, View.ld_unit_zero (S := S2048x512) origin, View.ld_unit_zero (S := S2048x1024) origin,
    View.ld_unit_zero (S := S512x1024) origin]

end steps

/-- What a block of tokens adds at one place. -/
theorem pay2_apply (x : FVec Ideal S2048x512 .bf16) (y : FVec Ideal S2048x1024 .bf16) (r : Fin 512) (q : Fin 1024) :
    (k0_pay2 (F := Ideal) x y (ix2 r q) : EReal) = ∑ k : Fin 2048, (x (ix2 k r) : EReal) * y (ix2 k q) := by
  unfold k0_pay2 k0_pay1; pointwise
theorem pay3_apply (x : FVec Ideal S2048x512 .bf16) (y : FVec Ideal S2048x1024 .bf16) (s : FVec Ideal S512x1024 .f32) (r : Fin 512) (q : Fin 1024) :
    (k0_pay3 (F := Ideal) x y s (ix2 r q) : EReal) = s (ix2 r q) + ∑ k : Fin 2048, (x (ix2 k r) : EReal) * y (ix2 k q) := by
  unfold k0_pay3 k0_pay1; pointwise

variable (m : (ℓ : Loc nD τ sig) → Buf (Elt Ideal) ℓ) (c : Dev nD)

/-- The two blocks that point `t` is given. -/
def left (t : Fin cfg0.N) : FVec Ideal S2048x512 .bf16 := iblk m c 0 t
def right (t : Fin cfg0.N) : FVec Ideal S2048x1024 .bf16 := iblk m c 1 t
/-- The two arrays that the call is given. -/
def arg0 : FVec Ideal S8192x5632 .bf16 := m ((c.tc : Thread nD τ).loc main_arg0)
def arg1 : FVec Ideal S8192x2048 .bf16 := m ((c.tc : Thread nD τ).loc main_arg1)

theorem out_eq_sum (t : Fin cfg0.N) (h : t.val % 4 = 3) : (outsAt0 m c t.val t.isLt).1 = (outsAt0 m c t.val t.isLt).2 := by
  rw [outsAt0_C m c t (by omega) (by omega) h]
  dsimp only
  rw [finish, finish_sum]

/-- The factors that point `t` multiplies for one place of the block it works on. -/
def x (t : Fin cfg0.N) (k : Fin 2048) (i : S512x1024.Idx) : EReal := left m c t (ix2 k (i 0))
def y (t : Fin cfg0.N) (k : Fin 2048) (i : S512x1024.Idx) : EReal := right m c t (ix2 k (i 1))

theorem sum_start (t : Fin cfg0.N) (h : t.val % 4 = 0) (i : S512x1024.Idx) : ((outsAt0 m c t.val t.isLt).2 i : EReal) = ∑ k, x m c t k i * y m c t k i := by
  rw [outsAt0_A m c t h (by omega) (by omega)]
  dsimp only
  rw [start, eq_ix2 i]
  exact pay2_apply (left m c t) (right m c t) _ _

theorem sum_step (t : Fin cfg0.N) (h : ¬t.val % 4 = 0) (i : S512x1024.Idx) :
    ((outsAt0 m c t.val t.isLt).2 i : EReal) = (outsAt0 m c (t.val - 1) (Nat.lt_of_le_of_lt (Nat.sub_le _ _) t.isLt)).2 i + ∑ k, x m c t k i * y m c t k i := by
  by_cases h2 : t.val % 4 = 3
  on_goal 1 => rw [outsAt0_C m c t h (by omega) h2]
  on_goal 2 => rw [outsAt0_B m c t h (by omega) h2]
  all_goals
    dsimp only
    first | rw [finish_sum] | rw [go_on]
    rw [eq_ix2 i]
    exact pay3_apply (left m c t) (right m c t) _ _ _

/-- Which blocks a point is given. -/
theorem index_in : ∀ t : Fin cfg0.N, win0_0.index t = ![t.val % 4, t.val / 8] ∧ win0_1.index t = ![t.val % 4, t.val / 4 % 2] :=
  (by decide +kernel : ∀ t : Fin grid0.N, _)

theorem left_at (t : Fin cfg0.N) (k : Fin 2048) (r : Fin 512) (a : Fin 8192) (b : Fin 5632) (ha : 2048 * (t.val % 4) + k.val = a.val)
    (hb : 512 * (t.val / 8) + r.val = b.val) : left m c t (ix2 k r) = arg0 m c (ix2 a b) := by
  obtain ⟨a, _⟩ := a; obtain ⟨b, _⟩ := b; subst ha; subst hb
  refine congrArg (V m c main_arg0) (?_ : (win0_0.rect t).emb (ix2 k r) = _)
  have h := (index_in t).1
  blk_ext [h, Pipeline.WinKind.off]

theorem right_at (t : Fin cfg0.N) (k : Fin 2048) (r : Fin 1024) (a : Fin 8192) (b : Fin 2048) (ha : 2048 * (t.val % 4) + k.val = a.val)
    (hb : 1024 * (t.val / 4 % 2) + r.val = b.val) : right m c t (ix2 k r) = arg1 m c (ix2 a b) := by
  obtain ⟨a, _⟩ := a; obtain ⟨b, _⟩ := b; subst ha; subst hb
  refine congrArg (V m c main_arg1) (?_ : (win0_1.rect t).emb (ix2 k r) = _)
  have h := (index_in t).2
  blk_ext [h, Pipeline.WinKind.off]

/-- The array that the call returns, place by place. -/
theorem result_at (i : Fin 5632) (j : Fin 2048) :
    (G2 m c (ix2 i j : S5632x2048.Idx) : EReal) = ∑ l : Fin 8192, (arg0 m c (ix2 l i) : EReal) * arg1 m c (ix2 l j) := by
  have hN : cfg0.N = 88 := N_0
  obtain ⟨b, hb⟩ : ∃ b, b = 2 * (i.val / 512) + j.val / 1024 := ⟨_, rfl⟩
  have hp : pt2Of (ix2 i j : S5632x2048.Idx) = 4 * b + 3 := by
    show 4 * (2 * (i.val / 512 - 0) + 1 * (j.val / 1024 - 0)) + 3 = _
    omega
  have hlt : 4 * b + 3 < cfg0.N := by omega
  have hl : loc2Of (ix2 i j : S5632x2048.Idx) = (ix2 ⟨i.val % 512, by omega⟩ ⟨j.val % 1024, by omega⟩ : S512x1024.Idx) := by
    funext a; fin_cases a <;> rfl
  unfold G2
  rw [dif_pos (hp ▸ hlt), hl, fold0_congr m c _ _ (4 * b + 3) (by omega) hp, ← outsAt0_sweep m c _ hlt, out_eq_sum m c ⟨_, hlt⟩ (by show (4 * b + 3) % 4 = 3; omega)]
  exact kept_sum 4 3 2048 8192 rfl rfl (S := S512x1024) (fun n h => (outsAt0 m c n h).2) (x m c) (y m c) (sum_start m c) (sum_step m c) b hlt _
    (fun l => arg0 m c (ix2 l i)) (fun l => arg1 m c (ix2 l j))
    (fun s k t l ht hl => left_at m c t k _ l _ (by omega) (by show 512 * (t.val / 8) + i.val % 512 = _; omega))
    (fun s k t l ht hl => right_at m c t k _ l _ (by omega) (by show 1024 * (t.val / 4 % 2) + j.val % 1024 = _; omega))

end Cert.Kernel4Ideal.Hand

namespace Cert.Reference4Ideal.Hand

open Cert.Reference4Ideal Cert.Reference4Ideal.Gen
open Idealize.ShloMosaic

/-- The reference's result, place by place. -/
theorem result_at (x : FVec Ideal S8192x5632 .bf16) (y : FVec Ideal S8192x2048 .bf16) (i : Fin 5632) (j : Fin 2048) :
    ((transpose S5632x2048 [1, 0] (Host.dotGeneral dot_S8192x2048_S8192x5632_S2048x5632_0_0_1_1_n_n none (extf .f32 y bitsLt_bf16_f32)
      (extf .f32 x bitsLt_bf16_f32)) transposes_S2048x5632_S5632x2048_1_0 : FVec Ideal S5632x2048 .f32) (ix2 i j) : EReal) = ∑ l : Fin 8192, (x (ix2 l i) : EReal) * y (ix2 l j) := by
  pointwise
  exact Finset.sum_congr rfl fun l _ => mul_comm _ _

end Cert.Reference4Ideal.Hand

end
-- ==== Proof.DwFox.lean ====
module

public import proofs.«01_k».proof.Proof.Product
public import proofs.«01_k».proof.Proof.Gen.Kernel6Ideal.Value
public import proofs.«01_k».proof.Proof.Gen.Reference6Ideal.Run
public import Idealize.ShloMosaic.Lib.Pipeline.ValueKit.Geometry

/-!
# The gradient of the weights before the attention

As for the up product, over eight blocks of columns.
-/

@[expose] public section

noncomputable section

namespace Cert.Kernel6Ideal.Hand

open Cert.Kernel6Ideal Cert.Kernel6Ideal.Gen Cert.Kernel6Ideal.Value Cert.Product
open Idealize.ShloMosaic Idealize.ShloMosaic.TcCoe Idealize.SL.Sem

section steps
variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x y : Vec F S2048x1024 .bf16) (s : Vec F S1024x1024 .f32)

/-- The first block of tokens starts the sum. -/
theorem start (g0 g1 g2) : sout0_A_0 c i a3 h3 a4 h4 a5 h5 a6 h6 g0 g1 g2 x y = k0_pay2 x y := by
  unfold sout0_A_0
  rw [View.read_writes_eq_canon _ _ _ (scover0_A_0 c i a3 h3 a4 h4 a5 h5 a6 h6 g0 g1 g2 x y)]
  unfold kernelRun0_A
  dsimp only
  rw [View.canon_unit_zero origin]
  simp only [View.readAt_eq_ld, h3.read_unread, h4.read_unread, View.ld_unit_zero (S := S2048x1024) origin]

/-- A later block adds to the sum. -/
theorem go_on (g0 g1 g2) : sout0_B_0 c i a3 h3 a4 h4 a5 h5 a6 h6 g0 g1 g2 x y s = k0_pay3 x y s := by
  unfold sout0_B_0
  rw [View.read_writes_eq_canon _ _ _ (scover0_B_0 c i a3 h3 a4 h4 a5 h5 a6 h6 g0 g1 g2 x y s)]
  unfold kernelRun0_B
  dsimp only
  rw [View.canon_unit_zero origin]
  simp only [View.readAt_eq_ld, h3.read_unread, h4.read_unread, h6.read_unread, View.ld_unit_zero (S := S2048x1024) origin, View.ld_unit_zero (S := S1024x1024) origin]

/-- So does the last block, and the result is the sum then reached. -/
theorem finish_sum (g0 g1 g2) : sout0_C_0 c i a3 h3 a4 h4 a5 h5 a6 h6 g0 g1 g2 x y s = k0_pay3 x y s := by
  unfold sout0_C_0
  rw [View.read_writes_eq_canon _ _ _ (scover0_C_0 c i a3 h3 a4 h4 a5 h5 a6 h6 g0 g1 g2 x y s)]
  unfold kernelRun0_C
  dsimp only
  sl_unfold_words
  rw [View.canon_unit_zero origin]
  simp only [View.readAt_eq_ld, h3.read_unread, h4.read_unread, h6.read_unread, View.ld_unit_zero (S := S2048x1024) origin, View.ld_unit_zero (S := S1024x1024) origin]

theorem finish (g0 g1 g2) : out0_C_2 c i a3 h3 a4 h4 a5 h5 a6 h6 g0 g1 g2 x y s = k0_pay3 x y s := by
  unfold out0_C_2
  rw [View.read_writes_eq_canon _ _ _ (cover0_C_2 c i a3 h3 a4 h4 a5 h5 a6 h6 g0 g1 g2 x y s)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S2048x1024) origin, View.ld_unit_zero (S := S1024x1024) origin]

end steps

/-- What a block of tokens adds at one place. -/
theorem pay2_apply (x y : FVec Ideal S2048x1024 .bf16) (r q : Fin 1024) :
    (k0_pay2 (F := Ideal) x y (ix2 r q) : EReal) = ∑ k : Fin 2048, (x (ix2 k r) : EReal) * y (ix2 k q) := by
  unfold k0_pay2 k0_pay1; pointwise
theorem pay3_apply (x y : FVec Ideal S2048x1024 .bf16) (s : FVec Ideal S1024x1024 .f32) (r q : Fin 1024) :
    (k0_pay3 (F := Ideal) x y s (ix2 r q) : EReal) = s (ix2 r q) + ∑ k : Fin 2048, (x (ix2 k r) : EReal) * y (ix2 k q) := by
  unfold k0_pay3 k0_pay1; pointwise

variable (m : (ℓ : Loc nD τ sig) → Buf (Elt Ideal) ℓ) (c : Dev nD)

/-- The two blocks that point `t` is given. -/
def left (t : Fin cfg0.N) : FVec Ideal S2048x1024 .bf16 := iblk m c 0 t
def right (t : Fin cfg0.N) : FVec Ideal S2048x1024 .bf16 := iblk m c 1 t
/-- The two arrays that the call is given. -/
def arg0 : FVec Ideal S8192x2048 .bf16 := m ((c.tc : Thread nD τ).loc main_arg0)
def arg1 : FVec Ideal S8192x8192 .bf16 := m ((c.tc : Thread nD τ).loc main_arg1)

theorem out_eq_sum (t : Fin cfg0.N) (h : t.val % 4 = 3) : (outsAt0 m c t.val t.isLt).1 = (outsAt0 m c t.val t.isLt).2 := by
  rw [outsAt0_C m c t (by omega) (by omega) h]
  dsimp only
  rw [finish, finish_sum]

/-- The factors that point `t` multiplies for one place of the block it works on. -/
def x (t : Fin cfg0.N) (k : Fin 2048) (i : S1024x1024.Idx) : EReal := left m c t (ix2 k (i 0))
def y (t : Fin cfg0.N) (k : Fin 2048) (i : S1024x1024.Idx) : EReal := right m c t (ix2 k (i 1))

theorem sum_start (t : Fin cfg0.N) (h : t.val % 4 = 0) (i : S1024x1024.Idx) : ((outsAt0 m c t.val t.isLt).2 i : EReal) = ∑ k, x m c t k i * y m c t k i := by
  rw [outsAt0_A m c t h (by omega) (by omega)]
  dsimp only
  rw [start, eq_ix2 i]
  exact pay2_apply (left m c t) (right m c t) _ _

theorem sum_step (t : Fin cfg0.N) (h : ¬t.val % 4 = 0) (i : S1024x1024.Idx) :
    ((outsAt0 m c t.val t.isLt).2 i : EReal) = (outsAt0 m c (t.val - 1) (Nat.lt_of_le_of_lt (Nat.sub_le _ _) t.isLt)).2 i + ∑ k, x m c t k i * y m c t k i := by
  by_cases h2 : t.val % 4 = 3
  on_goal 1 => rw [outsAt0_C m c t h (by omega) h2]
  on_goal 2 => rw [outsAt0_B m c t h (by omega) h2]
  all_goals
    dsimp only
    first | rw [finish_sum] | rw [go_on]
    rw [eq_ix2 i]
    exact pay3_apply (left m c t) (right m c t) _ _ _

/-- Which blocks a point is given. -/
theorem index_in : ∀ t : Fin cfg0.N, win0_0.index t = ![t.val % 4, t.val / 32] ∧ win0_1.index t = ![t.val % 4, t.val / 4 % 8] :=
  (by decide +kernel : ∀ t : Fin grid0.N, _)

theorem left_at (t : Fin cfg0.N) (k : Fin 2048) (r : Fin 1024) (a : Fin 8192) (b : Fin 2048) (ha : 2048 * (t.val % 4) + k.val = a.val)
    (hb : 1024 * (t.val / 32) + r.val = b.val) : left m c t (ix2 k r) = arg0 m c (ix2 a b) := by
  obtain ⟨a, _⟩ := a; obtain ⟨b, _⟩ := b; subst ha; subst hb
  refine congrArg (V m c main_arg0) (?_ : (win0_0.rect t).emb (ix2 k r) = _)
  have h := (index_in t).1
  blk_ext [h, Pipeline.WinKind.off]

theorem right_at (t : Fin cfg0.N) (k : Fin 2048) (r : Fin 1024) (a : Fin 8192) (b : Fin 8192) (ha : 2048 * (t.val % 4) + k.val = a.val)
    (hb : 1024 * (t.val / 4 % 8) + r.val = b.val) : right m c t (ix2 k r) = arg1 m c (ix2 a b) := by
  obtain ⟨a, _⟩ := a; obtain ⟨b, _⟩ := b; subst ha; subst hb
  refine congrArg (V m c main_arg1) (?_ : (win0_1.rect t).emb (ix2 k r) = _)
  have h := (index_in t).2
  blk_ext [h, Pipeline.WinKind.off]

/-- The array that the call returns, place by place. -/
theorem result_at (i : Fin 2048) (j : Fin 8192) :
    (G2 m c (ix2 i j : S2048x8192.Idx) : EReal) = ∑ l : Fin 8192, (arg0 m c (ix2 l i) : EReal) * arg1 m c (ix2 l j) := by
  have hN : cfg0.N = 64 := N_0
  obtain ⟨b, hb⟩ : ∃ b, b = 8 * (i.val / 1024) + j.val / 1024 := ⟨_, rfl⟩
  have hp : pt2Of (ix2 i j : S2048x8192.Idx) = 4 * b + 3 := by
    show 4 * (8 * (i.val / 1024 - 0) + 1 * (j.val / 1024 - 0)) + 3 = _
    omega
  have hlt : 4 * b + 3 < cfg0.N := by omega
  have hl : loc2Of (ix2 i j : S2048x8192.Idx) = (ix2 ⟨i.val % 1024, by omega⟩ ⟨j.val % 1024, by omega⟩ : S1024x1024.Idx) := by
    funext a; fin_cases a <;> rfl
  unfold G2
  rw [dif_pos (hp ▸ hlt), hl, fold0_congr m c _ _ (4 * b + 3) (by omega) hp, ← outsAt0_sweep m c _ hlt, out_eq_sum m c ⟨_, hlt⟩ (by show (4 * b + 3) % 4 = 3; omega)]
  exact kept_sum 4 3 2048 8192 rfl rfl (S := S1024x1024) (fun n h => (outsAt0 m c n h).2) (x m c) (y m c) (sum_start m c) (sum_step m c) b hlt _
    (fun l => arg0 m c (ix2 l i)) (fun l => arg1 m c (ix2 l j))
    (fun s k t l ht hl => left_at m c t k _ l _ (by omega) (by show 1024 * (t.val / 32) + i.val % 1024 = _; omega))
    (fun s k t l ht hl => right_at m c t k _ l _ (by omega) (by show 1024 * (t.val / 4 % 8) + j.val % 1024 = _; omega))

end Cert.Kernel6Ideal.Hand

namespace Cert.Reference6Ideal.Hand

open Cert.Reference6Ideal Cert.Reference6Ideal.Gen
open Idealize.ShloMosaic

/-- The reference's result, place by place. -/
theorem result_at (x : FVec Ideal S8192x2048 .bf16) (y : FVec Ideal S8192x8192 .bf16) (i : Fin 2048) (j : Fin 8192) :
    ((transpose S2048x8192 [1, 0] (Host.dotGeneral dot_S8192x8192_S8192x2048_S8192x2048_0_0_1_1_n_n none (extf .f32 y bitsLt_bf16_f32)
      (extf .f32 x bitsLt_bf16_f32)) transposes_S8192x2048_S2048x8192_1_0 : FVec Ideal S2048x8192 .f32) (ix2 i j) : EReal) = ∑ l : Fin 8192, (x (ix2 l i) : EReal) * y (ix2 l j) := by
  pointwise
  exact Finset.sum_congr rfl fun l _ => mul_comm _ _

end Cert.Reference6Ideal.Hand

end
-- ==== Proof.DxDown.lean ====
module

public import proofs.«01_k».proof.Proof.Product
public import proofs.«01_k».proof.Proof.Gen.Kernel5Ideal.Value
public import proofs.«01_k».proof.Proof.Gen.Reference5Ideal.Run
public import Idealize.ShloMosaic.Lib.Pipeline.ValueKit.Geometry

/-!
# The gradient of the down product's activations

A point of the kernel writes one block of the result, each of whose places holds a sum over all columns.
-/

@[expose] public section

noncomputable section

namespace Cert.Kernel5Ideal.Hand

open Cert.Kernel5Ideal Cert.Kernel5Ideal.Gen Cert.Kernel5Ideal.Value Cert.Product
open Idealize.ShloMosaic Idealize.ShloMosaic.TcCoe Idealize.SL.Sem
open Idealize.ShloMosaic.Pipeline (Dat)

/-- What a point writes at one place. -/
theorem out_apply (x : FVec Ideal S1024x2048 .bf16) (y : FVec Ideal S512x2048 .bf16) (r : Fin 1024) (q : Fin 512) :
    (out0_2 (F := Ideal) x y (ix2 r q) : EReal) = ∑ k : Fin 2048, (x (ix2 r k) : EReal) * y (ix2 q k) := by
  unfold out0_2
  rw [View.canon_unit_zero origin, View.ld_unit_zero (S := S1024x2048) origin, View.ld_unit_zero (S := S512x2048) origin]
  unfold k0_pay1; pointwise

variable (m : (ℓ : Loc nD τ sig) → Buf (Elt Ideal) ℓ) (c : Dev nD)

/-- The two blocks that point `t` is given. -/
def left (t : Fin cfg0.N) : FVec Ideal S1024x2048 .bf16 := iblk m c 0 t
def right (t : Fin cfg0.N) : FVec Ideal S512x2048 .bf16 := iblk m c 1 t
/-- The two arrays that the call is given. -/
def arg0 : FVec Ideal S8192x2048 .bf16 := m ((c.tc : Thread nD τ).loc main_arg0)
def arg1 : FVec Ideal S5632x2048 .bf16 := m ((c.tc : Thread nD τ).loc main_arg1)

/-- Which blocks a point is given, and which it works on. -/
theorem index_in : ∀ t : Fin cfg0.N, win0_0.index t = ![t.val / 11, 0] ∧ win0_1.index t = ![t.val % 11, 0] ∧ win0_2.index t = ![t.val / 11, t.val % 11] :=
  (by decide +kernel : ∀ t : Fin grid0.N, _)

theorem left_at (t : Fin cfg0.N) (k : Fin 2048) (r : Fin 1024) (a : Fin 8192) (ha : 1024 * (t.val / 11) + r.val = a.val) :
    left m c t (ix2 r k) = arg0 m c (ix2 a k) := by
  obtain ⟨a, _⟩ := a; subst ha
  refine congrArg (V m c main_arg0) (?_ : (win0_0.rect t).emb (ix2 r k) = _)
  have h := (index_in t).1
  blk_ext [h, Pipeline.WinKind.off]

theorem right_at (t : Fin cfg0.N) (k : Fin 2048) (q : Fin 512) (a : Fin 5632) (ha : 512 * (t.val % 11) + q.val = a.val) :
    right m c t (ix2 q k) = arg1 m c (ix2 a k) := by
  obtain ⟨a, _⟩ := a; subst ha
  refine congrArg (V m c main_arg1) (?_ : (win0_1.rect t).emb (ix2 q k) = _)
  have h := (index_in t).2.1
  blk_ext [h, Pipeline.WinKind.off]

/-- The array that the call returns, place by place. -/
theorem result_at (i : Fin 8192) (j : Fin 5632) :
    ((dats m 0 c).arrAt 2 cfg0.N (ix2 i j : S8192x5632.Idx) : EReal) = ∑ k : Fin 2048, (arg0 m c (ix2 i k) : EReal) * arg1 m c (ix2 j k) := by
  have hN : cfg0.N = 88 := N_0
  obtain ⟨t, r, q, hi, hj⟩ := point_of (P := cfg0.N) (bm := 1024) (bn := 512) 11 i j (by omega) (by omega) (by omega) (by omega)
  have e : (win0_2.rect t).emb (ix2 r q) = (ix2 i j : S8192x5632.Idx) := by
    obtain ⟨i, _⟩ := i; obtain ⟨j, _⟩ := j; subst hi; subst hj
    have h := (index_in t).2.2
    blk_ext [h, Pipeline.WinKind.off]
  have h := congrFun (blocks2 m c t (flush0_2 t)) (ix2 r q)
  rw [flushed2] at h
  rw [← e]
  refine h.trans ((out_apply (left m c t) (right m c t) r q).trans (Finset.sum_congr rfl fun k _ => ?_))
  exact congrArg₂ (fun x y : EReal => x * y) (left_at m c t k r i hi) (right_at m c t k q j hj)

end Cert.Kernel5Ideal.Hand

namespace Cert.Reference5Ideal.Hand

open Cert.Reference5Ideal Cert.Reference5Ideal.Gen
open Idealize.ShloMosaic

/-- The reference's result, place by place. -/
theorem result_at (x : FVec Ideal S8192x2048 .bf16) (y : FVec Ideal S5632x2048 .bf16) (i : Fin 8192) (j : Fin 5632) :
    ((Host.dotGeneral dot_S8192x2048_S5632x2048_S8192x5632_1_1_0_0_n_n none (extf .f32 x bitsLt_bf16_f32) (extf .f32 y bitsLt_bf16_f32)
      : FVec Ideal S8192x5632 .f32) (ix2 i j) : EReal) = ∑ k : Fin 2048, (x (ix2 i k) : EReal) * y (ix2 j k) := by
  pointwise

end Cert.Reference5Ideal.Hand

end
-- ==== Proof.Up.lean ====
module

public import proofs.«01_k».proof.Proof.Product
public import proofs.«01_k».proof.Proof.Gen.Kernel7Ideal.Value
public import proofs.«01_k».proof.Proof.Gen.Reference7Ideal.Run
public import Idealize.ShloMosaic.Lib.Pipeline.ValueKit.Geometry

/-!
# The up product

A point of the kernel writes one block of the product, each of whose places holds a sum over all columns of the left array.
-/

@[expose] public section

noncomputable section

namespace Cert.Kernel7Ideal.Hand

open Cert.Kernel7Ideal Cert.Kernel7Ideal.Gen Cert.Kernel7Ideal.Value Cert.Product
open Idealize.ShloMosaic Idealize.ShloMosaic.TcCoe Idealize.SL.Sem

/-- What a point writes at one place. -/
theorem out_apply (x : FVec Ideal S1024x2048 .bf16) (y : FVec Ideal S2048x1024 .bf16) (r q : Fin 1024) :
    (out0_2 (F := Ideal) x y (ix2 r q) : EReal) = ∑ k : Fin 2048, (x (ix2 r k) : EReal) * y (ix2 k q) := by
  unfold out0_2
  rw [View.canon_unit_zero origin, View.ld_unit_zero (S := S1024x2048) origin, View.ld_unit_zero (S := S2048x1024) origin]
  unfold k0_pay1; pointwise

variable (m : (ℓ : Loc nD τ sig) → Buf (Elt Ideal) ℓ) (c : Dev nD)

/-- The two blocks that point `t` is given. -/
def left (t : Fin cfg0.N) : FVec Ideal S1024x2048 .bf16 := iblk m c 0 t
def right (t : Fin cfg0.N) : FVec Ideal S2048x1024 .bf16 := iblk m c 1 t
/-- The two arrays that the call is given. -/
def arg0 : FVec Ideal S8192x2048 .bf16 := m ((c.tc : Thread nD τ).loc main_arg0)
def arg1 : FVec Ideal S2048x11264 .bf16 := m ((c.tc : Thread nD τ).loc main_arg1)

/-- Which blocks a point is given, and which it works on. -/
theorem index_in : ∀ t : Fin cfg0.N, win0_0.index t = ![t.val / 11, 0] ∧ win0_1.index t = ![0, t.val % 11] ∧ win0_2.index t = ![t.val / 11, t.val % 11] :=
  (by decide +kernel : ∀ t : Fin grid0.N, _)

theorem left_at (t : Fin cfg0.N) (k : Fin 2048) (r : Fin 1024) (a : Fin 8192) (ha : 1024 * (t.val / 11) + r.val = a.val) :
    left m c t (ix2 r k) = arg0 m c (ix2 a k) := by
  obtain ⟨a, _⟩ := a; subst ha
  refine congrArg (V m c main_arg0) (?_ : (win0_0.rect t).emb (ix2 r k) = _)
  have h := (index_in t).1
  blk_ext [h, Pipeline.WinKind.off]

theorem right_at (t : Fin cfg0.N) (k : Fin 2048) (q : Fin 1024) (a : Fin 11264) (ha : 1024 * (t.val % 11) + q.val = a.val) :
    right m c t (ix2 k q) = arg1 m c (ix2 k a) := by
  obtain ⟨a, _⟩ := a; subst ha
  refine congrArg (V m c main_arg1) (?_ : (win0_1.rect t).emb (ix2 k q) = _)
  have h := (index_in t).2.1
  blk_ext [h, Pipeline.WinKind.off]

/-- The array that the call returns, place by place. -/
theorem result_at (i : Fin 8192) (j : Fin 11264) :
    ((dats m 0 c).arrAt 2 cfg0.N (ix2 i j : S8192x11264.Idx) : EReal) = ∑ k : Fin 2048, (arg0 m c (ix2 i k) : EReal) * arg1 m c (ix2 k j) := by
  have hN : cfg0.N = 88 := N_0
  obtain ⟨t, r, q, hi, hj⟩ := point_of (P := cfg0.N) (bm := 1024) (bn := 1024) 11 i j (by omega) (by omega) (by omega) (by omega)
  have e : (win0_2.rect t).emb (ix2 r q) = (ix2 i j : S8192x11264.Idx) := by
    obtain ⟨i, _⟩ := i; obtain ⟨j, _⟩ := j; subst hi; subst hj
    have h := (index_in t).2.2
    blk_ext [h, Pipeline.WinKind.off]
  have h := congrFun (blocks2 m c t (flush0_2 t)) (ix2 r q)
  rw [flushed2] at h
  rw [← e]
  refine h.trans ((out_apply (left m c t) (right m c t) r q).trans (Finset.sum_congr rfl fun k _ => ?_))
  exact congrArg₂ (fun x y : EReal => x * y) (left_at m c t k r i hi) (right_at m c t k q j hj)

end Cert.Kernel7Ideal.Hand

namespace Cert.Reference7Ideal.Hand

open Cert.Reference7Ideal Cert.Reference7Ideal.Gen
open Idealize.ShloMosaic

/-- The reference's result, place by place. -/
theorem result_at (x : FVec Ideal S8192x2048 .bf16) (y : FVec Ideal S2048x11264 .bf16) (i : Fin 8192) (j : Fin 11264) :
    ((Host.dotGeneral dot_S8192x2048_S2048x11264_S8192x11264_1_0_0_1_n_n none (extf .f32 x bitsLt_bf16_f32) (extf .f32 y bitsLt_bf16_f32)
      : FVec Ideal S8192x11264 .f32) (ix2 i j) : EReal) = ∑ k : Fin 2048, (x (ix2 i k) : EReal) * y (ix2 k j) := by
  pointwise

end Cert.Reference7Ideal.Hand

end
-- ==== Proof.ProjGdn.lean ====
module

public import proofs.«01_k».proof.Proof.Product
public import proofs.«01_k».proof.Proof.Gen.Kernel8Ideal.Value
public import proofs.«01_k».proof.Proof.Gen.Reference8Ideal.Run
public import Idealize.ShloMosaic.Lib.Pipeline.ValueKit.Geometry

/-!
# The product before the delta rule

As the up product, over twelve blocks of columns.
-/

@[expose] public section

noncomputable section

namespace Cert.Kernel8Ideal.Hand

open Cert.Kernel8Ideal Cert.Kernel8Ideal.Gen Cert.Kernel8Ideal.Value Cert.Product
open Idealize.ShloMosaic Idealize.ShloMosaic.TcCoe Idealize.SL.Sem

/-- What a point writes at one place. -/
theorem out_apply (x : FVec Ideal S1024x2048 .bf16) (y : FVec Ideal S2048x1024 .bf16) (r q : Fin 1024) :
    (out0_2 (F := Ideal) x y (ix2 r q) : EReal) = ∑ k : Fin 2048, (x (ix2 r k) : EReal) * y (ix2 k q) := by
  unfold out0_2
  rw [View.canon_unit_zero origin, View.ld_unit_zero (S := S1024x2048) origin, View.ld_unit_zero (S := S2048x1024) origin]
  unfold k0_pay1; pointwise

variable (m : (ℓ : Loc nD τ sig) → Buf (Elt Ideal) ℓ) (c : Dev nD)

/-- The two blocks that point `t` is given. -/
def left (t : Fin cfg0.N) : FVec Ideal S1024x2048 .bf16 := iblk m c 0 t
def right (t : Fin cfg0.N) : FVec Ideal S2048x1024 .bf16 := iblk m c 1 t
/-- The two arrays that the call is given. -/
def arg0 : FVec Ideal S8192x2048 .bf16 := m ((c.tc : Thread nD τ).loc main_arg0)
def arg1 : FVec Ideal S2048x12288 .bf16 := m ((c.tc : Thread nD τ).loc main_arg1)

/-- Which blocks a point is given, and which it works on. -/
theorem index_in : ∀ t : Fin cfg0.N, win0_0.index t = ![t.val / 12, 0] ∧ win0_1.index t = ![0, t.val % 12] ∧ win0_2.index t = ![t.val / 12, t.val % 12] :=
  (by decide +kernel : ∀ t : Fin grid0.N, _)

theorem left_at (t : Fin cfg0.N) (k : Fin 2048) (r : Fin 1024) (a : Fin 8192) (ha : 1024 * (t.val / 12) + r.val = a.val) :
    left m c t (ix2 r k) = arg0 m c (ix2 a k) := by
  obtain ⟨a, _⟩ := a; subst ha
  refine congrArg (V m c main_arg0) (?_ : (win0_0.rect t).emb (ix2 r k) = _)
  have h := (index_in t).1
  blk_ext [h, Pipeline.WinKind.off]

theorem right_at (t : Fin cfg0.N) (k : Fin 2048) (q : Fin 1024) (a : Fin 12288) (ha : 1024 * (t.val % 12) + q.val = a.val) :
    right m c t (ix2 k q) = arg1 m c (ix2 k a) := by
  obtain ⟨a, _⟩ := a; subst ha
  refine congrArg (V m c main_arg1) (?_ : (win0_1.rect t).emb (ix2 k q) = _)
  have h := (index_in t).2.1
  blk_ext [h, Pipeline.WinKind.off]

/-- The array that the call returns, place by place. -/
theorem result_at (i : Fin 8192) (j : Fin 12288) :
    ((dats m 0 c).arrAt 2 cfg0.N (ix2 i j : S8192x12288.Idx) : EReal) = ∑ k : Fin 2048, (arg0 m c (ix2 i k) : EReal) * arg1 m c (ix2 k j) := by
  have hN : cfg0.N = 96 := N_0
  obtain ⟨t, r, q, hi, hj⟩ := point_of (P := cfg0.N) (bm := 1024) (bn := 1024) 12 i j (by omega) (by omega) (by omega) (by omega)
  have e : (win0_2.rect t).emb (ix2 r q) = (ix2 i j : S8192x12288.Idx) := by
    obtain ⟨i, _⟩ := i; obtain ⟨j, _⟩ := j; subst hi; subst hj
    have h := (index_in t).2.2
    blk_ext [h, Pipeline.WinKind.off]
  have h := congrFun (blocks2 m c t (flush0_2 t)) (ix2 r q)
  rw [flushed2] at h
  rw [← e]
  refine h.trans ((out_apply (left m c t) (right m c t) r q).trans (Finset.sum_congr rfl fun k _ => ?_))
  exact congrArg₂ (fun x y : EReal => x * y) (left_at m c t k r i hi) (right_at m c t k q j hj)

end Cert.Kernel8Ideal.Hand

namespace Cert.Reference8Ideal.Hand

open Cert.Reference8Ideal Cert.Reference8Ideal.Gen
open Idealize.ShloMosaic

/-- The reference's result, place by place. -/
theorem result_at (x : FVec Ideal S8192x2048 .bf16) (y : FVec Ideal S2048x12288 .bf16) (i : Fin 8192) (j : Fin 12288) :
    ((Host.dotGeneral dot_S8192x2048_S2048x12288_S8192x12288_1_0_0_1_n_n none (extf .f32 x bitsLt_bf16_f32) (extf .f32 y bitsLt_bf16_f32)
      : FVec Ideal S8192x12288 .f32) (ix2 i j) : EReal) = ∑ k : Fin 2048, (x (ix2 i k) : EReal) * y (ix2 k j) := by
  pointwise

end Cert.Reference8Ideal.Hand

end
-- ==== Proof.ProjFox.lean ====
module

public import proofs.«01_k».proof.Proof.Product
public import proofs.«01_k».proof.Proof.Gen.Kernel9Ideal.Value
public import proofs.«01_k».proof.Proof.Gen.Reference9Ideal.Run
public import Idealize.ShloMosaic.Lib.Pipeline.ValueKit.Geometry

/-!
# The product before the attention

As the up product, over eight blocks of columns.
-/

@[expose] public section

noncomputable section

namespace Cert.Kernel9Ideal.Hand

open Cert.Kernel9Ideal Cert.Kernel9Ideal.Gen Cert.Kernel9Ideal.Value Cert.Product
open Idealize.ShloMosaic Idealize.ShloMosaic.TcCoe Idealize.SL.Sem

/-- What a point writes at one place. -/
theorem out_apply (x : FVec Ideal S1024x2048 .bf16) (y : FVec Ideal S2048x1024 .bf16) (r q : Fin 1024) :
    (out0_2 (F := Ideal) x y (ix2 r q) : EReal) = ∑ k : Fin 2048, (x (ix2 r k) : EReal) * y (ix2 k q) := by
  unfold out0_2
  rw [View.canon_unit_zero origin, View.ld_unit_zero (S := S1024x2048) origin, View.ld_unit_zero (S := S2048x1024) origin]
  unfold k0_pay1; pointwise

variable (m : (ℓ : Loc nD τ sig) → Buf (Elt Ideal) ℓ) (c : Dev nD)

/-- The two blocks that point `t` is given. -/
def left (t : Fin cfg0.N) : FVec Ideal S1024x2048 .bf16 := iblk m c 0 t
def right (t : Fin cfg0.N) : FVec Ideal S2048x1024 .bf16 := iblk m c 1 t
/-- The two arrays that the call is given. -/
def arg0 : FVec Ideal S8192x2048 .bf16 := m ((c.tc : Thread nD τ).loc main_arg0)
def arg1 : FVec Ideal S2048x8192 .bf16 := m ((c.tc : Thread nD τ).loc main_arg1)

/-- Which blocks a point is given, and which it works on. -/
theorem index_in : ∀ t : Fin cfg0.N, win0_0.index t = ![t.val / 8, 0] ∧ win0_1.index t = ![0, t.val % 8] ∧ win0_2.index t = ![t.val / 8, t.val % 8] :=
  (by decide +kernel : ∀ t : Fin grid0.N, _)

theorem left_at (t : Fin cfg0.N) (k : Fin 2048) (r : Fin 1024) (a : Fin 8192) (ha : 1024 * (t.val / 8) + r.val = a.val) :
    left m c t (ix2 r k) = arg0 m c (ix2 a k) := by
  obtain ⟨a, _⟩ := a; subst ha
  refine congrArg (V m c main_arg0) (?_ : (win0_0.rect t).emb (ix2 r k) = _)
  have h := (index_in t).1
  blk_ext [h, Pipeline.WinKind.off]

theorem right_at (t : Fin cfg0.N) (k : Fin 2048) (q : Fin 1024) (a : Fin 8192) (ha : 1024 * (t.val % 8) + q.val = a.val) :
    right m c t (ix2 k q) = arg1 m c (ix2 k a) := by
  obtain ⟨a, _⟩ := a; subst ha
  refine congrArg (V m c main_arg1) (?_ : (win0_1.rect t).emb (ix2 k q) = _)
  have h := (index_in t).2.1
  blk_ext [h, Pipeline.WinKind.off]

/-- The array that the call returns, place by place. -/
theorem result_at (i : Fin 8192) (j : Fin 8192) :
    ((dats m 0 c).arrAt 2 cfg0.N (ix2 i j : S8192x8192.Idx) : EReal) = ∑ k : Fin 2048, (arg0 m c (ix2 i k) : EReal) * arg1 m c (ix2 k j) := by
  have hN : cfg0.N = 64 := N_0
  obtain ⟨t, r, q, hi, hj⟩ := point_of (P := cfg0.N) (bm := 1024) (bn := 1024) 8 i j (by omega) (by omega) (by omega) (by omega)
  have e : (win0_2.rect t).emb (ix2 r q) = (ix2 i j : S8192x8192.Idx) := by
    obtain ⟨i, _⟩ := i; obtain ⟨j, _⟩ := j; subst hi; subst hj
    have h := (index_in t).2.2
    blk_ext [h, Pipeline.WinKind.off]
  have h := congrFun (blocks2 m c t (flush0_2 t)) (ix2 r q)
  rw [flushed2] at h
  rw [← e]
  refine h.trans ((out_apply (left m c t) (right m c t) r q).trans (Finset.sum_congr rfl fun k _ => ?_))
  exact congrArg₂ (fun x y : EReal => x * y) (left_at m c t k r i hi) (right_at m c t k q j hj)

end Cert.Kernel9Ideal.Hand

namespace Cert.Reference9Ideal.Hand

open Cert.Reference9Ideal Cert.Reference9Ideal.Gen
open Idealize.ShloMosaic

/-- The reference's result, place by place. -/
theorem result_at (x : FVec Ideal S8192x2048 .bf16) (y : FVec Ideal S2048x8192 .bf16) (i : Fin 8192) (j : Fin 8192) :
    ((Host.dotGeneral dot_S8192x2048_S2048x8192_S8192x8192_1_0_0_1_n_n none (extf .f32 x bitsLt_bf16_f32) (extf .f32 y bitsLt_bf16_f32)
      : FVec Ideal S8192x8192 .f32) (ix2 i j) : EReal) = ∑ k : Fin 2048, (x (ix2 i k) : EReal) * y (ix2 k j) := by
  pointwise

end Cert.Reference9Ideal.Hand

end
-- ==== Proof.Gate.lean ====
module

public import proofs.«01_k».proof.Proof.Product
public import proofs.«01_k».proof.Proof.Gen.Kernel10Ideal.Value
public import proofs.«01_k».proof.Proof.Gen.Reference10Ideal.Run
public import Idealize.ShloMosaic.Lib.Pipeline.ValueKit.Geometry

/-!
# The gradients of the attention's output gate

A point of the kernel works on one block of rows of one head. It writes the gradients of the attention's output and of the
gate, and, at every column of the head, the sum over the head that corrects the attention's backward pass.
-/

@[expose] public section

noncomputable section

namespace Cert.Gate

open Idealize.ShloMosaic

/-- The gate. -/
def gate (z : EReal) : EReal := Ideal.div 1 (1 + Ideal.exp (-z))

/-- The three results at one place, from the arriving gradient, the attention's output and the gate's argument. -/
def d_out (d z : EReal) : EReal := d * gate z
def d_gate (d o z : EReal) : EReal := d * o * (gate z * (1 - gate z))
def row_term (d o z : EReal) : EReal := d_out d z * o

end Cert.Gate

namespace Cert.Kernel10Ideal.Hand

open Cert.Kernel10Ideal Cert.Kernel10Ideal.Gen Cert.Kernel10Ideal.Value Cert.Product Cert.Gate
open Idealize.ShloMosaic Idealize.ShloMosaic.TcCoe Idealize.SL.Sem

section point
variable (d o z : FVec Ideal S2048x128 .f32) (r : Fin 2048) (q : Fin 128)

/- What a point writes at one place. -/
theorem out3_apply : (out0_3 (F := Ideal) d o z (ix2 r q) : EReal) = d_out (d (ix2 r q)) (z (ix2 r q)) := by
  unfold out0_3
  rw [View.canon_unit_zero origin, View.ld_unit_zero (S := S2048x128) origin, View.ld_unit_zero (S := S2048x128) origin]
  unfold k0_pay3 k0_pay2 k0_pay1 d_out gate; pointwise
  rw [zero_sub]

theorem out4_apply : (out0_4 (F := Ideal) d o z (ix2 r q) : EReal) = d_gate (d (ix2 r q)) (o (ix2 r q)) (z (ix2 r q)) := by
  unfold out0_4
  rw [View.canon_unit_zero origin, View.ld_unit_zero (S := S2048x128) origin, View.ld_unit_zero (S := S2048x128) origin, View.ld_unit_zero (S := S2048x128) origin]
  unfold k0_pay4 k0_pay1 d_gate gate; pointwise
  rw [zero_sub, mul_assoc (_ * _)]

theorem out5_apply : (out0_5 (F := Ideal) d o z (ix2 r q) : EReal) = ∑ k : Fin 128, row_term (d (ix2 r k)) (o (ix2 r k)) (z (ix2 r k)) := by
  unfold out0_5
  rw [View.canon_unit_zero origin, View.ld_unit_zero (S := S2048x128) origin, View.ld_unit_zero (S := S2048x128) origin, View.ld_unit_zero (S := S2048x128) origin]
  unfold k0_pay5 k0_pay2 k0_pay1 row_term d_out gate; pointwise
  simp only [zero_sub]

end point

variable (m : (ℓ : Loc nD τ sig) → Buf (Elt Ideal) ℓ) (c : Dev nD)

/-- The three blocks that point `t` is given. -/
def dblk (t : Fin cfg0.N) : FVec Ideal S2048x128 .f32 := iblk m c 0 t
def oblk (t : Fin cfg0.N) : FVec Ideal S2048x128 .f32 := iblk m c 1 t
def zblk (t : Fin cfg0.N) : FVec Ideal S2048x128 .f32 := iblk m c 2 t
/-- The three arrays that the call is given. -/
def arg0 : FVec Ideal S8192x2048 .f32 := m ((c.tc : Thread nD τ).loc main_arg0)
def arg1 : FVec Ideal S8192x2048 .f32 := m ((c.tc : Thread nD τ).loc main_arg1)
def arg2 : FVec Ideal S8192x8192 .f32 := m ((c.tc : Thread nD τ).loc main_arg2)

/-- Which blocks a point is given, and which it works on. -/
theorem index_in : ∀ t : Fin cfg0.N, win0_0.index t = ![t.val / 16, t.val % 16] ∧ win0_1.index t = ![t.val / 16, t.val % 16] ∧ win0_2.index t = ![t.val / 16, 48 + t.val % 16] :=
  (by decide +kernel : ∀ t : Fin grid0.N, _)
theorem index_out : ∀ t : Fin cfg0.N, win0_3.index t = ![t.val / 16, t.val % 16] ∧ win0_4.index t = ![t.val / 16, t.val % 16] ∧ win0_5.index t = ![t.val / 16, t.val % 16] :=
  (by decide +kernel : ∀ t : Fin grid0.N, _)

section place
variable (t : Fin cfg0.N) (r : Fin 2048) (q : Fin 128) (i : Fin 8192) (j : Fin 2048) (hi : 2048 * (t.val / 16) + r.val = i.val) (hj : 128 * (t.val % 16) + q.val = j.val)
include hi hj

/-- Where a place of a block lies in the arrays. -/
theorem given_at : dblk m c t (ix2 r q) = arg0 m c (ix2 i j) ∧ oblk m c t (ix2 r q) = arg1 m c (ix2 i j) ∧ zblk m c t (ix2 r q) = arg2 m c (ix2 i ⟨6144 + j.val, by omega⟩) := by
  obtain ⟨i, _⟩ := i; obtain ⟨j, _⟩ := j; subst hi; subst hj
  obtain ⟨h0, h1, h2⟩ := index_in t
  refine ⟨congrArg (V m c main_arg0) (?_ : (win0_0.rect t).emb (ix2 r q) = _), congrArg (V m c main_arg1) (?_ : (win0_1.rect t).emb (ix2 r q) = _),
    congrArg (V m c main_arg2) (?_ : (win0_2.rect t).emb (ix2 r q) = _)⟩
  · blk_ext [h0, Pipeline.WinKind.off]
  · blk_ext [h1, Pipeline.WinKind.off]
  · blk_ext [h2, Pipeline.WinKind.off]

theorem out_at : (win0_3.rect t).emb (ix2 r q) = (ix2 i j : S8192x2048.Idx) ∧ (win0_4.rect t).emb (ix2 r q) = (ix2 i j : S8192x2048.Idx)
    ∧ (win0_5.rect t).emb (ix2 r q) = (ix2 i j : S8192x2048.Idx) := by
  obtain ⟨i, _⟩ := i; obtain ⟨j, _⟩ := j; subst hi; subst hj
  obtain ⟨h3, h4, h5⟩ := index_out t
  refine ⟨?_, ?_, ?_⟩
  · blk_ext [h3, Pipeline.WinKind.off]
  · blk_ext [h4, Pipeline.WinKind.off]
  · blk_ext [h5, Pipeline.WinKind.off]

end place

variable (i : Fin 8192) (j : Fin 2048)

/-- Each place is written by one point. -/
theorem written_by : ∃ (t : Fin cfg0.N) (r : Fin 2048) (q : Fin 128), 2048 * (t.val / 16) + r.val = i.val ∧ 128 * (t.val % 16) + q.val = j.val :=
  have hN : cfg0.N = 64 := N_0
  point_of 16 i j (by omega) (by omega) (by omega) (by omega)

/- The arrays that the call returns, place by place. -/

theorem d_out_at : ((dats m 0 c).arrAt 3 cfg0.N (ix2 i j : S8192x2048.Idx) : EReal) = d_out (arg0 m c (ix2 i j)) (arg2 m c (ix2 i ⟨6144 + j.val, by omega⟩)) := by
  obtain ⟨t, r, q, hi, hj⟩ := written_by i j
  have h := congrFun (blocks3 m c t (flush0_3 t)) (ix2 r q)
  rw [flushed3] at h
  obtain ⟨e0, _, e2⟩ := given_at m c t r q i j hi hj
  rw [← e0, ← e2, ← (out_at t r q i j hi hj).1]
  exact h.trans (out3_apply (dblk m c t) (oblk m c t) (zblk m c t) r q)

theorem d_gate_at : ((dats m 0 c).arrAt 4 cfg0.N (ix2 i j : S8192x2048.Idx) : EReal)
    = d_gate (arg0 m c (ix2 i j)) (arg1 m c (ix2 i j)) (arg2 m c (ix2 i ⟨6144 + j.val, by omega⟩)) := by
  obtain ⟨t, r, q, hi, hj⟩ := written_by i j
  have h := congrFun (blocks4 m c t (flush0_4 t)) (ix2 r q)
  rw [flushed4] at h
  obtain ⟨e0, e1, e2⟩ := given_at m c t r q i j hi hj
  rw [← e0, ← e1, ← e2, ← (out_at t r q i j hi hj).2.1]
  exact h.trans (out4_apply (dblk m c t) (oblk m c t) (zblk m c t) r q)

theorem rows_at : ((dats m 0 c).arrAt 5 cfg0.N (ix2 i j : S8192x2048.Idx) : EReal)
    = ∑ k : Fin 128, row_term (arg0 m c (ix2 i ⟨j.val / 128 * 128 + k.val, by omega⟩)) (arg1 m c (ix2 i ⟨j.val / 128 * 128 + k.val, by omega⟩))
      (arg2 m c (ix2 i ⟨6144 + (j.val / 128 * 128 + k.val), by omega⟩)) := by
  obtain ⟨t, r, q, hi, hj⟩ := written_by i j
  have h := congrFun (blocks5 m c t (flush0_5 t)) (ix2 r q)
  rw [flushed5] at h
  rw [← (out_at t r q i j hi hj).2.2]
  refine h.trans ((out5_apply (dblk m c t) (oblk m c t) (zblk m c t) r q).trans (Finset.sum_congr rfl fun k _ => ?_))
  obtain ⟨e0, e1, e2⟩ := given_at m c t r k i ⟨j.val / 128 * 128 + k.val, by omega⟩ hi (by show _ = j.val / 128 * 128 + k.val; omega)
  rw [e0, e1, e2]

end Cert.Kernel10Ideal.Hand

namespace Cert.Reference10Ideal.Hand

open Cert.Reference10Ideal Cert.Reference10Ideal.Gen Cert.Gate
open Idealize.ShloMosaic

variable (d o : FVec Ideal S8192x2048 .f32) (z : FVec Ideal S8192x8192 .f32) (i : Fin 8192) (j : Fin 2048)

/-- The reference's gate, as an array. -/
abbrev gates : FVec Ideal S8192x2048 .f32 := Host.divf (broadcastInDim S8192x2048 ![] bcast_S_S8192x2048 (constant S_ .f32 0x3F800000#32))
  (addf (broadcastInDim S8192x2048 ![] bcast_S_S8192x2048 (constant S_ .f32 0x3F800000#32)) (Host.exp (Host.negf (extractStridedSlice S8192x2048 ![0, 6144] z slices_S8192x8192_S8192x2048_0_6144))))

/- The reference's results, place by place. -/

theorem d_out_at : (truncf .bf16 (mulf d (gates z)) bitsLt_bf16_f32 (ix2 i j) : EReal) = d_out (d (ix2 i j)) (z (ix2 i ⟨6144 + j.val, by omega⟩)) := by
  unfold d_out gate; pointwise

theorem d_gate_at : (truncf .bf16 (mulf (mulf o d) (mulf (gates z) (subf (broadcastInDim S8192x2048 ![] bcast_S_S8192x2048 (constant S_ .f32 0x3F800000#32)) (gates z)))) bitsLt_bf16_f32 (ix2 i j) : EReal)
    = d_gate (d (ix2 i j)) (o (ix2 i j)) (z (ix2 i ⟨6144 + j.val, by omega⟩)) := by
  unfold d_gate gate; pointwise
  rw [mul_comm (o _)]

theorem rows_at : ((shapeCast S8192x2048 (broadcastInDim S8192x16x128 ![0, 1, 2] bcast_S8192x16x1_S8192x16x128_0_1_2 (broadcastInDim S8192x16x1 ![0, 1] bcast_S8192x16_S8192x16x1_0_1
      (Host.reduceAdd (shapeCast S8192x16x128 (mulf (mulf d (gates z)) o) shapeCasts_S8192x2048_S8192x16x128) (constant S_ .f32 0x00000000#32) reducesTo_S8192x16x128_S8192x16_d2 h_S_)))
      shapeCasts_S8192x16x128_S8192x2048 : FVec Ideal S8192x2048 .f32) (ix2 i j) : EReal)
    = ∑ k : Fin 128, row_term (d (ix2 i ⟨j.val / 128 * 128 + k.val, by omega⟩)) (o (ix2 i ⟨j.val / 128 * 128 + k.val, by omega⟩)) (z (ix2 i ⟨6144 + (j.val / 128 * 128 + k.val), by omega⟩)) := by
  unfold row_term d_out gate; pointwise

end Cert.Reference10Ideal.Hand

end
-- ==== Proof.Down.lean ====
module

public import proofs.«01_k».proof.Proof.Product
public import proofs.«01_k».proof.Proof.Gen.Kernel11Ideal.Value
public import proofs.«01_k».proof.Proof.Gen.Reference11Ideal.Run
public import Idealize.ShloMosaic.Lib.Pipeline.ValueKit.Geometry

/-!
# The down product

The kernel takes the summed axis in two halves: one point starts the sum of a block of the result, the next ends it.
-/

@[expose] public section

noncomputable section

namespace Cert.Kernel11Ideal.Hand

open Cert.Kernel11Ideal Cert.Kernel11Ideal.Gen Cert.Kernel11Ideal.Value Cert.Product
open Idealize.ShloMosaic Idealize.ShloMosaic.TcCoe Idealize.SL.Sem

section steps
variable {F : FTy → Type} [FloatOps F]
variable (c : Dev nD) (i : grid0.Coords) (a3 : Memref sig .tc .vmem S1024x2816 .bf16) (h3 : a3.IsWhole) (a4 : Memref sig .tc .vmem S2816x1024 .bf16) (h4 : a4.IsWhole)
  (a5 : Memref sig .tc .vmem S1024x1024 .f32) (h5 : a5.IsWhole) (a6 : Memref sig .tc .vmem S1024x1024 .f32) (h6 : a6.IsWhole) (x : Vec F S1024x2816 .bf16) (y : Vec F S2816x1024 .bf16) (s : Vec F S1024x1024 .f32)

/-- The first half starts the sum. -/
theorem start (g0 g1 g2) : sout0_A_0 c i a3 h3 a4 h4 a5 h5 a6 h6 g0 g1 g2 x y = k0_pay2 x y := by
  unfold sout0_A_0
  rw [View.read_writes_eq_canon _ _ _ (scover0_A_0 c i a3 h3 a4 h4 a5 h5 a6 h6 g0 g1 g2 x y)]
  unfold kernelRun0_A
  dsimp only
  rw [View.canon_unit_zero origin]
  simp only [View.readAt_eq_ld, h3.read_unread, h4.read_unread, View.ld_unit_zero (S := S1024x2816) origin, View.ld_unit_zero (S := S2816x1024) origin]

/-- The second half ends it, in the buffer that is kept and in the result. -/
theorem finish_sum (g0 g1 g2) : sout0_B_0 c i a3 h3 a4 h4 a5 h5 a6 h6 g0 g1 g2 x y s = k0_pay3 x y s := by
  unfold sout0_B_0
  rw [View.read_writes_eq_canon _ _ _ (scover0_B_0 c i a3 h3 a4 h4 a5 h5 a6 h6 g0 g1 g2 x y s)]
  unfold kernelRun0_B
  dsimp only
  sl_unfold_words
  rw [View.canon_unit_zero origin]
  simp only [View.readAt_eq_ld, h3.read_unread, h4.read_unread, h6.read_unread, View.ld_unit_zero (S := S1024x2816) origin, View.ld_unit_zero (S := S2816x1024) origin, View.ld_unit_zero (S := S1024x1024) origin]

theorem finish (g0 g1 g2) : out0_B_2 c i a3 h3 a4 h4 a5 h5 a6 h6 g0 g1 g2 x y s = k0_pay3 x y s := by
  unfold out0_B_2
  rw [View.read_writes_eq_canon _ _ _ (cover0_B_2 c i a3 h3 a4 h4 a5 h5 a6 h6 g0 g1 g2 x y s)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S1024x2816) origin, View.ld_unit_zero (S := S2816x1024) origin, View.ld_unit_zero (S := S1024x1024) origin]

end steps

/-- What a half adds at one place. -/
theorem pay2_apply (x : FVec Ideal S1024x2816 .bf16) (y : FVec Ideal S2816x1024 .bf16) (r q : Fin 1024) :
    (k0_pay2 (F := Ideal) x y (ix2 r q) : EReal) = ∑ k : Fin 2816, (x (ix2 r k) : EReal) * y (ix2 k q) := by
  unfold k0_pay2 k0_pay1; pointwise
theorem pay3_apply (x : FVec Ideal S1024x2816 .bf16) (y : FVec Ideal S2816x1024 .bf16) (s : FVec Ideal S1024x1024 .f32) (r q : Fin 1024) :
    (k0_pay3 (F := Ideal) x y s (ix2 r q) : EReal) = s (ix2 r q) + ∑ k : Fin 2816, (x (ix2 r k) : EReal) * y (ix2 k q) := by
  unfold k0_pay3 k0_pay1; pointwise

variable (m : (ℓ : Loc nD τ sig) → Buf (Elt Ideal) ℓ) (c : Dev nD)

/-- The two blocks that point `t` is given. -/
def left (t : Fin cfg0.N) : FVec Ideal S1024x2816 .bf16 := iblk m c 0 t
def right (t : Fin cfg0.N) : FVec Ideal S2816x1024 .bf16 := iblk m c 1 t
/-- The two arrays that the call is given. -/
def arg0 : FVec Ideal S8192x5632 .bf16 := m ((c.tc : Thread nD τ).loc main_arg0)
def arg1 : FVec Ideal S5632x2048 .bf16 := m ((c.tc : Thread nD τ).loc main_arg1)

/-- The factors that point `t` multiplies for one place of the block it works on. -/
def x (t : Fin cfg0.N) (k : Fin 2816) (i : S1024x1024.Idx) : EReal := left m c t (ix2 (i 0) k)
def y (t : Fin cfg0.N) (k : Fin 2816) (i : S1024x1024.Idx) : EReal := right m c t (ix2 k (i 1))

theorem sum_start (t : Fin cfg0.N) (h : t.val % 2 = 0) (i : S1024x1024.Idx) : ((outsAt0 m c t.val t.isLt).2 i : EReal) = ∑ k, x m c t k i * y m c t k i := by
  rw [outsAt0_A m c t h (by omega) (by omega)]
  dsimp only
  rw [start, eq_ix2 i]
  exact pay2_apply (left m c t) (right m c t) _ _

theorem sum_step (t : Fin cfg0.N) (h : ¬t.val % 2 = 0) (i : S1024x1024.Idx) :
    ((outsAt0 m c t.val t.isLt).2 i : EReal) = (outsAt0 m c (t.val - 1) (Nat.lt_of_le_of_lt (Nat.sub_le _ _) t.isLt)).2 i + ∑ k, x m c t k i * y m c t k i := by
  rw [outsAt0_B m c t h (by omega) (by omega)]
  dsimp only
  rw [finish_sum, eq_ix2 i]
  exact pay3_apply (left m c t) (right m c t) _ _ _

theorem out_eq_sum (t : Fin cfg0.N) (h : t.val % 2 = 1) : (outsAt0 m c t.val t.isLt).1 = (outsAt0 m c t.val t.isLt).2 := by
  rw [outsAt0_B m c t (by omega) h h]
  dsimp only
  rw [finish, finish_sum]

/-- Which blocks a point is given. -/
theorem index_in : ∀ t : Fin cfg0.N, win0_0.index t = ![t.val / 4, t.val % 2] ∧ win0_1.index t = ![t.val % 2, t.val / 2 % 2] :=
  (by decide +kernel : ∀ t : Fin grid0.N, _)

theorem left_at (t : Fin cfg0.N) (r : Fin 1024) (k : Fin 2816) (a : Fin 8192) (b : Fin 5632) (ha : 1024 * (t.val / 4) + r.val = a.val)
    (hb : 2816 * (t.val % 2) + k.val = b.val) : left m c t (ix2 r k) = arg0 m c (ix2 a b) := by
  obtain ⟨a, _⟩ := a; obtain ⟨b, _⟩ := b; subst ha; subst hb
  refine congrArg (V m c main_arg0) (?_ : (win0_0.rect t).emb (ix2 r k) = _)
  have h := (index_in t).1
  blk_ext [h, Pipeline.WinKind.off]

theorem right_at (t : Fin cfg0.N) (k : Fin 2816) (q : Fin 1024) (a : Fin 5632) (b : Fin 2048) (ha : 2816 * (t.val % 2) + k.val = a.val)
    (hb : 1024 * (t.val / 2 % 2) + q.val = b.val) : right m c t (ix2 k q) = arg1 m c (ix2 a b) := by
  obtain ⟨a, _⟩ := a; obtain ⟨b, _⟩ := b; subst ha; subst hb
  refine congrArg (V m c main_arg1) (?_ : (win0_1.rect t).emb (ix2 k q) = _)
  have h := (index_in t).2
  blk_ext [h, Pipeline.WinKind.off]

/-- The array that the call returns, place by place. -/
theorem result_at (i : Fin 8192) (j : Fin 2048) :
    (G2 m c (ix2 i j : S8192x2048.Idx) : EReal) = ∑ l : Fin 5632, (arg0 m c (ix2 i l) : EReal) * arg1 m c (ix2 l j) := by
  have hN : cfg0.N = 32 := N_0
  obtain ⟨b, hb⟩ : ∃ b, b = 2 * (i.val / 1024) + j.val / 1024 := ⟨_, rfl⟩
  have hp : pt2Of (ix2 i j : S8192x2048.Idx) = 2 * b + 1 := by
    show 2 * (2 * (i.val / 1024 - 0) + 1 * (j.val / 1024 - 0)) + 1 = _
    omega
  have hlt : 2 * b + 1 < cfg0.N := by omega
  have hl : loc2Of (ix2 i j : S8192x2048.Idx) = (ix2 ⟨i.val % 1024, by omega⟩ ⟨j.val % 1024, by omega⟩ : S1024x1024.Idx) := by
    funext a; fin_cases a <;> rfl
  unfold G2
  rw [dif_pos (hp ▸ hlt), hl, fold0_congr m c _ _ (2 * b + 1) (by omega) hp, ← outsAt0_sweep m c _ hlt, out_eq_sum m c ⟨_, hlt⟩ (by show (2 * b + 1) % 2 = 1; omega)]
  exact kept_sum 2 1 2816 5632 rfl rfl (S := S1024x1024) (fun n h => (outsAt0 m c n h).2) (x m c) (y m c) (sum_start m c) (sum_step m c) b hlt _
    (fun l => arg0 m c (ix2 i l)) (fun l => arg1 m c (ix2 l j))
    (fun s k t l ht hl => left_at m c t _ k _ l (by show 1024 * (t.val / 4) + i.val % 1024 = _; omega) (by omega))
    (fun s k t l ht hl => right_at m c t k _ l _ (by omega) (by show 1024 * (t.val / 2 % 2) + j.val % 1024 = _; omega))

end Cert.Kernel11Ideal.Hand

namespace Cert.Reference11Ideal.Hand

open Cert.Reference11Ideal Cert.Reference11Ideal.Gen
open Idealize.ShloMosaic

/-- The reference's result, place by place. -/
theorem result_at (x : FVec Ideal S8192x5632 .bf16) (y : FVec Ideal S5632x2048 .bf16) (i : Fin 8192) (j : Fin 2048) :
    ((Host.dotGeneral dot_S8192x5632_S5632x2048_S8192x2048_1_0_0_1_n_n none (extf .f32 x bitsLt_bf16_f32) (extf .f32 y bitsLt_bf16_f32)
      : FVec Ideal S8192x2048 .f32) (ix2 i j) : EReal) = ∑ l : Fin 5632, (x (ix2 i l) : EReal) * y (ix2 l j) := by
  pointwise

end Cert.Reference11Ideal.Hand

end
-- ==== Proof.Products.lean ====
module

public import proofs.«01_k».proof.Defs
public import proofs.«01_k».proof.Proof.DwUp
public import proofs.«01_k».proof.Proof.DwGdn
public import proofs.«01_k».proof.Proof.DwDown
public import proofs.«01_k».proof.Proof.DwFox
public import proofs.«01_k».proof.Proof.DxDown
public import proofs.«01_k».proof.Proof.Up
public import proofs.«01_k».proof.Proof.ProjGdn
public import proofs.«01_k».proof.Proof.ProjFox
public import proofs.«01_k».proof.Proof.Gate
public import proofs.«01_k».proof.Proof.Down
public import Idealize.ShloMosaic.Lib.Quiescent
public import Idealize.ShloMosaic.Adequacy

/-!
# The products and the gate against their references

From equal arguments each kernel and its reference end with equal results, for all arguments.
-/

@[expose] public section

noncomputable section

namespace Cert.Proof

open Idealize.ShloMosaic Idealize.SL.Sem

section runs
variable {nD : Nat} {τ : Topo} {sig : RefSig} {Val : EltTy → Type} {Λ : Labels}
variable {defs : Defs nD τ sig Val Λ} {p : (c : Thread nD τ) → Prog (TpuEff nD τ sig Val Λ c.2) PUnit} {s : MemSt nD τ sig Val}
variable {D : Type} {B : D → PUnit × MemSt nD τ sig Val → Prop}

/-- The run of a program without semaphores leaves at rest every counter, beside the part `B` of what it leaves. -/
theorem at_rest {A : D → PUnit × MemSt nD τ sig Val → Prop} (no : sig.nSem + sig.nDmaSem = 0) (h : θ_run defs p s fun r => ∀ c, A c r ∧ B c r) :
    θ_run defs p s fun r => (∀ c, B c r) ∧ r.2.sem = fun _ => 0 :=
  (θ_run defs p s).mono (fun r h => ⟨fun c => (h c).2, sem_eq_zero_of_no_sems no r.2⟩) h

/-- A run's first result under another description of its value. -/
theorem described {T : D → Type} {x : (c : D) → PUnit × MemSt nD τ sig Val → T c} {v w : (c : D) → T c} (e : ∀ c, v c = w c)
    (h : θ_run defs p s fun r => ∀ c, x c r = v c ∧ B c r) : θ_run defs p s fun r => ∀ c, x c r = w c ∧ B c r :=
  (θ_run defs p s).mono (fun _ h c => ⟨(h c).1.trans (e c), (h c).2⟩) h

end runs

/-- Two matrices agree when they agree at each place. -/
theorem same_matrix {a b : Nat} {T : Type} {x y : (⟨2, ![a, b]⟩ : Shape).Idx → T} (h : ∀ i j, x (ix2 i j) = y (ix2 i j)) : x = y :=
  funext fun p => by rw [eq_ix2 p]; exact h _ _

/-- The up product's weights. -/
theorem equal_2 : Cert.algebraic_Kernel2Ideal_Reference2Ideal (hKernel2Ideal := Cert.Kernel2Ideal.Gen.facts)
    (hReference2Ideal := Cert.Reference2Ideal.Gen.facts) := fun m g m' g' _ he =>
  ⟨_, Cert.Kernel2Ideal.Value.run m g, described (fun c => by
    rw [(he c).1, (he c).2]
    exact same_matrix fun i j => (Cert.Reference2Ideal.Hand.result_at _ _ i j).trans (Cert.Kernel2Ideal.Hand.result_at m c i j).symm)
    (Cert.Reference2Ideal.Value.run (F := Ideal) m' g')⟩

/-- The weights before the delta rule. -/
theorem equal_3 : Cert.algebraic_Kernel3Ideal_Reference3Ideal (hKernel3Ideal := Cert.Kernel3Ideal.Gen.facts)
    (hReference3Ideal := Cert.Reference3Ideal.Gen.facts) := fun m g m' g' _ he =>
  ⟨_, Cert.Kernel3Ideal.Value.run m g, described (fun c => by
    rw [(he c).1, (he c).2]
    exact same_matrix fun i j => (Cert.Reference3Ideal.Hand.result_at _ _ i j).trans (Cert.Kernel3Ideal.Hand.result_at m c i j).symm)
    (Cert.Reference3Ideal.Value.run (F := Ideal) m' g')⟩

/-- The down product's weights. -/
theorem equal_4 : Cert.algebraic_Kernel4Ideal_Reference4Ideal (hKernel4Ideal := Cert.Kernel4Ideal.Gen.facts)
    (hReference4Ideal := Cert.Reference4Ideal.Gen.facts) := fun m g m' g' _ he =>
  ⟨_, Cert.Kernel4Ideal.Value.run m g, described (fun c => by
    rw [(he c).1, (he c).2]
    exact same_matrix fun i j => (Cert.Reference4Ideal.Hand.result_at _ _ i j).trans (Cert.Kernel4Ideal.Hand.result_at m c i j).symm)
    (Cert.Reference4Ideal.Value.run (F := Ideal) m' g')⟩

/-- The down product's activations. -/
theorem equal_5 : Cert.algebraic_Kernel5Ideal_Reference5Ideal (hKernel5Ideal := Cert.Kernel5Ideal.Gen.facts)
    (hReference5Ideal := Cert.Reference5Ideal.Gen.facts) := fun m g m' g' _ he =>
  ⟨_, Cert.Kernel5Ideal.Value.run_blocks m g, described (fun c => by
    rw [(he c).1, (he c).2]
    exact same_matrix fun i j => (Cert.Reference5Ideal.Hand.result_at _ _ i j).trans (Cert.Kernel5Ideal.Hand.result_at m c i j).symm)
    (Cert.Reference5Ideal.Value.run (F := Ideal) m' g')⟩

/-- The weights before the attention. -/
theorem equal_6 : Cert.algebraic_Kernel6Ideal_Reference6Ideal (hKernel6Ideal := Cert.Kernel6Ideal.Gen.facts)
    (hReference6Ideal := Cert.Reference6Ideal.Gen.facts) := fun m g m' g' _ he =>
  ⟨_, Cert.Kernel6Ideal.Value.run m g, described (fun c => by
    rw [(he c).1, (he c).2]
    exact same_matrix fun i j => (Cert.Reference6Ideal.Hand.result_at _ _ i j).trans (Cert.Kernel6Ideal.Hand.result_at m c i j).symm)
    (Cert.Reference6Ideal.Value.run (F := Ideal) m' g')⟩

/-- The up product. -/
theorem equal_7 : Cert.algebraic_Kernel7Ideal_Reference7Ideal (hKernel7Ideal := Cert.Kernel7Ideal.Gen.facts)
    (hReference7Ideal := Cert.Reference7Ideal.Gen.facts) := fun m g m' g' _ he =>
  ⟨_, Cert.Kernel7Ideal.Value.run_blocks m g, described (fun c => by
    rw [(he c).1, (he c).2]
    exact same_matrix fun i j => (Cert.Reference7Ideal.Hand.result_at _ _ i j).trans (Cert.Kernel7Ideal.Hand.result_at m c i j).symm)
    (Cert.Reference7Ideal.Value.run (F := Ideal) m' g')⟩

/-- The product before the delta rule. -/
theorem equal_8 : Cert.algebraic_Kernel8Ideal_Reference8Ideal (hKernel8Ideal := Cert.Kernel8Ideal.Gen.facts)
    (hReference8Ideal := Cert.Reference8Ideal.Gen.facts) := fun m g m' g' _ he =>
  ⟨_, Cert.Kernel8Ideal.Value.run_blocks m g, described (fun c => by
    rw [(he c).1, (he c).2]
    exact same_matrix fun i j => (Cert.Reference8Ideal.Hand.result_at _ _ i j).trans (Cert.Kernel8Ideal.Hand.result_at m c i j).symm)
    (Cert.Reference8Ideal.Value.run (F := Ideal) m' g')⟩

/-- The product before the attention. -/
theorem equal_9 : Cert.algebraic_Kernel9Ideal_Reference9Ideal (hKernel9Ideal := Cert.Kernel9Ideal.Gen.facts)
    (hReference9Ideal := Cert.Reference9Ideal.Gen.facts) := fun m g m' g' _ he =>
  ⟨_, Cert.Kernel9Ideal.Value.run_blocks m g, described (fun c => by
    rw [(he c).1, (he c).2]
    exact same_matrix fun i j => (Cert.Reference9Ideal.Hand.result_at _ _ i j).trans (Cert.Kernel9Ideal.Hand.result_at m c i j).symm)
    (Cert.Reference9Ideal.Value.run (F := Ideal) m' g')⟩

/-- The down product. -/
theorem equal_11 : Cert.algebraic_Kernel11Ideal_Reference11Ideal (hKernel11Ideal := Cert.Kernel11Ideal.Gen.facts)
    (hReference11Ideal := Cert.Reference11Ideal.Gen.facts) := fun m g m' g' _ he =>
  ⟨_, Cert.Kernel11Ideal.Value.run m g, described (fun c => by
    rw [(he c).1, (he c).2]
    exact same_matrix fun i j => (Cert.Reference11Ideal.Hand.result_at _ _ i j).trans (Cert.Kernel11Ideal.Hand.result_at m c i j).symm)
    (Cert.Reference11Ideal.Value.run (F := Ideal) m' g')⟩

/-- The gradients of the attention's output gate. -/
theorem equal_10 : Cert.algebraic_Kernel10Ideal_Reference10Ideal (hKernel10Ideal := Cert.Kernel10Ideal.Gen.facts)
    (hReference10Ideal := Cert.Reference10Ideal.Gen.facts) := fun m g m' g' _ he => by
  refine ⟨_, _, _, Cert.Kernel10Ideal.Value.run_blocks m g, (θ_run Cert.Reference10Ideal.defs _ _).mono (fun r h c => ?_) (Cert.Reference10Ideal.Value.run (F := Ideal) m' g')⟩
  obtain ⟨h0, h1, h2, h3⟩ := h c
  refine ⟨h0.trans ?_, h1.trans ?_, h2.trans ?_, h3⟩
  · rw [(he c).1, (he c).2.2]
    exact same_matrix fun i j => (Cert.Reference10Ideal.Hand.d_out_at _ _ i j).trans (Cert.Kernel10Ideal.Hand.d_out_at m c i j).symm
  · rw [(he c).1, (he c).2.1, (he c).2.2]
    exact same_matrix fun i j => (Cert.Reference10Ideal.Hand.d_gate_at _ _ _ i j).trans (Cert.Kernel10Ideal.Hand.d_gate_at m c i j).symm
  · rw [(he c).1, (he c).2.1, (he c).2.2]
    exact same_matrix fun i j => (Cert.Reference10Ideal.Hand.rows_at _ _ _ i j).trans (Cert.Kernel10Ideal.Hand.rows_at m c i j).symm

/-- The gate's reference leaves its arguments and its counters. -/
theorem frame_reference_10 : Cert.quiescent_Reference10Ideal (hReference10Ideal := Cert.Reference10Ideal.Gen.facts) := fun m g _ =>
  at_rest (by decide) ((θ_run Cert.Reference10Ideal.defs _ _).mono (fun _ h c => ⟨trivial, (h c).2.2.2⟩) (Cert.Reference10Ideal.Value.run (F := Ideal) m g))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Run
public import proofs.«01_k».proof.Proof.Pre
public import proofs.«01_k».proof.Proof.Value
public import proofs.«01_k».proof.Proof.Products
public import proofs.«01_k».proof.Proof.Machine.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel's run on bits. -/
theorem frame_kernel : Cert.quiescent_Kernel (hKernel := Cert.Kernel.Gen.facts) := fun m g _ =>
  Cert.Kernel.Hand.frame_run (F := Bits) m g

/-- The idealized kernel's run. -/
theorem frame_ideal : Cert.quiescent_KernelIdeal (hKernelIdeal := Cert.KernelIdeal.Gen.facts) := fun m g _ =>
  Cert.KernelIdeal.Hand.frame_run (F := Ideal) m g

/-- The reference's run, which has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem frame_ideal_finite : Cert.quiescent_KernelIdeal_pre_finite (hKernelIdeal := Cert.KernelIdeal.Gen.facts) (hPre_finite := Cert.Pre_finite.Gen.facts) := fun m g _ =>
  frame_ideal m g trivial

theorem frame_reference_finite : Cert.quiescent_ReferenceIdeal_pre_finite (hReferenceIdeal := Cert.ReferenceIdeal.Gen.facts) (hPre_finite := Cert.Pre_finite.Gen.facts) := fun m g _ =>
  frame_reference m g trivial

set_option maxHeartbeats 4000000 in
/-- From equal finite arguments the two programs end with equal results. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hp he => by
  have H : ∀ c, Cert.KernelIdeal.Hand.AllFinite m c := fun c => by
    obtain ⟨h0, h1, h2, h4, h3⟩ := Cert.Pre_finite.Hand.finite (hp c)
    exact ⟨h0, h1, h2, h4, h3⟩
  refine ⟨fun c => Cert.ReferenceIdeal.Value.res_main_v90 m' c, fun c => Cert.ReferenceIdeal.Value.res_main_v95 m' c,
    fun c => Cert.ReferenceIdeal.Value.res_main_v88 m' c, fun c => Cert.ReferenceIdeal.Value.res_main_v96 m' c,
    fun c => Cert.ReferenceIdeal.Value.res_main_v97 m' c, ?_, Cert.ReferenceIdeal.Value.run (F := Ideal) m' g'⟩
  refine (θ_run Cert.KernelIdeal.defs _ _).mono (fun r h c => ?_) (Cert.KernelIdeal.Hand.run_main (F := Ideal) m g)
  have arg := fun b hb => Cert.KernelIdeal.Hand.unchanged m c (b := b) hb r h.1
  exact ⟨((h.1 c).1 (8 : Fin 13)).trans (Cert.Attn.same_dq (H c) (he c)), ((h.1 c).1 (9 : Fin 13)).trans (Cert.Attn.same_dfq (H c) (he c)),
    ((h.1 c).1 (10 : Fin 13)).trans (Cert.Attn.same_dk (H c) (he c)), ((h.1 c).1 (11 : Fin 13)).trans (Cert.Attn.same_dv (H c) (he c)),
    ((h.1 c).1 (12 : Fin 13)).trans (Cert.Attn.same_dfk (H c) (he c)),
    arg _ (.inl rfl), arg _ (.inr (.inl rfl)), arg _ (.inr (.inr (.inl rfl))), arg _ (.inr (.inr (.inr (.inl rfl)))), arg _ (.inr (.inr (.inr (.inr rfl))))⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, frame_kernel, frame_ideal, frame_ideal_finite, frame_reference, frame_reference_finite,
  fun m g _ => Cert.Kernel2.Gen.frame m g, fun m g _ => Cert.Kernel2Ideal.Gen.frame m g, fun m g _ => at_rest (by decide) (Cert.Reference2Ideal.Value.run m g),
  fun m g _ => Cert.Kernel3.Gen.frame m g, fun m g _ => Cert.Kernel3Ideal.Gen.frame m g, fun m g _ => at_rest (by decide) (Cert.Reference3Ideal.Value.run m g),
  fun m g _ => Cert.Kernel4.Gen.frame m g, fun m g _ => Cert.Kernel4Ideal.Gen.frame m g, fun m g _ => at_rest (by decide) (Cert.Reference4Ideal.Value.run m g),
  fun m g _ => Cert.Kernel5.Gen.frame m g, fun m g _ => Cert.Kernel5Ideal.Gen.frame m g, fun m g _ => at_rest (by decide) (Cert.Reference5Ideal.Value.run m g),
  fun m g _ => Cert.Kernel6.Gen.frame m g, fun m g _ => Cert.Kernel6Ideal.Gen.frame m g, fun m g _ => at_rest (by decide) (Cert.Reference6Ideal.Value.run m g),
  fun m g _ => Cert.Kernel7.Gen.frame m g, fun m g _ => Cert.Kernel7Ideal.Gen.frame m g, fun m g _ => at_rest (by decide) (Cert.Reference7Ideal.Value.run m g),
  fun m g _ => Cert.Kernel8.Gen.frame m g, fun m g _ => Cert.Kernel8Ideal.Gen.frame m g, fun m g _ => at_rest (by decide) (Cert.Reference8Ideal.Value.run m g),
  fun m g _ => Cert.Kernel9.Gen.frame m g, fun m g _ => Cert.Kernel9Ideal.Gen.frame m g, fun m g _ => at_rest (by decide) (Cert.Reference9Ideal.Value.run m g),
  fun m g _ => Cert.Kernel10.Gen.frame m g, fun m g _ => Cert.Kernel10Ideal.Gen.frame m g, frame_reference_10,
  fun m g _ => Cert.Kernel11.Gen.frame m g, fun m g _ => Cert.Kernel11Ideal.Gen.frame m g, fun m g _ => at_rest (by decide) (Cert.Reference11Ideal.Value.run m g),
  trivial, equal_results, trivial, equal_2, trivial, equal_3, trivial, equal_4, trivial, equal_5, trivial, equal_6, trivial, equal_7, trivial, equal_8, trivial, equal_9,
  trivial, equal_10, trivial, equal_11⟩

end Cert.Proof

end
